-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite4 [hPre_finite4 : Cert.Pre_finite4.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite4.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite4 [hPre_finite4 : Cert.Pre_finite4.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite4.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite4 [hPre_finite4 : Cert.Pre_finite4.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite4.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite4 [hPre_finite4 : Cert.Pre_finite4.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite4.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite4 [hPre_finite4 : Cert.Pre_finite4.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite4.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite4 [hPre_finite4 : Cert.Pre_finite4.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite4.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite4 [hKernel11Ideal : Cert.Kernel11Ideal.Facts] [hPre_finite4 : Cert.Pre_finite4.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite4 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite4 [hReference11Ideal : Cert.Reference11Ideal.Facts] [hPre_finite4 : Cert.Pre_finite4.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite4 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite4 [hKernel12Ideal : Cert.Kernel12Ideal.Facts] [hPre_finite4 : Cert.Pre_finite4.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite4 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite4 [hReference12Ideal : Cert.Reference12Ideal.Facts] [hPre_finite4 : Cert.Pre_finite4.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite4 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite4 [hKernel13Ideal : Cert.Kernel13Ideal.Facts] [hPre_finite4 : Cert.Pre_finite4.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite4 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite4 [hReference13Ideal : Cert.Reference13Ideal.Facts] [hPre_finite4 : Cert.Pre_finite4.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite4 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite4 [hKernel11Ideal : Cert.Kernel11Ideal.Facts] [hReference11Ideal : Cert.Reference11Ideal.Facts] [hPre_finite4 : Cert.Pre_finite4.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite4 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite4 [hKernel12Ideal : Cert.Kernel12Ideal.Facts] [hReference12Ideal : Cert.Reference12Ideal.Facts] [hPre_finite4 : Cert.Pre_finite4.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite4 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite4 [hKernel13Ideal : Cert.Kernel13Ideal.Facts] [hReference13Ideal : Cert.Reference13Ideal.Facts] [hPre_finite4 : Cert.Pre_finite4.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite4 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite4 (hKernel11Ideal := hKernel11Ideal) (hPre_finite4 := hPre_finite4)
    ∧ quiescent_Reference11Ideal (hReference11Ideal := hReference11Ideal)
    ∧ quiescent_Reference11Ideal_pre_finite4 (hReference11Ideal := hReference11Ideal) (hPre_finite4 := hPre_finite4)
    ∧ quiescent_Kernel12 (hKernel12 := hKernel12)
    ∧ quiescent_Kernel12Ideal (hKernel12Ideal := hKernel12Ideal)
    ∧ quiescent_Kernel12Ideal_pre_finite4 (hKernel12Ideal := hKernel12Ideal) (hPre_finite4 := hPre_finite4)
    ∧ quiescent_Reference12Ideal (hReference12Ideal := hReference12Ideal)
    ∧ quiescent_Reference12Ideal_pre_finite4 (hReference12Ideal := hReference12Ideal) (hPre_finite4 := hPre_finite4)
    ∧ quiescent_Kernel13 (hKernel13 := hKernel13)
    ∧ quiescent_Kernel13Ideal (hKernel13Ideal := hKernel13Ideal)
    ∧ quiescent_Kernel13Ideal_pre_finite4 (hKernel13Ideal := hKernel13Ideal) (hPre_finite4 := hPre_finite4)
    ∧ quiescent_Reference13Ideal (hReference13Ideal := hReference13Ideal)
    ∧ quiescent_Reference13Ideal_pre_finite4 (hReference13Ideal := hReference13Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite4 (hKernel11Ideal := hKernel11Ideal) (hReference11Ideal := hReference11Ideal) (hPre_finite4 := hPre_finite4)
    ∧ preserves_Kernel12_Kernel12Ideal
    ∧ algebraic_Kernel12Ideal_Reference12Ideal_pre_finite4 (hKernel12Ideal := hKernel12Ideal) (hReference12Ideal := hReference12Ideal) (hPre_finite4 := hPre_finite4)
    ∧ preserves_Kernel13_Kernel13Ideal
    ∧ algebraic_Kernel13Ideal_Reference13Ideal_pre_finite4 (hKernel13Ideal := hKernel13Ideal) (hReference13Ideal := hReference13Ideal) (hPre_finite4 := hPre_finite4)
-- ==== Pre_finite.lean ====
abbrev S4x4352x2048 : Shape := ⟨3, ![4, 4352, 2048]⟩
abbrev S4x4352x1024 : Shape := ⟨3, ![4, 4352, 1024]⟩
abbrev S_ : Shape := ⟨0, ![]⟩

class Facts : Prop where
  bitsLt_bf16_f32 : FTy.bits .bf16 < FTy.bits .f32
  bcast_S_S4x4352x2048 : S_.BroadcastsInDim S4x4352x2048 (![] : Fin 0 → Fin S4x4352x2048.rank)

variable [Facts]

def fn {F : FTy → Type} [FloatOps F] (main_arg0 : FVec F S4x4352x2048 .bf16) (main_arg1 : FVec F S4x4352x2048 .bf16) (main_arg2 : FVec F S4x4352x1024 .bf16) : IVec S4x4352x2048 1 × IVec S4x4352x2048 1 :=
  let main_v0 : FVec F S4x4352x2048 .f32 := (extf .f32 · bitsLt_bf16_f32) main_arg0
  let main_v1 : FVec F S4x4352x2048 .f32 := Host.absf main_v0
  let main_cst : FVec F S_ .f32 := constant S_ .f32 0x7F800000#32
  let main_v2 : FVec F S4x4352x2048 .f32 := broadcastInDim S4x4352x2048 ![] bcast_S_S4x4352x2048 main_cst
  let main_v3 : IVec S4x4352x2048 1 := cmpf .olt main_v1 main_v2
  let main_v4 : FVec F S4x4352x2048 .f32 := (extf .f32 · bitsLt_bf16_f32) main_arg1
  let main_v5 : FVec F S4x4352x2048 .f32 := Host.absf main_v4
  let main_cst_0 : FVec F S_ .f32 := constant S_ .f32 0x7F800000#32
  let main_v6 : FVec F S4x4352x2048 .f32 := broadcastInDim S4x4352x2048 ![] bcast_S_S4x4352x2048 main_cst_0
  let main_v7 : IVec S4x4352x2048 1 := cmpf .olt main_v5 main_v6
  (main_v3, main_v7)
-- ==== Pre_finite4.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x3072 : Shape := ⟨3, ![4, 4352, 3072]⟩
abbrev S_ : Shape := ⟨0, ![]⟩

class Facts : Prop where
  slices_S4x4352x14336_S4x4352x3072_0_0_5120 : S4x4352x14336.Slices ![0, 0, 5120] S4x4352x3072
  bitsLt_bf16_f32 : FTy.bits .bf16 < FTy.bits .f32
  bcast_S_S4x4352x3072 : S_.BroadcastsInDim S4x4352x3072 (![] : Fin 0 → Fin S4x4352x3072.rank)

variable [Facts]

def fn {F : FTy → Type} [FloatOps F] (main_arg0 : FVec F S4x4352x1024 .bf16) (main_arg1 : FVec F S4x4352x1024 .bf16) (main_arg2 : FVec F S4x4352x1024 .f32) (main_arg3 : FVec F S4x4352x14336 .bf16) (main_arg4 : FVec F S4x3x1024x2048 .f32) : IVec S4x4352x3072 1 :=
  let main_v0 : FVec F S4x4352x3072 .bf16 := (extractStridedSlice S4x4352x3072 ![0, 0, 5120] · slices_S4x4352x14336_S4x4352x3072_0_0_5120) main_arg3
  let main_v1 : FVec F S4x4352x3072 .f32 := (extf .f32 · bitsLt_bf16_f32) main_v0
  let main_v2 : FVec F S4x4352x3072 .f32 := Host.absf main_v1
  let main_cst : FVec F S_ .f32 := constant S_ .f32 0x7F800000#32
  let main_v3 : FVec F S4x4352x3072 .f32 := broadcastInDim S4x4352x3072 ![] bcast_S_S4x4352x3072 main_cst
  let main_v4 : IVec S4x4352x3072 1 := cmpf .olt main_v2 main_v3
  main_v4
-- ==== Kernel.lean ====
abbrev S4x4352x2048 : Shape := ⟨3, ![4, 4352, 2048]⟩
abbrev S4x4352x1024 : Shape := ⟨3, ![4, 4352, 1024]⟩
abbrev S1x256x1024 : Shape := ⟨3, ![1, 256, 1024]⟩
abbrev S1x4352x1024 : Shape := ⟨3, ![1, 4352, 1024]⟩
abbrev S1x4352x512 : Shape := ⟨3, ![1, 4352, 512]⟩
abbrev S1x256x512 : Shape := ⟨3, ![1, 256, 512]⟩
abbrev S4x4352x256 : Shape := ⟨3, ![4, 4352, 256]⟩
abbrev S1x4352x128 : Shape := ⟨3, ![1, 4352, 128]⟩
abbrev S4352x128 : Shape := ⟨2, ![4352, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S1x512x256 : Shape := ⟨3, ![1, 512, 256]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x1024, .bf16⟩
  | .hbm, ⟨3, _⟩ => ⟨S4x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4352x1024, .bf16⟩
  | .local _ .vmem, ⟨3, _⟩ => ⟨S1x4352x1024, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x512, .bf16⟩
  | .local _ .vmem, ⟨7, _⟩ => ⟨S1x256x512, .bf16⟩
  | .local _ .vmem, ⟨8, _⟩ => ⟨S4x4352x256, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond2 (i : grid0.Coords) : BitVec 1 :=
  let arg2 : BitVec 32 := BitVec.ofNat 32 (i 2).val
  let c1_i32 : BitVec 32 := 1#32
  let v3 : BitVec 1 := Scalar.cmpi .slt arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c1_i32_2 : BitVec 32 := 1#32
  let v6 : BitVec 1 := Scalar.cmpi .sge arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
abbrev S4x4352x2048 : Shape := ⟨3, ![4, 4352, 2048]⟩
abbrev S4x4352x1024 : Shape := ⟨3, ![4, 4352, 1024]⟩
abbrev S1x256x1024 : Shape := ⟨3, ![1, 256, 1024]⟩
abbrev S1x4352x1024 : Shape := ⟨3, ![1, 4352, 1024]⟩
abbrev S1x4352x512 : Shape := ⟨3, ![1, 4352, 512]⟩
abbrev S1x256x512 : Shape := ⟨3, ![1, 256, 512]⟩
abbrev S4x4352x256 : Shape := ⟨3, ![4, 4352, 256]⟩
abbrev S1x4352x128 : Shape := ⟨3, ![1, 4352, 128]⟩
abbrev S4352x128 : Shape := ⟨2, ![4352, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S1x512x256 : Shape := ⟨3, ![1, 512, 256]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x1024, .bf16⟩
  | .hbm, ⟨3, _⟩ => ⟨S4x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4352x1024, .bf16⟩
  | .local _ .vmem, ⟨3, _⟩ => ⟨S1x4352x1024, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x512, .bf16⟩
  | .local _ .vmem, ⟨7, _⟩ => ⟨S1x256x512, .bf16⟩
  | .local _ .vmem, ⟨8, _⟩ => ⟨S4x4352x256, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond2 (i : grid0.Coords) : BitVec 1 :=
  let arg2 : BitVec 32 := BitVec.ofNat 32 (i 2).val
  let c1_i32 : BitVec 32 := 1#32
  let v3 : BitVec 1 := Scalar.cmpi .slt arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c1_i32_2 : BitVec 32 := 1#32
  let v6 : BitVec 1 := Scalar.cmpi .sge arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4352x2048 : Shape := ⟨3, ![4, 4352, 2048]⟩
abbrev S4x4352x1024 : Shape := ⟨3, ![4, 4352, 1024]⟩
abbrev S4x4352x8x256 : Shape := ⟨4, ![4, 4352, 8, 256]⟩
abbrev S4x4352x8x128 : Shape := ⟨4, ![4, 4352, 8, 128]⟩
abbrev S4x256x8x256 : Shape := ⟨4, ![4, 256, 8, 256]⟩
abbrev S4x256x8x128 : Shape := ⟨4, ![4, 256, 8, 128]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x256x1024 : Shape := ⟨3, ![4, 256, 1024]⟩
abbrev S4x4096x8x256 : Shape := ⟨4, ![4, 4096, 8, 256]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩
abbrev S4x4096x1024 : Shape := ⟨3, ![4, 4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x1024, .bf16⟩
  | .hbm, ⟨3, _⟩ => ⟨S4x4352x2048, .f32⟩
  | .hbm, ⟨4, _⟩ => ⟨S4x4352x8x256, .f32⟩
  | .hbm, ⟨5, _⟩ => ⟨S4x4352x2048, .f32⟩
  | .hbm, ⟨6, _⟩ => ⟨S4x4352x8x256, .f32⟩
  | .hbm, ⟨7, _⟩ => ⟨S4x4352x1024, .f32⟩
  | .hbm, ⟨8, _⟩ => ⟨S4x4352x8x128, .f32⟩
  | .hbm, ⟨9, _⟩ => ⟨S4x256x8x256, .f32⟩
  | .hbm, ⟨10, _⟩ => ⟨S4x256x8x256, .f32⟩
  | .hbm, ⟨11, _⟩ => ⟨S4x256x8x128, .f32⟩
  | .hbm, ⟨12, _⟩ => ⟨S4x8x256x256, .f32⟩
  | .hbm, ⟨13, _⟩ => ⟨S_, .f32⟩
  | .hbm, ⟨14, _⟩ => ⟨S_, .f32⟩
  | .hbm, ⟨15, _⟩ => ⟨S4x8x256x256, .f32⟩
  | .hbm, ⟨16, _⟩ => ⟨S4x8x256x256, .f32⟩
  | .hbm, ⟨17, _⟩ => ⟨S_, .f32⟩
  | .hbm, ⟨18, _⟩ => ⟨S4x8x256, .f32⟩
  | .hbm, ⟨19, _⟩ => ⟨S_, .f32⟩
  | .hbm, ⟨20, _⟩ => ⟨S4x8x256, .f32⟩
  | .hbm, ⟨21, _⟩ => ⟨S4x8x256, .f32⟩
  | .hbm, ⟨22, _⟩ => ⟨S4x8x256x1, .f32⟩
  | .hbm, ⟨23, _⟩ => ⟨S4x8x256x256, .f32⟩
  | .hbm, ⟨24, _⟩ => ⟨S4x8x256x256, .f32⟩
  | .hbm, ⟨25, _⟩ => ⟨S4x8x256x256, .f32⟩
  | .hbm, ⟨26, _⟩ => ⟨S_, .f32⟩
  | .hbm, ⟨27, _⟩ => ⟨S4x8x256, .f32⟩
  | .hbm, ⟨28, _⟩ => ⟨S4x8x256x1, .f32⟩
  | .hbm, ⟨29, _⟩ => ⟨S4x8x256x256, .f32⟩
  | .hbm, ⟨30, _⟩ => ⟨S4x8x256x256, .f32⟩
  | .hbm, ⟨31, _⟩ => ⟨S4x8x128x256, .f32⟩
  | .hbm, ⟨32, _⟩ => ⟨S4x256x8x128, .f32⟩
  | .hbm, ⟨33, _⟩ => ⟨S4x256x1024, .f32⟩
  | .hbm, ⟨34, _⟩ => ⟨S4x4096x8x256, .f32⟩
  | .hbm, ⟨35, _⟩ => ⟨S4x8x4096x4352, .f32⟩
  | .hbm, ⟨36, _⟩ => ⟨S_, .f32⟩
  | .hbm, ⟨37, _⟩ => ⟨S_, .f32⟩
  | .hbm, ⟨38, _⟩ => ⟨S4x8x4096x4352, .f32⟩
  | .hbm, ⟨39, _⟩ => ⟨S4x8x4096x4352, .f32⟩
  | .hbm, ⟨40, _⟩ => ⟨S_, .f32⟩
  | .hbm, ⟨41, _⟩ => ⟨S4x8x4096, .f32⟩
  | .hbm, ⟨42, _⟩ => ⟨S_, .f32⟩
  | .hbm, ⟨43, _⟩ => ⟨S4x8x4096, .f32⟩
  | .hbm, ⟨44, _⟩ => ⟨S4x8x4096, .f32⟩
  | .hbm, ⟨45, _⟩ => ⟨S4x8x4096x1, .f32⟩
  | .hbm, ⟨46, _⟩ => ⟨S4x8x4096x4352, .f32⟩
  | .hbm, ⟨47, _⟩ => ⟨S4x8x4096x4352, .f32⟩
  | .hbm, ⟨48, _⟩ => ⟨S4x8x4096x4352, .f32⟩
  | .hbm, ⟨49, _⟩ => ⟨S_, .f32⟩
  | .hbm, ⟨50, _⟩ => ⟨S4x8x4096, .f32⟩
  | .hbm, ⟨51, _⟩ => ⟨S4x8x4096x1, .f32⟩
  | .hbm, ⟨52, _⟩ => ⟨S4x8x4096x4352, .f32⟩
  | .hbm, ⟨53, _⟩ => ⟨S4x8x4096x4352, .f32⟩
  | .hbm, ⟨54, _⟩ => ⟨S4x8x128x4096, .f32⟩
  | .hbm, ⟨55, _⟩ => ⟨S4x4096x8x128, .f32⟩
  | .hbm, ⟨56, _⟩ => ⟨S4x4096x1024, .f32⟩
  | .hbm, ⟨57, _⟩ => ⟨S4x4352x1024, .f32⟩
  | .hbm, ⟨58, _⟩ => ⟨S4x4352x1024, .bf16⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Kernel2.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S4x4096x2048 : Shape := ⟨3, ![4, 4096, 2048]⟩
abbrev S1x256x2048 : Shape := ⟨3, ![1, 256, 2048]⟩
abbrev S1x2048x2048 : Shape := ⟨3, ![1, 2048, 2048]⟩
abbrev S1x1x2048 : Shape := ⟨3, ![1, 1, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4096x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x4096x2048 : Shape := ⟨3, ![4, 4096, 2048]⟩
abbrev S1x2048x2048 : Shape := ⟨3, ![1, 2048, 2048]⟩
abbrev S2048x2048 : Shape := ⟨2, ![2048, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x4096x2048, .bf16⟩
  | .hbm, ⟨6, _⟩ => ⟨S4x4096x2048, .f32⟩
  | .hbm, ⟨7, _⟩ => ⟨S1x2048x2048, .f32⟩
  | .hbm, ⟨8, _⟩ => ⟨S2048x2048, .f32⟩
  | .hbm, ⟨9, _⟩ => ⟨S4x4096x2048, .f32⟩
  | .hbm, ⟨10, _⟩ => ⟨S4x4096x2048, .f32⟩
  | .hbm, ⟨11, _⟩ => ⟨S4x1x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel3.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x544x2048 : Shape := ⟨3, ![1, 544, 2048]⟩
abbrev S1x2048x2048 : Shape := ⟨3, ![1, 2048, 2048]⟩
abbrev S1x1x2048 : Shape := ⟨3, ![1, 1, 2048]⟩
abbrev S544x1 : Shape := ⟨2, ![544, 1]⟩
abbrev S544x2048 : Shape := ⟨2, ![544, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S1x2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x544x2048, .f32⟩
  | .local _ .vmem, ⟨9, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x544x2048 : Shape := ⟨3, ![1, 544, 2048]⟩
abbrev S1x2048x2048 : Shape := ⟨3, ![1, 2048, 2048]⟩
abbrev S1x1x2048 : Shape := ⟨3, ![1, 1, 2048]⟩
abbrev S544x1 : Shape := ⟨2, ![544, 1]⟩
abbrev S544x2048 : Shape := ⟨2, ![544, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S1x2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x544x2048, .f32⟩
  | .local _ .vmem, ⟨9, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S1x2048x2048 : Shape := ⟨3, ![1, 2048, 2048]⟩
abbrev S2048x2048 : Shape := ⟨2, ![2048, 2048]⟩
abbrev S4x256x2048 : Shape := ⟨3, ![4, 256, 2048]⟩
abbrev S1x1x2048 : Shape := ⟨3, ![1, 1, 2048]⟩
abbrev S4x4096x2048 : Shape := ⟨3, ![4, 4096, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x4352x2048, .f32⟩
  | .hbm, ⟨6, _⟩ => ⟨S1x2048x2048, .f32⟩
  | .hbm, ⟨7, _⟩ => ⟨S2048x2048, .f32⟩
  | .hbm, ⟨8, _⟩ => ⟨S4x4352x2048, .f32⟩
  | .hbm, ⟨9, _⟩ => ⟨S4x256x2048, .f32⟩
  | .hbm, ⟨10, _⟩ => ⟨S4x256x2048, .f32⟩
  | .hbm, ⟨11, _⟩ => ⟨S1x1x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S4x4096x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4352x2048, .f32⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel4.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x2048 : Shape := ⟨3, ![4, 4352, 2048]⟩
abbrev S1x544x1024 : Shape := ⟨3, ![1, 544, 1024]⟩
abbrev S1x544x2048 : Shape := ⟨3, ![1, 544, 2048]⟩
abbrev S1x3x1024x2048 : Shape := ⟨4, ![1, 3, 1024, 2048]⟩
abbrev S544x1024 : Shape := ⟨2, ![544, 1024]⟩
abbrev S544x2048 : Shape := ⟨2, ![544, 2048]⟩
abbrev S1x1x1024x2048 : Shape := ⟨4, ![1, 1, 1024, 2048]⟩
abbrev S1024x2048 : Shape := ⟨2, ![1024, 2048]⟩

abbrev nBuf : Space → Nat
  | .hbm => 7
  | .vmem => 21
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x3x1024x2048, .bf16⟩
  | .hbm, ⟨6, _⟩ => ⟨S4x4352x2048, .bf16⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1x544x1024, .f32⟩
  | .local _ .vmem, ⟨5, _⟩ => ⟨S1x544x1024, .f32⟩
  | .local _ .vmem, ⟨6, _⟩ => ⟨S1x544x1024, .bf16⟩
  | .local _ .vmem, ⟨7, _⟩ => ⟨S1x544x1024, .bf16⟩
  | .local _ .vmem, ⟨8, _⟩ => ⟨S1x544x1024, .bf16⟩
  | .local _ .vmem, ⟨9, _⟩ => ⟨S1x544x1024, .bf16⟩
  | .local _ .vmem, ⟨10, _⟩ => ⟨S1x544x1024, .bf16⟩
  | .local _ .vmem, ⟨11, _⟩ => ⟨S1x544x1024, .bf16⟩
  | .local _ .vmem, ⟨12, _⟩ => ⟨S1x544x2048, .bf16⟩
  | .local _ .vmem, ⟨13, _⟩ => ⟨S1x544x2048, .bf16⟩
  | .local _ .vmem, ⟨14, _⟩ => ⟨S1x544x2048, .bf16⟩
  | .local _ .vmem, ⟨15, _⟩ => ⟨S1x544x2048, .bf16⟩
  | .local _ .vmem, ⟨16, _⟩ => ⟨S1x544x2048, .bf16⟩
  | .local _ .vmem, ⟨17, _⟩ => ⟨S1x544x2048, .bf16⟩
  | .local _ .vmem, ⟨18, _⟩ => ⟨S1x3x1024x2048, .bf16⟩
  | .local _ .vmem, ⟨19, _⟩ => ⟨S1x544x2048, .bf16⟩
  | .local _ .vmem, ⟨20, _⟩ => ⟨S1x544x2048, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x3x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x544x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
  let c0_i32_3 : BitVec 32 := 0#32
  ![c0_i32.toNat, c0_i32_0.toNat, c0_i32_1.toNat, c0_i32_2.toNat]
-- ==== Reference4Ideal.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x1x1024 : Shape := ⟨4, ![4, 4352, 1, 1024]⟩
abbrev S4x4352x3x1024 : Shape := ⟨4, ![4, 4352, 3, 1024]⟩
abbrev S4x4352x3072 : Shape := ⟨3, ![4, 4352, 3072]⟩
abbrev S_ : Shape := ⟨0, ![]⟩
abbrev S4x4352x6144 : Shape := ⟨3, ![4, 4352, 6144]⟩
abbrev S4x4352x3x2048 : Shape := ⟨4, ![4, 4352, 3, 2048]⟩
abbrev S1x3x1024x2048 : Shape := ⟨4, ![1, 3, 1024, 2048]⟩
abbrev S3x1024x2048 : Shape := ⟨3, ![3, 1024, 2048]⟩
abbrev S3x2048x4x4352 : Shape := ⟨4, ![3, 2048, 4, 4352]⟩
abbrev S4x4352x2048 : Shape := ⟨3, ![4, 4352, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x4352x1024, .f32⟩
  | .hbm, ⟨6, _⟩ => ⟨S4x4352x1024, .f32⟩
  | .hbm, ⟨7, _⟩ => ⟨S4x4352x1x1024, .f32⟩
  | .hbm, ⟨8, _⟩ => ⟨S4x4352x1x1024, .f32⟩
  | .hbm, ⟨9, _⟩ => ⟨S4x4352x1x1024, .f32⟩
  | .hbm, ⟨10, _⟩ => ⟨S4x4352x3x1024, .f32⟩
  | .hbm, ⟨11, _⟩ => ⟨S4x4352x3072, .bf16⟩
  | .hbm, ⟨12, _⟩ => ⟨S4x4352x3072, .f32⟩
  | .hbm, ⟨13, _⟩ => ⟨S4x4352x3x1024, .f32⟩
  | .hbm, ⟨14, _⟩ => ⟨S_, .f32⟩
  | .hbm, ⟨15, _⟩ => ⟨S4x4352x3x1024, .f32⟩
  | .hbm, ⟨16, _⟩ => ⟨S4x4352x3x1024, .f32⟩
  | .hbm, ⟨17, _⟩ => ⟨S4x4352x6144, .bf16⟩
  | .hbm, ⟨18, _⟩ => ⟨S4x4352x6144, .f32⟩
  | .hbm, ⟨19, _⟩ => ⟨S4x4352x3x2048, .f32⟩
  | .hbm, ⟨20, _⟩ => ⟨S_, .f32⟩
  | .hbm, ⟨21, _⟩ => ⟨S4x4352x3x2048, .f32⟩
  | .hbm, ⟨22, _⟩ => ⟨S4x4352x3x2048, .f32⟩
  | .hbm, ⟨23, _⟩ => ⟨S4x4352x3x1024, .f32⟩
  | .hbm, ⟨24, _⟩ => ⟨S4x4352x3x1024, .f32⟩
  | .hbm, ⟨25, _⟩ => ⟨S_, .f32⟩
  | .hbm, ⟨26, _⟩ => ⟨S4x4352x3x1024, .f32⟩
  | .hbm, ⟨27, _⟩ => ⟨S4x4352x3x1024, .f32⟩
  | .hbm, ⟨28, _⟩ => ⟨S_, .f32⟩
  | .hbm, ⟨29, _⟩ => ⟨S4x4352x3x1024, .f32⟩
  | .hbm, ⟨30, _⟩ => ⟨S4x4352x3x1024, .f32⟩
  | .hbm, ⟨31, _⟩ => ⟨S4x4352x3x1024, .f32⟩
  | .hbm, ⟨32, _⟩ => ⟨S4x4352x3x1024, .f32⟩
  | .hbm, ⟨33, _⟩ => ⟨S1x3x1024x2048, .f32⟩
  | .hbm, ⟨34, _⟩ => ⟨S3x1024x2048, .f32⟩
  | .hbm, ⟨35, _⟩ => ⟨S3x2048x4x4352, .f32⟩
  | .hbm, ⟨36, _⟩ => ⟨S4x4352x3x2048, .f32⟩
  | .hbm, ⟨37, _⟩ => ⟨S4x4352x3x2048, .f32⟩
  | .hbm, ⟨38, _⟩ => ⟨S4x4352x3x2048, .f32⟩
  | .hbm, ⟨39, _⟩ => ⟨S_, .f32⟩
  | .hbm, ⟨40, _⟩ => ⟨S4x4352x3x2048, .f32⟩
  | .hbm, ⟨41, _⟩ => ⟨S4x4352x3x2048, .f32⟩
  | .hbm, ⟨42, _⟩ => ⟨S_, .f32⟩
  | .hbm, ⟨43, _⟩ => ⟨S4x4352x3x2048, .f32⟩
  | .hbm, ⟨44, _⟩ => ⟨S4x4352x3x2048, .f32⟩
  | .hbm, ⟨45, _⟩ => ⟨S4x4352x3x2048, .f32⟩
  | .hbm, ⟨46, _⟩ => ⟨S_, .f32⟩
  | .hbm, ⟨47, _⟩ => ⟨S4x4352x2048, .f32⟩
  | .hbm, ⟨48, _⟩ => ⟨S4x4352x2048, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel5.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel5Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference5Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x4096x2048 : Shape := ⟨3, ![4, 4096, 2048]⟩
abbrev S4x4096 : Shape := ⟨2, ![4, 4096]⟩
abbrev S4x4096x1 : Shape := ⟨3, ![4, 4096, 1]⟩
abbrev S4x1x2048 : Shape := ⟨3, ![4, 1, 2048]⟩
abbrev S1x1024x2048 : Shape := ⟨3, ![1, 1024, 2048]⟩
abbrev S1024x2048 : Shape := ⟨2, ![1024, 2048]⟩
abbrev S1x13312x2048 : Shape := ⟨3, ![1, 13312, 2048]⟩
abbrev S13312x2048 : Shape := ⟨2, ![13312, 2048]⟩
abbrev S14336x2048 : Shape := ⟨2, ![14336, 2048]⟩
abbrev S4x4352x14336 : Shape := ⟨3, ![4, 4352, 14336]⟩

abbrev nBuf : Space → Nat
  | .hbm => 69
  | .vmem => 0
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x2048, .f32⟩
  | .hbm, ⟨21, _⟩ => ⟨S4x256x2048, .f32⟩
  | .hbm, ⟨22, _⟩ => ⟨S1x1x2048, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x1x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x4096x2048, .f32⟩
  | .hbm, ⟨56, _⟩ => ⟨S4x4096x2048, .f32⟩
  | .hbm, ⟨57, _⟩ => ⟨S4x1x2048, .f32⟩
  | .hbm, ⟨58, _⟩ => ⟨S4x4096x2048, .f32⟩
  | .hbm, ⟨59, _⟩ => ⟨S4x4096x2048, .f32⟩
  | .hbm, ⟨60, _⟩ => ⟨S4x4352x2048, .f32⟩
  | .hbm, ⟨61, _⟩ => ⟨S1x1024x2048, .bf16⟩
  | .hbm, ⟨62, _⟩ => ⟨S1024x2048, .bf16⟩
  | .hbm, ⟨63, _⟩ => ⟨S1x13312x2048, .bf16⟩
  | .hbm, ⟨64, _⟩ => ⟨S13312x2048, .bf16⟩
  | .hbm, ⟨65, _⟩ => ⟨S14336x2048, .bf16⟩
  | .hbm, ⟨66, _⟩ => ⟨S14336x2048, .f32⟩
  | .hbm, ⟨67, _⟩ => ⟨S4x4352x14336, .f32⟩
  | .hbm, ⟨68, _⟩ => ⟨S4x4352x14336, .bf16⟩
  | _, _ => ⟨S4x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel6.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel6Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference6Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x4096x2048 : Shape := ⟨3, ![4, 4096, 2048]⟩
abbrev S4x4096 : Shape := ⟨2, ![4, 4096]⟩
abbrev S4x4096x1 : Shape := ⟨3, ![4, 4096, 1]⟩
abbrev S4x1x2048 : Shape := ⟨3, ![4, 1, 2048]⟩
abbrev S1x1024x2048 : Shape := ⟨3, ![1, 1024, 2048]⟩
abbrev S1024x2048 : Shape := ⟨2, ![1024, 2048]⟩
abbrev S1x13312x2048 : Shape := ⟨3, ![1, 13312, 2048]⟩
abbrev S13312x2048 : Shape := ⟨2, ![13312, 2048]⟩
abbrev S14336x2048 : Shape := ⟨2, ![14336, 2048]⟩
abbrev S4x4352x14336 : Shape := ⟨3, ![4, 4352, 14336]⟩

abbrev nBuf : Space → Nat
  | .hbm => 69
  | .vmem => 0
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x2048, .f32⟩
  | .hbm, ⟨21, _⟩ => ⟨S4x256x2048, .f32⟩
  | .hbm, ⟨22, _⟩ => ⟨S1x1x2048, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x1x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x4096x2048, .f32⟩
  | .hbm, ⟨56, _⟩ => ⟨S4x4096x2048, .f32⟩
  | .hbm, ⟨57, _⟩ => ⟨S4x1x2048, .f32⟩
  | .hbm, ⟨58, _⟩ => ⟨S4x4096x2048, .f32⟩
  | .hbm, ⟨59, _⟩ => ⟨S4x4096x2048, .f32⟩
  | .hbm, ⟨60, _⟩ => ⟨S4x4352x2048, .f32⟩
  | .hbm, ⟨61, _⟩ => ⟨S1x1024x2048, .bf16⟩
  | .hbm, ⟨62, _⟩ => ⟨S1024x2048, .bf16⟩
  | .hbm, ⟨63, _⟩ => ⟨S1x13312x2048, .bf16⟩
  | .hbm, ⟨64, _⟩ => ⟨S13312x2048, .bf16⟩
  | .hbm, ⟨65, _⟩ => ⟨S14336x2048, .bf16⟩
  | .hbm, ⟨66, _⟩ => ⟨S14336x2048, .f32⟩
  | .hbm, ⟨67, _⟩ => ⟨S4x4352x14336, .f32⟩
  | .hbm, ⟨68, _⟩ => ⟨S4x4352x14336, .bf16⟩
  | _, _ => ⟨S4x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel7.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel7Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference7Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x4096x2048 : Shape := ⟨3, ![4, 4096, 2048]⟩
abbrev S4x4096 : Shape := ⟨2, ![4, 4096]⟩
abbrev S4x4096x1 : Shape := ⟨3, ![4, 4096, 1]⟩
abbrev S4x1x2048 : Shape := ⟨3, ![4, 1, 2048]⟩
abbrev S1x1024x2048 : Shape := ⟨3, ![1, 1024, 2048]⟩
abbrev S1024x2048 : Shape := ⟨2, ![1024, 2048]⟩
abbrev S1x13312x2048 : Shape := ⟨3, ![1, 13312, 2048]⟩
abbrev S13312x2048 : Shape := ⟨2, ![13312, 2048]⟩
abbrev S14336x2048 : Shape := ⟨2, ![14336, 2048]⟩
abbrev S4x4352x14336 : Shape := ⟨3, ![4, 4352, 14336]⟩

abbrev nBuf : Space → Nat
  | .hbm => 69
  | .vmem => 0
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x2048, .f32⟩
  | .hbm, ⟨21, _⟩ => ⟨S4x256x2048, .f32⟩
  | .hbm, ⟨22, _⟩ => ⟨S1x1x2048, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x1x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x4096x2048, .f32⟩
  | .hbm, ⟨56, _⟩ => ⟨S4x4096x2048, .f32⟩
  | .hbm, ⟨57, _⟩ => ⟨S4x1x2048, .f32⟩
  | .hbm, ⟨58, _⟩ => ⟨S4x4096x2048, .f32⟩
  | .hbm, ⟨59, _⟩ => ⟨S4x4096x2048, .f32⟩
  | .hbm, ⟨60, _⟩ => ⟨S4x4352x2048, .f32⟩
  | .hbm, ⟨61, _⟩ => ⟨S1x1024x2048, .bf16⟩
  | .hbm, ⟨62, _⟩ => ⟨S1024x2048, .bf16⟩
  | .hbm, ⟨63, _⟩ => ⟨S1x13312x2048, .bf16⟩
  | .hbm, ⟨64, _⟩ => ⟨S13312x2048, .bf16⟩
  | .hbm, ⟨65, _⟩ => ⟨S14336x2048, .bf16⟩
  | .hbm, ⟨66, _⟩ => ⟨S14336x2048, .f32⟩
  | .hbm, ⟨67, _⟩ => ⟨S4x4352x14336, .f32⟩
  | .hbm, ⟨68, _⟩ => ⟨S4x4352x14336, .bf16⟩
  | _, _ => ⟨S4x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel8.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  ![c3_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel8Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S1x2048 : Shape := ⟨2, ![1, 2048]⟩
abbrev S4x1x2048 : Shape := ⟨3, ![4, 1, 2048]⟩
abbrev S4x4352x14336 : Shape := ⟨3, ![4, 4352, 14336]⟩
abbrev S1x1x2048 : Shape := ⟨3, ![1, 1, 2048]⟩
abbrev S1x1024x2048 : Shape := ⟨3, ![1, 1024, 2048]⟩
abbrev S1x1088x1024 : Shape := ⟨3, ![1, 1088, 1024]⟩
abbrev S1088x2048 : Shape := ⟨2, ![1088, 2048]⟩
abbrev S2x1088x2048 : Shape := ⟨3, ![2, 1088, 2048]⟩
abbrev S2 : Shape := ⟨1, ![2]⟩
abbrev S1 : Shape := ⟨1, ![1]⟩
abbrev S_ : Shape := ⟨0, ![]⟩
abbrev S1x1088x2048 : Shape := ⟨3, ![1, 1088, 2048]⟩
abbrev S1088 : Shape := ⟨1, ![1088]⟩
abbrev S1088x1 : Shape := ⟨2, ![1088, 1]⟩
abbrev S1024x2048 : Shape := ⟨2, ![1024, 2048]⟩
abbrev S1088x1024 : Shape := ⟨2, ![1088, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S1x2048, .f32⟩
  | .hbm, ⟨13, _⟩ => ⟨S4x4352x14336, .bf16⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1088x2048, .bf16⟩
  | .local _ .vmem, ⟨13, _⟩ => ⟨S2x1088x2048, .f32⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 14], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let arg2 : BitVec 32 := BitVec.ofNat 32 (i 2).val
  let c0_i32_0 : BitVec 32 := 0#32
  let v4 : BitVec 1 := Scalar.cmpi .eq arg2 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v31 : BitVec 32 := Scalar.remsi v1 c4_i32_12
  let c1088_i32 : BitVec 32 := 1088#32
  let v32 : BitVec 32 := Scalar.muli v31 c1088_i32
  v32
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_7 : BitVec 32 := 0#32
  let v15 : BitVec 1 := Scalar.cmpi .sgt v1 c0_i32_7
  let v16 : BitVec 32 := Scalar.extui v15
  let c0_i32_8 : BitVec 32 := 0#32
  let v17 : BitVec 1 := Scalar.cmpi .slt v1 c0_i32_8
  let v18 : BitVec 32 := Scalar.extui v17
  let v19 : BitVec 32 := Scalar.subi v16 v18
  let c4_i32_6 : BitVec 32 := 4#32
  let c0_i32_9 : BitVec 32 := 0#32
  let v20 : BitVec 1 := Scalar.cmpi .sgt c4_i32_6 c0_i32_9
  let v21 : BitVec 32 := Scalar.extui v20
  let c0_i32_10 : BitVec 32 := 0#32
  let v22 : BitVec 1 := Scalar.cmpi .slt c4_i32_6 c0_i32_10
  let v23 : BitVec 32 := Scalar.extui v22
  let v24 : BitVec 32 := Scalar.subi v21 v23
  let v25 : BitVec 1 := Scalar.cmpi .ne v19 v24
  let v26 : BitVec 32 := Scalar.remsi v1 c4_i32_6
  let c0_i32_11 : BitVec 32 := 0#32
  let v27 : BitVec 1 := Scalar.cmpi .ne v26 c0_i32_11
  let v28 : BitVec 1 := Scalar.andi v25 v27
  let v14 : BitVec 32 := Scalar.divsi v1 c4_i32_6
  let c1_i32 : BitVec 32 := 1#32
  let v29 : BitVec 32 := Scalar.subi v14 c1_i32
  let v30 : BitVec 32 := Scalar.select v28 v29 v14
  let c4_i32_12 : BitVec 32 := 4#32
  let v31 : BitVec 32 := Scalar.remsi v1 c4_i32_12
  let c1088_i32 : BitVec 32 := 1088#32
  let v32 : BitVec 32 := Scalar.muli v31 c1088_i32
  let v33 : BitVec 32 := v32
  let c0_i32_15 : BitVec 32 := 0#32
  ![v30.toNat, v33.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v14 : BitVec 32 := Scalar.addi v1 c1_i32
  let c16_i32 : BitVec 32 := 16#32
  let v15 : BitVec 1 := Scalar.cmpi .slt v14 c16_i32
  let v16 : BitVec 32 := Scalar.extui v15
  let c0_i32_6 : BitVec 32 := 0#32
  let v17 : BitVec 1 := Scalar.cmpi .ne v16 c0_i32_6
  v17

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c4_i32_55 : BitVec 32 := 4#32
  let v124 : BitVec 32 := Scalar.remsi v105 c4_i32_55
  let c1088_i32_56 : BitVec 32 := 1088#32
  let v125 : BitVec 32 := Scalar.muli v124 c1088_i32_56
  v125
def k0_off4 (i : grid0.Coords) : Fin 1 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  ![v106.toNat]
def k0_off5 (i : grid0.Coords) : Fin 3 → Nat :=
  let c1_i32_47 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v106 : BitVec 32 := Scalar.subi c1_i32_47 v2
  let c0_i32_57 : BitVec 32 := 0#32
  let c0_i32_58 : BitVec 32 := 0#32
  ![v106.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_46 : BitVec 32 := 1#32
  let v105 : BitVec 32 := Scalar.addi v1 c1_i32_46
  let c0_i32_49 : BitVec 32 := 0#32
  let v108 : BitVec 1 := Scalar.cmpi .sgt v105 c0_i32_49
  let v109 : BitVec 32 := Scalar.extui v108
  let c0_i32_50 : BitVec 32 := 0#32
  let v110 : BitVec 1 := Scalar.cmpi .slt v105 c0_i32_50
  let v111 : BitVec 32 := Scalar.extui v110
  let v112 : BitVec 32 := Scalar.subi v109 v111
  let c4_i32_48 : BitVec 32 := 4#32
  let c0_i32_51 : BitVec 32 := 0#32
  let v113 : BitVec 1 := Scalar.cmpi .sgt c4_i32_48 c0_i32_51
  let v114 : BitVec 32 := Scalar.extui v113
  let c0_i32_52 : BitVec 32 := 0#32
  let v115 : BitVec 1 := Scalar.cmpi .slt c4_i32_48 c0_i32_52
  let v116 : BitVec 32 := Scalar.extui v115
  let v117 : BitVec 32 := Scalar.subi v114 v116
  let v118 : BitVec 1 := Scalar.cmpi .ne v112 v117
  let v119 : BitVec 32 := Scalar.remsi v105 c4_i32_48
  let c0_i32_53 : BitVec 32 := 0#32
  let v120 : BitVec 1 := Scalar.cmpi .ne v119 c0_i32_53
  let v121 : BitVec 1 := Scalar.andi v118 v120
  let v107 : BitVec 32 := Scalar.divsi v105 c4_i32_48
  let c1_i32_54 : BitVec 32 := 1#32
  let v122 : BitVec 32 := Scalar.subi v107 c1_i32_54
  let v123 : BitVec 32 := Scalar.select v121 v122 v107
  let c4_i32_55 : BitVec 32 := 4#32
  let v124 : BitVec 32 := Scalar.remsi v105 c4_i32_55
  let c1088_i32_56 : BitVec 32 := 1088#32
  let v125 : BitVec 32 := Scalar.muli v124 c1088_i32_56
  let v126 : BitVec 32 := v125
  let c0_i32_59 : BitVec 32 := 0#32
  ![v123.toNat, v126.toNat, 0]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v35 : BitVec 32 := Scalar.remsi v1 c4_i32_14
  let c1088_i32 : BitVec 32 := 1088#32
  let v36 : BitVec 32 := Scalar.muli v35 c1088_i32
  v36
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_15 : BitVec 32 := 0#32
  let c0_i32_16 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v19 : BitVec 1 := Scalar.cmpi .sgt v1 c0_i32_8
  let v20 : BitVec 32 := Scalar.extui v19
  let c0_i32_9 : BitVec 32 := 0#32
  let v21 : BitVec 1 := Scalar.cmpi .slt v1 c0_i32_9
  let v22 : BitVec 32 := Scalar.extui v21
  let v23 : BitVec 32 := Scalar.subi v20 v22
  let c4_i32_7 : BitVec 32 := 4#32
  let c0_i32_10 : BitVec 32 := 0#32
  let v24 : BitVec 1 := Scalar.cmpi .sgt c4_i32_7 c0_i32_10
  let v25 : BitVec 32 := Scalar.extui v24
  let c0_i32_11 : BitVec 32 := 0#32
  let v26 : BitVec 1 := Scalar.cmpi .slt c4_i32_7 c0_i32_11
  let v27 : BitVec 32 := Scalar.extui v26
  let v28 : BitVec 32 := Scalar.subi v25 v27
  let v29 : BitVec 1 := Scalar.cmpi .ne v23 v28
  let v30 : BitVec 32 := Scalar.remsi v1 c4_i32_7
  let c0_i32_12 : BitVec 32 := 0#32
  let v31 : BitVec 1 := Scalar.cmpi .ne v30 c0_i32_12
  let v32 : BitVec 1 := Scalar.andi v29 v31
  let v18 : BitVec 32 := Scalar.divsi v1 c4_i32_7
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v1 c4_i32_14
  let c1088_i32 : BitVec 32 := 1088#32
  let v36 : BitVec 32 := Scalar.muli v35 c1088_i32
  let v37 : BitVec 32 := v36
  let c0_i32_17 : BitVec 32 := 0#32
  ![v34.toNat, v37.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v44 : Index := Scalar.indexCast v2
  let c0 : Index := 0#32
  let c0_18 : Index := 0#32
  ![v44.toNat, 0, 0]
def k0_cond4 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  ![c3_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference8Ideal.lean ====
abbrev S4x4352x2048 : Shape := ⟨3, ![4, 4352, 2048]⟩
abbrev S2048 : Shape := ⟨1, ![2048]⟩
abbrev S4x2048 : Shape := ⟨2, ![4, 2048]⟩
abbrev S4x1024x2048 : Shape := ⟨3, ![4, 1024, 2048]⟩
abbrev S4x13312x2048 : Shape := ⟨3, ![4, 13312, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x4096x2048 : Shape := ⟨3, ![4, 4096, 2048]⟩
abbrev S4x4096 : Shape := ⟨2, ![4, 4096]⟩
abbrev S4x4096x1 : Shape := ⟨3, ![4, 4096, 1]⟩
abbrev S4x1x2048 : Shape := ⟨3, ![4, 1, 2048]⟩
abbrev S1x1024x2048 : Shape := ⟨3, ![1, 1024, 2048]⟩
abbrev S1024x2048 : Shape := ⟨2, ![1024, 2048]⟩
abbrev S1x13312x2048 : Shape := ⟨3, ![1, 13312, 2048]⟩
abbrev S13312x2048 : Shape := ⟨2, ![13312, 2048]⟩
abbrev S14336x2048 : Shape := ⟨2, ![14336, 2048]⟩
abbrev S4x4352x14336 : Shape := ⟨3, ![4, 4352, 14336]⟩

abbrev nBuf : Space → Nat
  | .hbm => 69
  | .vmem => 0
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x1024x2048, .bf16⟩
  | .hbm, ⟨7, _⟩ => ⟨S4x13312x2048, .bf16⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x2048, .f32⟩
  | .hbm, ⟨21, _⟩ => ⟨S4x256x2048, .f32⟩
  | .hbm, ⟨22, _⟩ => ⟨S1x1x2048, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x1x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x4096x2048, .f32⟩
  | .hbm, ⟨56, _⟩ => ⟨S4x4096x2048, .f32⟩
  | .hbm, ⟨57, _⟩ => ⟨S4x1x2048, .f32⟩
  | .hbm, ⟨58, _⟩ => ⟨S4x4096x2048, .f32⟩
  | .hbm, ⟨59, _⟩ => ⟨S4x4096x2048, .f32⟩
  | .hbm, ⟨60, _⟩ => ⟨S4x4352x2048, .f32⟩
  | .hbm, ⟨61, _⟩ => ⟨S1x1024x2048, .bf16⟩
  | .hbm, ⟨62, _⟩ => ⟨S1024x2048, .bf16⟩
  | .hbm, ⟨63, _⟩ => ⟨S1x13312x2048, .bf16⟩
  | .hbm, ⟨64, _⟩ => ⟨S13312x2048, .bf16⟩
  | .hbm, ⟨65, _⟩ => ⟨S14336x2048, .bf16⟩
  | .hbm, ⟨66, _⟩ => ⟨S14336x2048, .f32⟩
  | .hbm, ⟨67, _⟩ => ⟨S4x4352x14336, .f32⟩
  | .hbm, ⟨68, _⟩ => ⟨S4x4352x14336, .bf16⟩
  | _, _ => ⟨S4x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel9.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x544x2048 : Shape := ⟨3, ![1, 544, 2048]⟩
abbrev S1x2048x2048 : Shape := ⟨3, ![1, 2048, 2048]⟩
abbrev S1x1x2048 : Shape := ⟨3, ![1, 1, 2048]⟩
abbrev S544x1 : Shape := ⟨2, ![544, 1]⟩
abbrev S544x2048 : Shape := ⟨2, ![544, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S1x2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x544x2048, .f32⟩
  | .local _ .vmem, ⟨9, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel9Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x544x2048 : Shape := ⟨3, ![1, 544, 2048]⟩
abbrev S1x2048x2048 : Shape := ⟨3, ![1, 2048, 2048]⟩
abbrev S1x1x2048 : Shape := ⟨3, ![1, 1, 2048]⟩
abbrev S544x1 : Shape := ⟨2, ![544, 1]⟩
abbrev S544x2048 : Shape := ⟨2, ![544, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S1x2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x544x2048, .f32⟩
  | .local _ .vmem, ⟨9, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S1x2048x2048 : Shape := ⟨3, ![1, 2048, 2048]⟩
abbrev S2048x2048 : Shape := ⟨2, ![2048, 2048]⟩
abbrev S4x256x2048 : Shape := ⟨3, ![4, 256, 2048]⟩
abbrev S1x1x2048 : Shape := ⟨3, ![1, 1, 2048]⟩
abbrev S4x4096x2048 : Shape := ⟨3, ![4, 4096, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x4352x2048, .f32⟩
  | .hbm, ⟨6, _⟩ => ⟨S1x2048x2048, .f32⟩
  | .hbm, ⟨7, _⟩ => ⟨S2048x2048, .f32⟩
  | .hbm, ⟨8, _⟩ => ⟨S4x4352x2048, .f32⟩
  | .hbm, ⟨9, _⟩ => ⟨S4x256x2048, .f32⟩
  | .hbm, ⟨10, _⟩ => ⟨S4x256x2048, .f32⟩
  | .hbm, ⟨11, _⟩ => ⟨S1x1x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S4x4096x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4352x2048, .f32⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel10.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x544x2048 : Shape := ⟨3, ![1, 544, 2048]⟩
abbrev S1x2048x2048 : Shape := ⟨3, ![1, 2048, 2048]⟩
abbrev S1x1x2048 : Shape := ⟨3, ![1, 1, 2048]⟩
abbrev S544x1 : Shape := ⟨2, ![544, 1]⟩
abbrev S544x2048 : Shape := ⟨2, ![544, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S1x2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x544x2048, .f32⟩
  | .local _ .vmem, ⟨9, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel10Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x544x2048 : Shape := ⟨3, ![1, 544, 2048]⟩
abbrev S1x2048x2048 : Shape := ⟨3, ![1, 2048, 2048]⟩
abbrev S1x1x2048 : Shape := ⟨3, ![1, 1, 2048]⟩
abbrev S544x1 : Shape := ⟨2, ![544, 1]⟩
abbrev S544x2048 : Shape := ⟨2, ![544, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x2048x2048, .bf16⟩
  | .hbm, ⟨6, _⟩ => ⟨S4x1x2048, .f32⟩
  | .hbm, ⟨7, _⟩ => ⟨S1x2048, .f32⟩
  | .hbm, ⟨8, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S1x2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x544x2048, .f32⟩
  | .local _ .vmem, ⟨9, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4x4352x2048 : Shape := ⟨3, ![4, 4352, 2048]⟩
abbrev S4x2048x2048 : Shape := ⟨3, ![4, 2048, 2048]⟩
abbrev S4x2048 : Shape := ⟨2, ![4, 2048]⟩
abbrev S2048 : Shape := ⟨1, ![2048]⟩
abbrev S1x2048x2048 : Shape := ⟨3, ![1, 2048, 2048]⟩
abbrev S2048x2048 : Shape := ⟨2, ![2048, 2048]⟩
abbrev S4x256x2048 : Shape := ⟨3, ![4, 256, 2048]⟩
abbrev S1x1x2048 : Shape := ⟨3, ![1, 1, 2048]⟩
abbrev S4x4096x2048 : Shape := ⟨3, ![4, 4096, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x2048x2048, .f32⟩
  | .hbm, ⟨2, _⟩ => ⟨S4x4352x2048, .f32⟩
  | .hbm, ⟨3, _⟩ => ⟨S4x2048, .f32⟩
  | .hbm, ⟨4, _⟩ => ⟨S2048, .f32⟩
  | .hbm, ⟨5, _⟩ => ⟨S4x4352x2048, .f32⟩
  | .hbm, ⟨6, _⟩ => ⟨S1x2048x2048, .f32⟩
  | .hbm, ⟨7, _⟩ => ⟨S2048x2048, .f32⟩
  | .hbm, ⟨8, _⟩ => ⟨S4x4352x2048, .f32⟩
  | .hbm, ⟨9, _⟩ => ⟨S4x256x2048, .f32⟩
  | .hbm, ⟨10, _⟩ => ⟨S4x256x2048, .f32⟩
  | .hbm, ⟨11, _⟩ => ⟨S1x1x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S4x4096x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4352x2048, .f32⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel11.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x2048 : Shape := ⟨3, ![4, 4352, 2048]⟩
abbrev S1x544x1024 : Shape := ⟨3, ![1, 544, 1024]⟩
abbrev S1x544x2048 : Shape := ⟨3, ![1, 544, 2048]⟩
abbrev S1x3x1024x2048 : Shape := ⟨4, ![1, 3, 1024, 2048]⟩
abbrev S544x1024 : Shape := ⟨2, ![544, 1024]⟩
abbrev S544x2048 : Shape := ⟨2, ![544, 2048]⟩
abbrev S1x1x1024x2048 : Shape := ⟨4, ![1, 1, 1024, 2048]⟩
abbrev S1024x2048 : Shape := ⟨2, ![1024, 2048]⟩

abbrev nBuf : Space → Nat
  | .hbm => 7
  | .vmem => 21
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x3x1024x2048, .bf16⟩
  | .hbm, ⟨6, _⟩ => ⟨S4x4352x2048, .bf16⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1x544x1024, .f32⟩
  | .local _ .vmem, ⟨5, _⟩ => ⟨S1x544x1024, .f32⟩
  | .local _ .vmem, ⟨6, _⟩ => ⟨S1x544x1024, .bf16⟩
  | .local _ .vmem, ⟨7, _⟩ => ⟨S1x544x1024, .bf16⟩
  | .local _ .vmem, ⟨8, _⟩ => ⟨S1x544x1024, .bf16⟩
  | .local _ .vmem, ⟨9, _⟩ => ⟨S1x544x1024, .bf16⟩
  | .local _ .vmem, ⟨10, _⟩ => ⟨S1x544x1024, .bf16⟩
  | .local _ .vmem, ⟨11, _⟩ => ⟨S1x544x1024, .bf16⟩
  | .local _ .vmem, ⟨12, _⟩ => ⟨S1x544x2048, .bf16⟩
  | .local _ .vmem, ⟨13, _⟩ => ⟨S1x544x2048, .bf16⟩
  | .local _ .vmem, ⟨14, _⟩ => ⟨S1x544x2048, .bf16⟩
  | .local _ .vmem, ⟨15, _⟩ => ⟨S1x544x2048, .bf16⟩
  | .local _ .vmem, ⟨16, _⟩ => ⟨S1x544x2048, .bf16⟩
  | .local _ .vmem, ⟨17, _⟩ => ⟨S1x544x2048, .bf16⟩
  | .local _ .vmem, ⟨18, _⟩ => ⟨S1x3x1024x2048, .bf16⟩
  | .local _ .vmem, ⟨19, _⟩ => ⟨S1x544x2048, .bf16⟩
  | .local _ .vmem, ⟨20, _⟩ => ⟨S1x544x2048, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x3x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x544x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel11Ideal.lean ====
  let c1_i32 : BitVec 32 := 1#32
  ![c1_i32.toNat, c0_i32.toNat, c0_i32_0.toNat, c0_i32_1.toNat]
-- ==== Reference11Ideal.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x1x1024 : Shape := ⟨4, ![4, 4352, 1, 1024]⟩
abbrev S4x4352x3x1024 : Shape := ⟨4, ![4, 4352, 3, 1024]⟩
abbrev S4x4352x3072 : Shape := ⟨3, ![4, 4352, 3072]⟩
abbrev S_ : Shape := ⟨0, ![]⟩
abbrev S4x4352x6144 : Shape := ⟨3, ![4, 4352, 6144]⟩
abbrev S4x4352x3x2048 : Shape := ⟨4, ![4, 4352, 3, 2048]⟩
abbrev S1x3x1024x2048 : Shape := ⟨4, ![1, 3, 1024, 2048]⟩
abbrev S3x1024x2048 : Shape := ⟨3, ![3, 1024, 2048]⟩
abbrev S3x2048x4x4352 : Shape := ⟨4, ![3, 2048, 4, 4352]⟩
abbrev S4x4352x2048 : Shape := ⟨3, ![4, 4352, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x4352x1024, .f32⟩
  | .hbm, ⟨6, _⟩ => ⟨S4x4352x1024, .f32⟩
  | .hbm, ⟨7, _⟩ => ⟨S4x4352x1x1024, .f32⟩
  | .hbm, ⟨8, _⟩ => ⟨S4x4352x1x1024, .f32⟩
  | .hbm, ⟨9, _⟩ => ⟨S4x4352x1x1024, .f32⟩
  | .hbm, ⟨10, _⟩ => ⟨S4x4352x3x1024, .f32⟩
  | .hbm, ⟨11, _⟩ => ⟨S4x4352x3072, .bf16⟩
  | .hbm, ⟨12, _⟩ => ⟨S4x4352x3072, .f32⟩
  | .hbm, ⟨13, _⟩ => ⟨S4x4352x3x1024, .f32⟩
  | .hbm, ⟨14, _⟩ => ⟨S_, .f32⟩
  | .hbm, ⟨15, _⟩ => ⟨S4x4352x3x1024, .f32⟩
  | .hbm, ⟨16, _⟩ => ⟨S4x4352x3x1024, .f32⟩
  | .hbm, ⟨17, _⟩ => ⟨S4x4352x6144, .bf16⟩
  | .hbm, ⟨18, _⟩ => ⟨S4x4352x6144, .f32⟩
  | .hbm, ⟨19, _⟩ => ⟨S4x4352x3x2048, .f32⟩
  | .hbm, ⟨20, _⟩ => ⟨S_, .f32⟩
  | .hbm, ⟨21, _⟩ => ⟨S4x4352x3x2048, .f32⟩
  | .hbm, ⟨22, _⟩ => ⟨S4x4352x3x2048, .f32⟩
  | .hbm, ⟨23, _⟩ => ⟨S4x4352x3x1024, .f32⟩
  | .hbm, ⟨24, _⟩ => ⟨S4x4352x3x1024, .f32⟩
  | .hbm, ⟨25, _⟩ => ⟨S_, .f32⟩
  | .hbm, ⟨26, _⟩ => ⟨S4x4352x3x1024, .f32⟩
  | .hbm, ⟨27, _⟩ => ⟨S4x4352x3x1024, .f32⟩
  | .hbm, ⟨28, _⟩ => ⟨S_, .f32⟩
  | .hbm, ⟨29, _⟩ => ⟨S4x4352x3x1024, .f32⟩
  | .hbm, ⟨30, _⟩ => ⟨S4x4352x3x1024, .f32⟩
  | .hbm, ⟨31, _⟩ => ⟨S4x4352x3x1024, .f32⟩
  | .hbm, ⟨32, _⟩ => ⟨S4x4352x3x1024, .f32⟩
  | .hbm, ⟨33, _⟩ => ⟨S1x3x1024x2048, .f32⟩
  | .hbm, ⟨34, _⟩ => ⟨S3x1024x2048, .f32⟩
  | .hbm, ⟨35, _⟩ => ⟨S3x2048x4x4352, .f32⟩
  | .hbm, ⟨36, _⟩ => ⟨S4x4352x3x2048, .f32⟩
  | .hbm, ⟨37, _⟩ => ⟨S4x4352x3x2048, .f32⟩
  | .hbm, ⟨38, _⟩ => ⟨S4x4352x3x2048, .f32⟩
  | .hbm, ⟨39, _⟩ => ⟨S_, .f32⟩
  | .hbm, ⟨40, _⟩ => ⟨S4x4352x3x2048, .f32⟩
  | .hbm, ⟨41, _⟩ => ⟨S4x4352x3x2048, .f32⟩
  | .hbm, ⟨42, _⟩ => ⟨S_, .f32⟩
  | .hbm, ⟨43, _⟩ => ⟨S4x4352x3x2048, .f32⟩
  | .hbm, ⟨44, _⟩ => ⟨S4x4352x3x2048, .f32⟩
  | .hbm, ⟨45, _⟩ => ⟨S4x4352x3x2048, .f32⟩
  | .hbm, ⟨46, _⟩ => ⟨S_, .f32⟩
  | .hbm, ⟨47, _⟩ => ⟨S4x4352x2048, .f32⟩
  | .hbm, ⟨48, _⟩ => ⟨S4x4352x2048, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel12.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x2048 : Shape := ⟨3, ![4, 4352, 2048]⟩
abbrev S1x544x1024 : Shape := ⟨3, ![1, 544, 1024]⟩
abbrev S1x544x2048 : Shape := ⟨3, ![1, 544, 2048]⟩
abbrev S1x3x1024x2048 : Shape := ⟨4, ![1, 3, 1024, 2048]⟩
abbrev S544x1024 : Shape := ⟨2, ![544, 1024]⟩
abbrev S544x2048 : Shape := ⟨2, ![544, 2048]⟩
abbrev S1x1x1024x2048 : Shape := ⟨4, ![1, 1, 1024, 2048]⟩
abbrev S1024x2048 : Shape := ⟨2, ![1024, 2048]⟩

abbrev nBuf : Space → Nat
  | .hbm => 7
  | .vmem => 21
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x3x1024x2048, .bf16⟩
  | .hbm, ⟨6, _⟩ => ⟨S4x4352x2048, .bf16⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1x544x1024, .f32⟩
  | .local _ .vmem, ⟨5, _⟩ => ⟨S1x544x1024, .f32⟩
  | .local _ .vmem, ⟨6, _⟩ => ⟨S1x544x1024, .bf16⟩
  | .local _ .vmem, ⟨7, _⟩ => ⟨S1x544x1024, .bf16⟩
  | .local _ .vmem, ⟨8, _⟩ => ⟨S1x544x1024, .bf16⟩
  | .local _ .vmem, ⟨9, _⟩ => ⟨S1x544x1024, .bf16⟩
  | .local _ .vmem, ⟨10, _⟩ => ⟨S1x544x1024, .bf16⟩
  | .local _ .vmem, ⟨11, _⟩ => ⟨S1x544x1024, .bf16⟩
  | .local _ .vmem, ⟨12, _⟩ => ⟨S1x544x2048, .bf16⟩
  | .local _ .vmem, ⟨13, _⟩ => ⟨S1x544x2048, .bf16⟩
  | .local _ .vmem, ⟨14, _⟩ => ⟨S1x544x2048, .bf16⟩
  | .local _ .vmem, ⟨15, _⟩ => ⟨S1x544x2048, .bf16⟩
  | .local _ .vmem, ⟨16, _⟩ => ⟨S1x544x2048, .bf16⟩
  | .local _ .vmem, ⟨17, _⟩ => ⟨S1x544x2048, .bf16⟩
  | .local _ .vmem, ⟨18, _⟩ => ⟨S1x3x1024x2048, .bf16⟩
  | .local _ .vmem, ⟨19, _⟩ => ⟨S1x544x2048, .bf16⟩
  | .local _ .vmem, ⟨20, _⟩ => ⟨S1x544x2048, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x3x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x544x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel12Ideal.lean ====
  let c2_i32 : BitVec 32 := 2#32
  ![c2_i32.toNat, c0_i32.toNat, c0_i32_0.toNat, c0_i32_1.toNat]
-- ==== Reference12Ideal.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x1x1024 : Shape := ⟨4, ![4, 4352, 1, 1024]⟩
abbrev S4x4352x3x1024 : Shape := ⟨4, ![4, 4352, 3, 1024]⟩
abbrev S4x4352x3072 : Shape := ⟨3, ![4, 4352, 3072]⟩
abbrev S_ : Shape := ⟨0, ![]⟩
abbrev S4x4352x6144 : Shape := ⟨3, ![4, 4352, 6144]⟩
abbrev S4x4352x3x2048 : Shape := ⟨4, ![4, 4352, 3, 2048]⟩
abbrev S1x3x1024x2048 : Shape := ⟨4, ![1, 3, 1024, 2048]⟩
abbrev S3x1024x2048 : Shape := ⟨3, ![3, 1024, 2048]⟩
abbrev S3x2048x4x4352 : Shape := ⟨4, ![3, 2048, 4, 4352]⟩
abbrev S4x4352x2048 : Shape := ⟨3, ![4, 4352, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x4352x1024, .f32⟩
  | .hbm, ⟨6, _⟩ => ⟨S4x4352x1024, .f32⟩
  | .hbm, ⟨7, _⟩ => ⟨S4x4352x1x1024, .f32⟩
  | .hbm, ⟨8, _⟩ => ⟨S4x4352x1x1024, .f32⟩
  | .hbm, ⟨9, _⟩ => ⟨S4x4352x1x1024, .f32⟩
  | .hbm, ⟨10, _⟩ => ⟨S4x4352x3x1024, .f32⟩
  | .hbm, ⟨11, _⟩ => ⟨S4x4352x3072, .bf16⟩
  | .hbm, ⟨12, _⟩ => ⟨S4x4352x3072, .f32⟩
  | .hbm, ⟨13, _⟩ => ⟨S4x4352x3x1024, .f32⟩
  | .hbm, ⟨14, _⟩ => ⟨S_, .f32⟩
  | .hbm, ⟨15, _⟩ => ⟨S4x4352x3x1024, .f32⟩
  | .hbm, ⟨16, _⟩ => ⟨S4x4352x3x1024, .f32⟩
  | .hbm, ⟨17, _⟩ => ⟨S4x4352x6144, .bf16⟩
  | .hbm, ⟨18, _⟩ => ⟨S4x4352x6144, .f32⟩
  | .hbm, ⟨19, _⟩ => ⟨S4x4352x3x2048, .f32⟩
  | .hbm, ⟨20, _⟩ => ⟨S_, .f32⟩
  | .hbm, ⟨21, _⟩ => ⟨S4x4352x3x2048, .f32⟩
  | .hbm, ⟨22, _⟩ => ⟨S4x4352x3x2048, .f32⟩
  | .hbm, ⟨23, _⟩ => ⟨S4x4352x3x1024, .f32⟩
  | .hbm, ⟨24, _⟩ => ⟨S4x4352x3x1024, .f32⟩
  | .hbm, ⟨25, _⟩ => ⟨S_, .f32⟩
  | .hbm, ⟨26, _⟩ => ⟨S4x4352x3x1024, .f32⟩
  | .hbm, ⟨27, _⟩ => ⟨S4x4352x3x1024, .f32⟩
  | .hbm, ⟨28, _⟩ => ⟨S_, .f32⟩
  | .hbm, ⟨29, _⟩ => ⟨S4x4352x3x1024, .f32⟩
  | .hbm, ⟨30, _⟩ => ⟨S4x4352x3x1024, .f32⟩
  | .hbm, ⟨31, _⟩ => ⟨S4x4352x3x1024, .f32⟩
  | .hbm, ⟨32, _⟩ => ⟨S4x4352x3x1024, .f32⟩
  | .hbm, ⟨33, _⟩ => ⟨S1x3x1024x2048, .f32⟩
  | .hbm, ⟨34, _⟩ => ⟨S3x1024x2048, .f32⟩
  | .hbm, ⟨35, _⟩ => ⟨S3x2048x4x4352, .f32⟩
  | .hbm, ⟨36, _⟩ => ⟨S4x4352x3x2048, .f32⟩
  | .hbm, ⟨37, _⟩ => ⟨S4x4352x3x2048, .f32⟩
  | .hbm, ⟨38, _⟩ => ⟨S4x4352x3x2048, .f32⟩
  | .hbm, ⟨39, _⟩ => ⟨S_, .f32⟩
  | .hbm, ⟨40, _⟩ => ⟨S4x4352x3x2048, .f32⟩
  | .hbm, ⟨41, _⟩ => ⟨S4x4352x3x2048, .f32⟩
  | .hbm, ⟨42, _⟩ => ⟨S_, .f32⟩
  | .hbm, ⟨43, _⟩ => ⟨S4x4352x3x2048, .f32⟩
  | .hbm, ⟨44, _⟩ => ⟨S4x4352x3x2048, .f32⟩
  | .hbm, ⟨45, _⟩ => ⟨S4x4352x3x2048, .f32⟩
  | .hbm, ⟨46, _⟩ => ⟨S_, .f32⟩
  | .hbm, ⟨47, _⟩ => ⟨S4x4352x2048, .f32⟩
  | .hbm, ⟨48, _⟩ => ⟨S4x4352x2048, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel13.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x2048 : Shape := ⟨3, ![4, 4352, 2048]⟩
abbrev S1x544x1024 : Shape := ⟨3, ![1, 544, 1024]⟩
abbrev S1x544x2048 : Shape := ⟨3, ![1, 544, 2048]⟩
abbrev S1x3x1024x2048 : Shape := ⟨4, ![1, 3, 1024, 2048]⟩
abbrev S544x1024 : Shape := ⟨2, ![544, 1024]⟩
abbrev S544x2048 : Shape := ⟨2, ![544, 2048]⟩
abbrev S1x1x1024x2048 : Shape := ⟨4, ![1, 1, 1024, 2048]⟩
abbrev S1024x2048 : Shape := ⟨2, ![1024, 2048]⟩

abbrev nBuf : Space → Nat
  | .hbm => 7
  | .vmem => 21
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x3x1024x2048, .bf16⟩
  | .hbm, ⟨6, _⟩ => ⟨S4x4352x2048, .bf16⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1x544x1024, .f32⟩
  | .local _ .vmem, ⟨5, _⟩ => ⟨S1x544x1024, .f32⟩
  | .local _ .vmem, ⟨6, _⟩ => ⟨S1x544x1024, .bf16⟩
  | .local _ .vmem, ⟨7, _⟩ => ⟨S1x544x1024, .bf16⟩
  | .local _ .vmem, ⟨8, _⟩ => ⟨S1x544x1024, .bf16⟩
  | .local _ .vmem, ⟨9, _⟩ => ⟨S1x544x1024, .bf16⟩
  | .local _ .vmem, ⟨10, _⟩ => ⟨S1x544x1024, .bf16⟩
  | .local _ .vmem, ⟨11, _⟩ => ⟨S1x544x1024, .bf16⟩
  | .local _ .vmem, ⟨12, _⟩ => ⟨S1x544x2048, .bf16⟩
  | .local _ .vmem, ⟨13, _⟩ => ⟨S1x544x2048, .bf16⟩
  | .local _ .vmem, ⟨14, _⟩ => ⟨S1x544x2048, .bf16⟩
  | .local _ .vmem, ⟨15, _⟩ => ⟨S1x544x2048, .bf16⟩
  | .local _ .vmem, ⟨16, _⟩ => ⟨S1x544x2048, .bf16⟩
  | .local _ .vmem, ⟨17, _⟩ => ⟨S1x544x2048, .bf16⟩
  | .local _ .vmem, ⟨18, _⟩ => ⟨S1x3x1024x2048, .bf16⟩
  | .local _ .vmem, ⟨19, _⟩ => ⟨S1x544x2048, .bf16⟩
  | .local _ .vmem, ⟨20, _⟩ => ⟨S1x544x2048, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x3x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x544x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference13Ideal.lean ====
abbrev S4x4352x1024 : Shape := ⟨3, ![4, 4352, 1024]⟩
abbrev S4x4352x14336 : Shape := ⟨3, ![4, 4352, 14336]⟩
abbrev S4x3x1024x2048 : Shape := ⟨4, ![4, 3, 1024, 2048]⟩
abbrev S4x4352x1x1024 : Shape := ⟨4, ![4, 4352, 1, 1024]⟩
abbrev S4x4352x3x1024 : Shape := ⟨4, ![4, 4352, 3, 1024]⟩
abbrev S4x4352x3072 : Shape := ⟨3, ![4, 4352, 3072]⟩
abbrev S_ : Shape := ⟨0, ![]⟩
abbrev S4x4352x6144 : Shape := ⟨3, ![4, 4352, 6144]⟩
abbrev S4x4352x3x2048 : Shape := ⟨4, ![4, 4352, 3, 2048]⟩
abbrev S1x3x1024x2048 : Shape := ⟨4, ![1, 3, 1024, 2048]⟩
abbrev S3x1024x2048 : Shape := ⟨3, ![3, 1024, 2048]⟩
abbrev S3x2048x4x4352 : Shape := ⟨4, ![3, 2048, 4, 4352]⟩
abbrev S4x4352x2048 : Shape := ⟨3, ![4, 4352, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x1024, .f32⟩
  | .hbm, ⟨3, _⟩ => ⟨S4x4352x14336, .bf16⟩
  | .hbm, ⟨4, _⟩ => ⟨S4x3x1024x2048, .f32⟩
  | .hbm, ⟨5, _⟩ => ⟨S4x4352x1024, .f32⟩
  | .hbm, ⟨6, _⟩ => ⟨S4x4352x1024, .f32⟩
  | .hbm, ⟨7, _⟩ => ⟨S4x4352x1x1024, .f32⟩
  | .hbm, ⟨8, _⟩ => ⟨S4x4352x1x1024, .f32⟩
  | .hbm, ⟨9, _⟩ => ⟨S4x4352x1x1024, .f32⟩
  | .hbm, ⟨10, _⟩ => ⟨S4x4352x3x1024, .f32⟩
  | .hbm, ⟨11, _⟩ => ⟨S4x4352x3072, .bf16⟩
  | .hbm, ⟨12, _⟩ => ⟨S4x4352x3072, .f32⟩
  | .hbm, ⟨13, _⟩ => ⟨S4x4352x3x1024, .f32⟩
  | .hbm, ⟨14, _⟩ => ⟨S_, .f32⟩
  | .hbm, ⟨15, _⟩ => ⟨S4x4352x3x1024, .f32⟩
  | .hbm, ⟨16, _⟩ => ⟨S4x4352x3x1024, .f32⟩
  | .hbm, ⟨17, _⟩ => ⟨S4x4352x6144, .bf16⟩
  | .hbm, ⟨18, _⟩ => ⟨S4x4352x6144, .f32⟩
  | .hbm, ⟨19, _⟩ => ⟨S4x4352x3x2048, .f32⟩
  | .hbm, ⟨20, _⟩ => ⟨S_, .f32⟩
  | .hbm, ⟨21, _⟩ => ⟨S4x4352x3x2048, .f32⟩
  | .hbm, ⟨22, _⟩ => ⟨S4x4352x3x2048, .f32⟩
  | .hbm, ⟨23, _⟩ => ⟨S4x4352x3x1024, .f32⟩
  | .hbm, ⟨24, _⟩ => ⟨S4x4352x3x1024, .f32⟩
  | .hbm, ⟨25, _⟩ => ⟨S_, .f32⟩
  | .hbm, ⟨26, _⟩ => ⟨S4x4352x3x1024, .f32⟩
  | .hbm, ⟨27, _⟩ => ⟨S4x4352x3x1024, .f32⟩
  | .hbm, ⟨28, _⟩ => ⟨S_, .f32⟩
  | .hbm, ⟨29, _⟩ => ⟨S4x4352x3x1024, .f32⟩
  | .hbm, ⟨30, _⟩ => ⟨S4x4352x3x1024, .f32⟩
  | .hbm, ⟨31, _⟩ => ⟨S4x4352x3x1024, .f32⟩
  | .hbm, ⟨32, _⟩ => ⟨S4x4352x3x1024, .f32⟩
  | .hbm, ⟨33, _⟩ => ⟨S1x3x1024x2048, .f32⟩
  | .hbm, ⟨34, _⟩ => ⟨S3x1024x2048, .f32⟩
  | .hbm, ⟨35, _⟩ => ⟨S3x2048x4x4352, .f32⟩
  | .hbm, ⟨36, _⟩ => ⟨S4x4352x3x2048, .f32⟩
  | .hbm, ⟨37, _⟩ => ⟨S4x4352x3x2048, .f32⟩
  | .hbm, ⟨38, _⟩ => ⟨S4x4352x3x2048, .f32⟩
  | .hbm, ⟨39, _⟩ => ⟨S_, .f32⟩
  | .hbm, ⟨40, _⟩ => ⟨S4x4352x3x2048, .f32⟩
  | .hbm, ⟨41, _⟩ => ⟨S4x4352x3x2048, .f32⟩
  | .hbm, ⟨42, _⟩ => ⟨S_, .f32⟩
  | .hbm, ⟨43, _⟩ => ⟨S4x4352x3x2048, .f32⟩
  | .hbm, ⟨44, _⟩ => ⟨S4x4352x3x2048, .f32⟩
  | .hbm, ⟨45, _⟩ => ⟨S4x4352x3x2048, .f32⟩
  | .hbm, ⟨46, _⟩ => ⟨S_, .f32⟩
  | .hbm, ⟨47, _⟩ => ⟨S4x4352x2048, .f32⟩
  | .hbm, ⟨48, _⟩ => ⟨S4x4352x2048, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Proof.Attend.lean ====
/- The attention kernel's body in the vocabulary its text repeats: a chunk of scores, its row maxima, the
   weighted values, and the rescaling of what the chunks before left. -/
module

public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic

variable {F : FTy → Type} [FloatOps F]

/-- The scores of a tile of queries against a chunk of 512 keys. -/
def s512 (q : Vec F S1x256x256 .bf16) (k : Vec F S1x512x256 .bf16) : FVec F S256x512 .f32 :=
  matmul dot_S256x256_S512x256_S256x512_1_1_0_0_n_n none (shapeCast S256x256 q shapeCasts_S1x256x256_S256x256)
    (shapeCast S512x256 k shapeCasts_S1x512x256_S512x256) (constant S256x512 .f32 0x00000000#32)

/-- The row maxima of a chunk of 512 scores. -/
def max512 (s : FVec F S256x512 .f32) : FVec F S256x1 .f32 :=
  shapeCast S256x1 (multiReduction .maximumf [1] S256 s 0xFF800000#32 reduces_S256x512_S256 (.inl rfl) rfl) shapeCasts_S256_S256x1

/-- The values of a chunk of 512 keys weighted by `2^(score - m)`. -/
def pv512 (s : FVec F S256x512 .f32) (m : FVec F S256x1 .f32) (v : Vec F S1x512x256 .bf16) : FVec F S256x256 .f32 :=
  matmul dot_S256x512_S512x256_S256x256_1_0_0_1_n_n none
    (truncf .bf16 (exp2 (subf s (broadcastTo S256x512 m broadcasts_S256x1_S256x512))) bitsLt_bf16_f32)
    (shapeCast S512x256 v shapeCasts_S1x512x256_S512x256) (constant S256x256 .f32 0x00000000#32)

/-- The scores of a tile of queries against a chunk of 256 keys. -/
def s256 (q : Vec F S1x256x256 .bf16) (k : Vec F S1x256x256 .bf16) : FVec F S256x256 .f32 :=
  matmul dot_S256x256_S256x256_S256x256_1_1_0_0_n_n none (shapeCast S256x256 q shapeCasts_S1x256x256_S256x256)
    (shapeCast S256x256 k shapeCasts_S1x256x256_S256x256) (constant S256x256 .f32 0x00000000#32)

/-- The row maxima of a chunk of 256 scores. -/
def max256 (s : FVec F S256x256 .f32) : FVec F S256x1 .f32 :=
  shapeCast S256x1 (multiReduction .maximumf [1] S256 s 0xFF800000#32 reduces_S256x256_S256 (.inl rfl) rfl) shapeCasts_S256_S256x1

/-- The values of a chunk of 256 keys weighted by `2^(score - m)`. -/
def pv256 (s : FVec F S256x256 .f32) (m : FVec F S256x1 .f32) (v : Vec F S1x256x256 .bf16) : FVec F S256x256 .f32 :=
  matmul dot_S256x256_S256x256_S256x256_1_0_0_1_n_n none
    (truncf .bf16 (exp2 (subf s (broadcastTo S256x256 m broadcasts_S256x1_S256x256))) bitsLt_bf16_f32)
    (shapeCast S256x256 v shapeCasts_S1x256x256_S256x256) (constant S256x256 .f32 0x00000000#32)

/-- What the chunks before left, rescaled from the old maxima to the new. -/
def grow (a : FVec F S256x256 .f32) (m m' : FVec F S256x1 .f32) : FVec F S256x256 .f32 :=
  mulf a (broadcastTo S256x256 (exp2 (subf m m')) broadcasts_S256x1_S256x256)

/-- The sums of the weighted values divided by the sums of the weights, which the upper lanes hold. -/
def quot (a : FVec F S256x256 .f32) : FVec F S256x128 .f32 :=
  divf (extractStridedSlice S256x128 ![0, 0] a slices_S256x256_o0_0_S256x128)
    (extractStridedSlice S256x128 ![0, 128] a slices_S256x256_o0_128_S256x128)

/-- The maxima after one more chunk of 512 keys. -/
def mNext (m : FVec F S256x1 .f32) (s : FVec F S256x512 .f32) : FVec F S256x1 .f32 := maximumf m (max512 s)
/-- The running sums after one more chunk of 512 keys. -/
def aNext (m : FVec F S256x1 .f32) (a : FVec F S256x256 .f32) (s : FVec F S256x512 .f32) (v : Vec F S1x512x256 .bf16) :
    FVec F S256x256 .f32 := addf (grow a m (mNext m s)) (pv512 s (mNext m s) v)
/-- The maxima after the last chunk, of 256 keys. -/
def mLast (m : FVec F S256x1 .f32) (s : FVec F S256x256 .f32) : FVec F S256x1 .f32 := maximumf m (max256 s)
/-- The running sums after the last chunk. -/
def aLast (m : FVec F S256x1 .f32) (a : FVec F S256x256 .f32) (s : FVec F S256x256 .f32) (v : Vec F S1x256x256 .bf16) :
    FVec F S256x256 .f32 := addf (grow a m (mLast m s)) (pv256 s (mLast m s) v)

/-- One head over the 256 context keys. -/
def headA (q k v : Vec F S1x256x256 .bf16) : FVec F S256x128 .f32 :=
  quot (pv256 (s256 q k) (max256 (s256 q k)) v)

/-- One head over all 4352 keys, eight chunks of 512 and one of 256. -/
def headB (q : Vec F S1x256x256 .bf16) (k : Fin 8 → Vec F S1x512x256 .bf16) (kl : Vec F S1x256x256 .bf16)
    (v : Fin 8 → Vec F S1x512x256 .bf16) (vl : Vec F S1x256x256 .bf16) : FVec F S256x128 .f32 :=
  let m0 := max512 (s512 q (k 0))
  let a0 := pv512 (s512 q (k 0)) m0 (v 0)
  let m1 := mNext m0 (s512 q (k 1))
  let a1 := aNext m0 a0 (s512 q (k 1)) (v 1)
  let m2 := mNext m1 (s512 q (k 2))
  let a2 := aNext m1 a1 (s512 q (k 2)) (v 2)
  let m3 := mNext m2 (s512 q (k 3))
  let a3 := aNext m2 a2 (s512 q (k 3)) (v 3)
  let m4 := mNext m3 (s512 q (k 4))
  let a4 := aNext m3 a3 (s512 q (k 4)) (v 4)
  let m5 := mNext m4 (s512 q (k 5))
  let a5 := aNext m4 a4 (s512 q (k 5)) (v 5)
  let m6 := mNext m5 (s512 q (k 6))
  let a6 := aNext m5 a5 (s512 q (k 6)) (v 6)
  let m7 := mNext m6 (s512 q (k 7))
  let a7 := aNext m6 a6 (s512 q (k 7)) (v 7)
  quot (aLast m7 a7 (s256 q kl) vl)

/-- The four heads of a block side by side, as stored. -/
def join (h0 h1 h2 h3 : FVec F S256x128 .f32) : Vec F S1x256x512 .bf16 :=
  shapeCast S1x256x512 (truncf .bf16 (concatenate S256x512 1 [⟨S256x128, h0⟩, ⟨S256x128, h1⟩, ⟨S256x128, h2⟩, ⟨S256x128, h3⟩]
    concatenates_S256x128_S256x128_S256x128_S256x128_S256x512_d1) bitsLt_bf16_f32) shapeCasts_S256x512_S1x256x512

/-- What a block of context queries stores, from the blocks of queries and keys and the extended values. -/
def blockA (x0 : Vec F S1x256x1024 .bf16) (x1 : Vec F S1x4352x1024 .bf16) (xs0 : Vec F S4x4352x256 .bf16) : Vec F S1x256x512 .bf16 :=
  join
    (headA (View.ld x0 (Rect.unit ![0, 0, 0] ![1, 256, 256] inb_S1x256x1024_S1x256x256_0_0_0))
      (View.ld x1 (Rect.unit ![0, 0, 0] ![1, 256, 256] inb_S1x4352x1024_S1x256x256_0_0_0))
      (View.ld xs0 (Rect.unit ![0, 0, 0] ![1, 256, 256] inb_S4x4352x256_S1x256x256_0_0_0)))
    (headA (View.ld x0 (Rect.unit ![0, 0, 256] ![1, 256, 256] inb_S1x256x1024_S1x256x256_0_0_256))
      (View.ld x1 (Rect.unit ![0, 0, 256] ![1, 256, 256] inb_S1x4352x1024_S1x256x256_0_0_256))
      (View.ld xs0 (Rect.unit ![1, 0, 0] ![1, 256, 256] inb_S4x4352x256_S1x256x256_1_0_0)))
    (headA (View.ld x0 (Rect.unit ![0, 0, 512] ![1, 256, 256] inb_S1x256x1024_S1x256x256_0_0_512))
      (View.ld x1 (Rect.unit ![0, 0, 512] ![1, 256, 256] inb_S1x4352x1024_S1x256x256_0_0_512))
      (View.ld xs0 (Rect.unit ![2, 0, 0] ![1, 256, 256] inb_S4x4352x256_S1x256x256_2_0_0)))
    (headA (View.ld x0 (Rect.unit ![0, 0, 768] ![1, 256, 256] inb_S1x256x1024_S1x256x256_0_0_768))
      (View.ld x1 (Rect.unit ![0, 0, 768] ![1, 256, 256] inb_S1x4352x1024_S1x256x256_0_0_768))
      (View.ld xs0 (Rect.unit ![3, 0, 0] ![1, 256, 256] inb_S4x4352x256_S1x256x256_3_0_0)))

/-- What a block of latent queries stores, from the blocks of queries and keys and the extended values. -/
def blockB (x0 : Vec F S1x256x1024 .bf16) (x1 : Vec F S1x4352x1024 .bf16) (xs0 : Vec F S4x4352x256 .bf16) : Vec F S1x256x512 .bf16 :=
  join
    (headB (View.ld x0 (Rect.unit ![0, 0, 0] ![1, 256, 256] inb_S1x256x1024_S1x256x256_0_0_0))
      ![(View.ld x1 (Rect.unit ![0, 0, 0] ![1, 512, 256] inb_S1x4352x1024_S1x512x256_0_0_0)),
        (View.ld x1 (Rect.unit ![0, 512, 0] ![1, 512, 256] inb_S1x4352x1024_S1x512x256_0_512_0)),
        (View.ld x1 (Rect.unit ![0, 1024, 0] ![1, 512, 256] inb_S1x4352x1024_S1x512x256_0_1024_0)),
        (View.ld x1 (Rect.unit ![0, 1536, 0] ![1, 512, 256] inb_S1x4352x1024_S1x512x256_0_1536_0)),
        (View.ld x1 (Rect.unit ![0, 2048, 0] ![1, 512, 256] inb_S1x4352x1024_S1x512x256_0_2048_0)),
        (View.ld x1 (Rect.unit ![0, 2560, 0] ![1, 512, 256] inb_S1x4352x1024_S1x512x256_0_2560_0)),
        (View.ld x1 (Rect.unit ![0, 3072, 0] ![1, 512, 256] inb_S1x4352x1024_S1x512x256_0_3072_0)),
        (View.ld x1 (Rect.unit ![0, 3584, 0] ![1, 512, 256] inb_S1x4352x1024_S1x512x256_0_3584_0))]
      (View.ld x1 (Rect.unit ![0, 4096, 0] ![1, 256, 256] inb_S1x4352x1024_S1x256x256_0_4096_0))
      ![(View.ld xs0 (Rect.unit ![0, 0, 0] ![1, 512, 256] inb_S4x4352x256_S1x512x256_0_0_0)),
        (View.ld xs0 (Rect.unit ![0, 512, 0] ![1, 512, 256] inb_S4x4352x256_S1x512x256_0_512_0)),
        (View.ld xs0 (Rect.unit ![0, 1024, 0] ![1, 512, 256] inb_S4x4352x256_S1x512x256_0_1024_0)),
        (View.ld xs0 (Rect.unit ![0, 1536, 0] ![1, 512, 256] inb_S4x4352x256_S1x512x256_0_1536_0)),
        (View.ld xs0 (Rect.unit ![0, 2048, 0] ![1, 512, 256] inb_S4x4352x256_S1x512x256_0_2048_0)),
        (View.ld xs0 (Rect.unit ![0, 2560, 0] ![1, 512, 256] inb_S4x4352x256_S1x512x256_0_2560_0)),
        (View.ld xs0 (Rect.unit ![0, 3072, 0] ![1, 512, 256] inb_S4x4352x256_S1x512x256_0_3072_0)),
        (View.ld xs0 (Rect.unit ![0, 3584, 0] ![1, 512, 256] inb_S4x4352x256_S1x512x256_0_3584_0))]
      (View.ld xs0 (Rect.unit ![0, 4096, 0] ![1, 256, 256] inb_S4x4352x256_S1x256x256_0_4096_0)))
    (headB (View.ld x0 (Rect.unit ![0, 0, 256] ![1, 256, 256] inb_S1x256x1024_S1x256x256_0_0_256))
      ![(View.ld x1 (Rect.unit ![0, 0, 256] ![1, 512, 256] inb_S1x4352x1024_S1x512x256_0_0_256)),
        (View.ld x1 (Rect.unit ![0, 512, 256] ![1, 512, 256] inb_S1x4352x1024_S1x512x256_0_512_256)),
        (View.ld x1 (Rect.unit ![0, 1024, 256] ![1, 512, 256] inb_S1x4352x1024_S1x512x256_0_1024_256)),
        (View.ld x1 (Rect.unit ![0, 1536, 256] ![1, 512, 256] inb_S1x4352x1024_S1x512x256_0_1536_256)),
        (View.ld x1 (Rect.unit ![0, 2048, 256] ![1, 512, 256] inb_S1x4352x1024_S1x512x256_0_2048_256)),
        (View.ld x1 (Rect.unit ![0, 2560, 256] ![1, 512, 256] inb_S1x4352x1024_S1x512x256_0_2560_256)),
        (View.ld x1 (Rect.unit ![0, 3072, 256] ![1, 512, 256] inb_S1x4352x1024_S1x512x256_0_3072_256)),
        (View.ld x1 (Rect.unit ![0, 3584, 256] ![1, 512, 256] inb_S1x4352x1024_S1x512x256_0_3584_256))]
      (View.ld x1 (Rect.unit ![0, 4096, 256] ![1, 256, 256] inb_S1x4352x1024_S1x256x256_0_4096_256))
      ![(View.ld xs0 (Rect.unit ![1, 0, 0] ![1, 512, 256] inb_S4x4352x256_S1x512x256_1_0_0)),
        (View.ld xs0 (Rect.unit ![1, 512, 0] ![1, 512, 256] inb_S4x4352x256_S1x512x256_1_512_0)),
        (View.ld xs0 (Rect.unit ![1, 1024, 0] ![1, 512, 256] inb_S4x4352x256_S1x512x256_1_1024_0)),
        (View.ld xs0 (Rect.unit ![1, 1536, 0] ![1, 512, 256] inb_S4x4352x256_S1x512x256_1_1536_0)),
        (View.ld xs0 (Rect.unit ![1, 2048, 0] ![1, 512, 256] inb_S4x4352x256_S1x512x256_1_2048_0)),
        (View.ld xs0 (Rect.unit ![1, 2560, 0] ![1, 512, 256] inb_S4x4352x256_S1x512x256_1_2560_0)),
        (View.ld xs0 (Rect.unit ![1, 3072, 0] ![1, 512, 256] inb_S4x4352x256_S1x512x256_1_3072_0)),
        (View.ld xs0 (Rect.unit ![1, 3584, 0] ![1, 512, 256] inb_S4x4352x256_S1x512x256_1_3584_0))]
      (View.ld xs0 (Rect.unit ![1, 4096, 0] ![1, 256, 256] inb_S4x4352x256_S1x256x256_1_4096_0)))
    (headB (View.ld x0 (Rect.unit ![0, 0, 512] ![1, 256, 256] inb_S1x256x1024_S1x256x256_0_0_512))
      ![(View.ld x1 (Rect.unit ![0, 0, 512] ![1, 512, 256] inb_S1x4352x1024_S1x512x256_0_0_512)),
        (View.ld x1 (Rect.unit ![0, 512, 512] ![1, 512, 256] inb_S1x4352x1024_S1x512x256_0_512_512)),
        (View.ld x1 (Rect.unit ![0, 1024, 512] ![1, 512, 256] inb_S1x4352x1024_S1x512x256_0_1024_512)),
        (View.ld x1 (Rect.unit ![0, 1536, 512] ![1, 512, 256] inb_S1x4352x1024_S1x512x256_0_1536_512)),
        (View.ld x1 (Rect.unit ![0, 2048, 512] ![1, 512, 256] inb_S1x4352x1024_S1x512x256_0_2048_512)),
        (View.ld x1 (Rect.unit ![0, 2560, 512] ![1, 512, 256] inb_S1x4352x1024_S1x512x256_0_2560_512)),
        (View.ld x1 (Rect.unit ![0, 3072, 512] ![1, 512, 256] inb_S1x4352x1024_S1x512x256_0_3072_512)),
        (View.ld x1 (Rect.unit ![0, 3584, 512] ![1, 512, 256] inb_S1x4352x1024_S1x512x256_0_3584_512))]
      (View.ld x1 (Rect.unit ![0, 4096, 512] ![1, 256, 256] inb_S1x4352x1024_S1x256x256_0_4096_512))
      ![(View.ld xs0 (Rect.unit ![2, 0, 0] ![1, 512, 256] inb_S4x4352x256_S1x512x256_2_0_0)),
        (View.ld xs0 (Rect.unit ![2, 512, 0] ![1, 512, 256] inb_S4x4352x256_S1x512x256_2_512_0)),
        (View.ld xs0 (Rect.unit ![2, 1024, 0] ![1, 512, 256] inb_S4x4352x256_S1x512x256_2_1024_0)),
        (View.ld xs0 (Rect.unit ![2, 1536, 0] ![1, 512, 256] inb_S4x4352x256_S1x512x256_2_1536_0)),
        (View.ld xs0 (Rect.unit ![2, 2048, 0] ![1, 512, 256] inb_S4x4352x256_S1x512x256_2_2048_0)),
        (View.ld xs0 (Rect.unit ![2, 2560, 0] ![1, 512, 256] inb_S4x4352x256_S1x512x256_2_2560_0)),
        (View.ld xs0 (Rect.unit ![2, 3072, 0] ![1, 512, 256] inb_S4x4352x256_S1x512x256_2_3072_0)),
        (View.ld xs0 (Rect.unit ![2, 3584, 0] ![1, 512, 256] inb_S4x4352x256_S1x512x256_2_3584_0))]
      (View.ld xs0 (Rect.unit ![2, 4096, 0] ![1, 256, 256] inb_S4x4352x256_S1x256x256_2_4096_0)))
    (headB (View.ld x0 (Rect.unit ![0, 0, 768] ![1, 256, 256] inb_S1x256x1024_S1x256x256_0_0_768))
      ![(View.ld x1 (Rect.unit ![0, 0, 768] ![1, 512, 256] inb_S1x4352x1024_S1x512x256_0_0_768)),
        (View.ld x1 (Rect.unit ![0, 512, 768] ![1, 512, 256] inb_S1x4352x1024_S1x512x256_0_512_768)),
        (View.ld x1 (Rect.unit ![0, 1024, 768] ![1, 512, 256] inb_S1x4352x1024_S1x512x256_0_1024_768)),
        (View.ld x1 (Rect.unit ![0, 1536, 768] ![1, 512, 256] inb_S1x4352x1024_S1x512x256_0_1536_768)),
        (View.ld x1 (Rect.unit ![0, 2048, 768] ![1, 512, 256] inb_S1x4352x1024_S1x512x256_0_2048_768)),
        (View.ld x1 (Rect.unit ![0, 2560, 768] ![1, 512, 256] inb_S1x4352x1024_S1x512x256_0_2560_768)),
        (View.ld x1 (Rect.unit ![0, 3072, 768] ![1, 512, 256] inb_S1x4352x1024_S1x512x256_0_3072_768)),
        (View.ld x1 (Rect.unit ![0, 3584, 768] ![1, 512, 256] inb_S1x4352x1024_S1x512x256_0_3584_768))]
      (View.ld x1 (Rect.unit ![0, 4096, 768] ![1, 256, 256] inb_S1x4352x1024_S1x256x256_0_4096_768))
      ![(View.ld xs0 (Rect.unit ![3, 0, 0] ![1, 512, 256] inb_S4x4352x256_S1x512x256_3_0_0)),
        (View.ld xs0 (Rect.unit ![3, 512, 0] ![1, 512, 256] inb_S4x4352x256_S1x512x256_3_512_0)),
        (View.ld xs0 (Rect.unit ![3, 1024, 0] ![1, 512, 256] inb_S4x4352x256_S1x512x256_3_1024_0)),
        (View.ld xs0 (Rect.unit ![3, 1536, 0] ![1, 512, 256] inb_S4x4352x256_S1x512x256_3_1536_0)),
        (View.ld xs0 (Rect.unit ![3, 2048, 0] ![1, 512, 256] inb_S4x4352x256_S1x512x256_3_2048_0)),
        (View.ld xs0 (Rect.unit ![3, 2560, 0] ![1, 512, 256] inb_S4x4352x256_S1x512x256_3_2560_0)),
        (View.ld xs0 (Rect.unit ![3, 3072, 0] ![1, 512, 256] inb_S4x4352x256_S1x512x256_3_3072_0)),
        (View.ld xs0 (Rect.unit ![3, 3584, 0] ![1, 512, 256] inb_S4x4352x256_S1x512x256_3_3584_0))]
      (View.ld xs0 (Rect.unit ![3, 4096, 0] ![1, 256, 256] inb_S4x4352x256_S1x256x256_3_4096_0)))

/-- The extended values a context block's run leaves: per head, its 128 value lanes and 128 lanes of ones. -/
def vxOf (x2 : Vec F S1x4352x512 .bf16) : Vec F S4x4352x256 .bf16 :=
  View.canon [⟨Rect.unit ![3, 0, 128] ![1, 4352, 128] inb_S4x4352x256_S1x4352x128_3_0_128, k0_pay3⟩,
    ⟨Rect.unit ![3, 0, 0] ![1, 4352, 128] inb_S4x4352x256_S1x4352x128_3_0_0, k0_pay2 (View.ld x2 (Rect.unit ![0, 0, 384] ![1, 4352, 128] inb_S1x4352x512_S1x4352x128_0_0_384))⟩,
    ⟨Rect.unit ![2, 0, 128] ![1, 4352, 128] inb_S4x4352x256_S1x4352x128_2_0_128, k0_pay1 k0_pay11⟩,
    ⟨Rect.unit ![2, 0, 0] ![1, 4352, 128] inb_S4x4352x256_S1x4352x128_2_0_0, k0_pay10 (View.ld x2 (Rect.unit ![0, 0, 256] ![1, 4352, 128] inb_S1x4352x512_S1x4352x128_0_0_256))⟩,
    ⟨Rect.unit ![1, 0, 128] ![1, 4352, 128] inb_S4x4352x256_S1x4352x128_1_0_128, k0_pay9⟩,
    ⟨Rect.unit ![1, 0, 0] ![1, 4352, 128] inb_S4x4352x256_S1x4352x128_1_0_0, k0_pay8 (View.ld x2 (Rect.unit ![0, 0, 128] ![1, 4352, 128] inb_S1x4352x512_S1x4352x128_0_0_128))⟩,
    ⟨Rect.unit ![0, 0, 128] ![1, 4352, 128] inb_S4x4352x256_S1x4352x128_0_0_128, k0_pay7⟩,
    ⟨Rect.unit ![0, 0, 0] ![1, 4352, 128] inb_S4x4352x256_S1x4352x128_0_0_0, k0_pay6 (View.ld x2 (Rect.unit ![0, 0, 0] ![1, 4352, 128] inb_S1x4352x512_S1x4352x128_0_0_0))⟩]

/-- A latent block's run stores `blockB` of its blocks. -/
theorem out_B (c : Dev nD) (i : grid0.Coords) (arg3 : Memref sig .tc .vmem S1x256x1024 .bf16) (harg3 : arg3.IsWhole) (arg4 : Memref sig .tc .vmem S1x4352x1024 .bf16) (harg4 : arg4.IsWhole) (arg5 : Memref sig .tc .vmem S1x4352x512 .bf16) (harg5 : arg5.IsWhole) (arg6 : Memref sig .tc .vmem S1x256x512 .bf16) (harg6 : arg6.IsWhole) (arg7 : Memref sig .tc .vmem S4x4352x256 .bf16) (harg7 : arg7.IsWhole) (hc0 : ¬cond0_0 i) (hc1 : ¬cond0_1 i) (hc2 : cond0_2 i)
    (x0 : Vec F S1x256x1024 .bf16) (x1 : Vec F S1x4352x1024 .bf16) (x2 : Vec F S1x4352x512 .bf16) (xs0 : Vec F S4x4352x256 .bf16) :
    out0_B_3 c i arg3 harg3 arg4 harg4 arg5 harg5 arg6 harg6 arg7 harg7 hc0 hc1 hc2 x0 x1 x2 xs0 = blockB x0 x1 xs0 := by
  unfold out0_B_3
  rw [View.read_writes_eq_canon _ _ _ (cover0_B_3 c _ _ _ _ _ _ _ _ _ _ _ _ _ _ _ _ _ _)]
  unfold kernelRun0_B
  dsimp only
  sl_unfold_words
  simp only [View.readAt_eq_ld, harg3.read_unread, harg4.read_unread, harg7.read_unread]
  refine (View.canon_unit_zero (by funext a; fin_cases a <;> rfl) _ _).trans ?_
  rfl

/-- A context block's run leaves `vxOf` of its block of values in the scratch. -/
theorem sout_A (c : Dev nD) (i : grid0.Coords) (arg3 : Memref sig .tc .vmem S1x256x1024 .bf16) (harg3 : arg3.IsWhole) (arg4 : Memref sig .tc .vmem S1x4352x1024 .bf16) (harg4 : arg4.IsWhole) (arg5 : Memref sig .tc .vmem S1x4352x512 .bf16) (harg5 : arg5.IsWhole) (arg6 : Memref sig .tc .vmem S1x256x512 .bf16) (harg6 : arg6.IsWhole) (arg7 : Memref sig .tc .vmem S4x4352x256 .bf16) (harg7 : arg7.IsWhole) (hc0 : cond0_0 i) (hc1 : cond0_1 i) (hc2 : ¬cond0_2 i)
    (x0 : Vec F S1x256x1024 .bf16) (x1 : Vec F S1x4352x1024 .bf16) (x2 : Vec F S1x4352x512 .bf16) :
    sout0_A_0 c i arg3 harg3 arg4 harg4 arg5 harg5 arg6 harg6 arg7 harg7 hc0 hc1 hc2 x0 x1 x2 = vxOf x2 := by
  unfold sout0_A_0
  rw [View.read_writes_eq_canon _ _ _ (scover0_A_0 c _ _ _ _ _ _ _ _ _ _ _ _ _ _ _ _ _)]
  unfold kernelRun0_A
  dsimp only
  sl_unfold_words
  simp only [View.readAt_eq_ld, harg5.read_unread]
  rfl

/-- The eight stores cover the scratch. -/
theorem vx_cover (x2 : Vec F S1x4352x512 .bf16) (y : S4x4352x256.Idx) :
    ∃ pc ∈ ([⟨Rect.unit ![3, 0, 128] ![1, 4352, 128] inb_S4x4352x256_S1x4352x128_3_0_128, k0_pay3⟩,
    ⟨Rect.unit ![3, 0, 0] ![1, 4352, 128] inb_S4x4352x256_S1x4352x128_3_0_0, k0_pay2 (View.ld x2 (Rect.unit ![0, 0, 384] ![1, 4352, 128] inb_S1x4352x512_S1x4352x128_0_0_384))⟩,
    ⟨Rect.unit ![2, 0, 128] ![1, 4352, 128] inb_S4x4352x256_S1x4352x128_2_0_128, k0_pay1 k0_pay11⟩,
    ⟨Rect.unit ![2, 0, 0] ![1, 4352, 128] inb_S4x4352x256_S1x4352x128_2_0_0, k0_pay10 (View.ld x2 (Rect.unit ![0, 0, 256] ![1, 4352, 128] inb_S1x4352x512_S1x4352x128_0_0_256))⟩,
    ⟨Rect.unit ![1, 0, 128] ![1, 4352, 128] inb_S4x4352x256_S1x4352x128_1_0_128, k0_pay9⟩,
    ⟨Rect.unit ![1, 0, 0] ![1, 4352, 128] inb_S4x4352x256_S1x4352x128_1_0_0, k0_pay8 (View.ld x2 (Rect.unit ![0, 0, 128] ![1, 4352, 128] inb_S1x4352x512_S1x4352x128_0_0_128))⟩,
    ⟨Rect.unit ![0, 0, 128] ![1, 4352, 128] inb_S4x4352x256_S1x4352x128_0_0_128, k0_pay7⟩,
    ⟨Rect.unit ![0, 0, 0] ![1, 4352, 128] inb_S4x4352x256_S1x4352x128_0_0_0, k0_pay6 (View.ld x2 (Rect.unit ![0, 0, 0] ![1, 4352, 128] inb_S1x4352x512_S1x4352x128_0_0_0))⟩] : List (View.Piece (Elt F) S4x4352x256 .bf16)), y ∈ pc.1.set :=
  View.cover_of_tiledL (s := S4x4352x256) _ S1x4352x128.size (by sl_kernel_rfl) y

/-- A context block's run stores `blockA` of its blocks and of the extended values it has just made. -/
theorem out_A (c : Dev nD) (i : grid0.Coords) (arg3 : Memref sig .tc .vmem S1x256x1024 .bf16) (harg3 : arg3.IsWhole) (arg4 : Memref sig .tc .vmem S1x4352x1024 .bf16) (harg4 : arg4.IsWhole) (arg5 : Memref sig .tc .vmem S1x4352x512 .bf16) (harg5 : arg5.IsWhole) (arg6 : Memref sig .tc .vmem S1x256x512 .bf16) (harg6 : arg6.IsWhole) (arg7 : Memref sig .tc .vmem S4x4352x256 .bf16) (harg7 : arg7.IsWhole) (hc0 : cond0_0 i) (hc1 : cond0_1 i) (hc2 : ¬cond0_2 i)
    (x0 : Vec F S1x256x1024 .bf16) (x1 : Vec F S1x4352x1024 .bf16) (x2 : Vec F S1x4352x512 .bf16) :
    out0_A_3 c i arg3 harg3 arg4 harg4 arg5 harg5 arg6 harg6 arg7 harg7 hc0 hc1 hc2 x0 x1 x2 = blockA x0 x1 (vxOf x2) := by
  unfold out0_A_3
  rw [View.read_writes_eq_canon _ _ _ (cover0_A_3 c _ _ _ _ _ _ _ _ _ _ _ _ _ _ _ _ _)]
  unfold kernelRun0_A
  dsimp only
  sl_unfold_words
  simp only [View.readAt_eq_ld, harg3.read_unread, harg4.read_unread, harg5.read_unread]
  simp only [View.readCov_eq_canon_ld _ _ _ (vx_cover x2)]
  refine (View.canon_unit_zero (by funext a; fin_cases a <;> rfl) _ _).trans ?_
  rfl

end Cert.KernelIdeal.Hand

end
-- ==== Proof.Spec.lean ====
/- The mathematics of the attention call: the value of one row of attention over its first `n` keys, as an
   extended real, and the two ways the programs reach it — chunk by chunk under a running maximum, and as a
   softmax taken whole. Nothing here mentions a program. -/
module

public import Idealize.ShloMosaic.PureOps.Ideal.Laws

@[expose] public section

noncomputable section

namespace Cert.Mla

open Idealize.ShloMosaic
open scoped BigOperators

/-- A sum of extended reals scaled by a real that is not negative is the sum of the scaled terms. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A finite sum of reals read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, folded from `-∞`, is a real as soon as there is one of them. -/
theorem fold_max_real {ι : Type*} (s : Finset ι) (hs : s.Nonempty) (f : ι → EReal) (g : ι → ℝ) (h : ∀ i, f i = (g i : EReal)) :
    ∃ μ : ℝ, s.fold max (⊥ : EReal) f = (μ : EReal) := by
  classical
  induction hs using Finset.Nonempty.cons_induction with
  | singleton a => exact ⟨g a, by rw [Finset.fold_singleton, h a]; exact max_bot_right _⟩
  | cons a s ha _ ih =>
    obtain ⟨μ, hμ⟩ := ih
    exact ⟨max (g a) μ, by rw [Finset.fold_cons, hμ, h a]; exact (EReal.coe_strictMono.monotone.map_max).symm⟩

/-- Two to a real power, as the ideal `exp2` has it. -/
def pow2 (x : ℝ) : ℝ := (2 : ℝ) ^ x

theorem pow2_pos (x : ℝ) : 0 < pow2 x := Real.rpow_pos_of_pos (by norm_num) x
theorem pow2_add (x y : ℝ) : pow2 (x + y) = pow2 x * pow2 y := Real.rpow_add (by norm_num) x y

/-- The running sum of one row: keys `0 … n-1` weighted by `2^(score - μ)`. -/
def wsum (n : ℕ) (S : ℕ → ℝ) (V : ℕ → EReal) (μ : ℝ) : EReal :=
  ∑ k ∈ Finset.range n, ((pow2 (S k - μ) : ℝ) : EReal) * V k

/-- Changing the reference point of the weights rescales the running sum. -/
theorem wsum_rescale (n : ℕ) (S : ℕ → ℝ) (V : ℕ → EReal) (μ ν : ℝ) :
    wsum n S V μ * ((pow2 (μ - ν) : ℝ) : EReal) = wsum n S V ν := by
  unfold wsum
  rw [sum_mul_real _ _ _ (pow2_pos _).le]
  refine Finset.sum_congr rfl fun k _ => ?_
  rw [mul_right_comm, ← EReal.coe_mul, ← pow2_add]
  congr 3
  ring

/-- The running sum over `n + c` keys is that over `n` keys and the chunk of the next `c`. -/
theorem wsum_add (n c : ℕ) (S : ℕ → ℝ) (V : ℕ → EReal) (μ : ℝ) :
    wsum (n + c) S V μ = wsum n S V μ + ∑ j : Fin c, ((pow2 (S (n + j) - μ) : ℝ) : EReal) * V (n + j) := by
  unfold wsum
  rw [Finset.sum_range_add, Fin.sum_univ_eq_sum_range (fun j => ((pow2 (S (n + j) - μ) : ℝ) : EReal) * V (n + j)) c]

/-- The value of one row of attention: the values of its first `n` keys averaged with the weights `2^score`. -/
def att (n : ℕ) (S : ℕ → ℝ) (V : ℕ → EReal) : EReal :=
  (∑ k ∈ Finset.range n, ((pow2 (S k) : ℝ) : EReal) * V k) * (((∑ k ∈ Finset.range n, pow2 (S k))⁻¹ : ℝ) : EReal)

/-- The total weight of a row is positive. -/
theorem total_pos (n : ℕ) (hn : 0 < n) (S : ℕ → ℝ) : 0 < ∑ k ∈ Finset.range n, pow2 (S k) :=
  Finset.sum_pos (fun k _ => pow2_pos _) ⟨0, Finset.mem_range.mpr hn⟩

/-- The running sum divided by the running total of the weights is the row's value, whatever the reference point. -/
theorem div_wsum (n : ℕ) (hn : 0 < n) (S : ℕ → ℝ) (V : ℕ → EReal) (μ : ℝ) :
    Ideal.div (wsum n S V μ) (wsum n S (fun _ => 1) μ) = att n S V := by
  have h0 : ∀ V : ℕ → EReal, wsum n S V μ = (∑ k ∈ Finset.range n, ((pow2 (S k) : ℝ) : EReal) * V k) * ((pow2 (-μ) : ℝ) : EReal) := by
    intro V
    unfold wsum
    rw [sum_mul_real _ _ _ (pow2_pos _).le]
    refine Finset.sum_congr rfl fun k _ => ?_
    rw [mul_right_comm, ← EReal.coe_mul, ← pow2_add, sub_eq_add_neg]
  have hden : wsum n S (fun _ => 1) μ = (((∑ k ∈ Finset.range n, pow2 (S k)) * pow2 (-μ) : ℝ) : EReal) := by
    rw [h0, EReal.coe_mul, coe_sum]
    simp only [mul_one]
  have hpos : 0 < (∑ k ∈ Finset.range n, pow2 (S k)) * pow2 (-μ) := mul_pos (total_pos n hn S) (pow2_pos _)
  rw [hden, Ideal.div, if_neg (by exact_mod_cast hpos.ne'), h0, ← EReal.coe_inv, mul_assoc, ← EReal.coe_mul]
  unfold att
  congr 2
  have := (pow2_pos (-μ)).ne'
  have := (total_pos n hn S).ne'
  field_simp

/-- A row's softmax taken whole, in the natural base over scores scaled by `log 2`, against any real reference
    point: the same value. -/
theorem softmax_eq_att (n : ℕ) (hn : 0 < n) (S : ℕ → ℝ) (V : ℕ → EReal) (μ : ℝ) :
    ∑ k : Fin n, V k * Ideal.div ((Real.exp (S k * Real.log 2 - μ) : ℝ) : EReal)
        ((∑ j : Fin n, Real.exp (S j * Real.log 2 - μ) : ℝ) : EReal) = att n S V := by
  have he : ∀ k : ℕ, Real.exp (S k * Real.log 2 - μ) = pow2 (S k) * Real.exp (-μ) := by
    intro k
    rw [sub_eq_add_neg, Real.exp_add, pow2, Real.rpow_def_of_pos (by norm_num), mul_comm (Real.log 2)]
  simp only [he]
  rw [Fin.sum_univ_eq_sum_range (fun k => V k * Ideal.div ((pow2 (S k) * Real.exp (-μ) : ℝ) : EReal) _) n,
    Fin.sum_univ_eq_sum_range (fun k => pow2 (S k) * Real.exp (-μ)) n, ← Finset.sum_mul]
  have hpos := total_pos n hn S
  have hep := Real.exp_pos (-μ)
  unfold att
  rw [sum_mul_real _ _ _ (inv_nonneg.mpr hpos.le)]
  refine Finset.sum_congr rfl fun k _ => ?_
  rw [Ideal.div, if_neg (by exact_mod_cast (mul_pos hpos hep).ne'), ← EReal.coe_inv, ← EReal.coe_mul, mul_comm (V k),
    mul_right_comm (_ : EReal) (V k), ← EReal.coe_mul]
  congr 2
  have := hep.ne'
  have := hpos.ne'
  field_simp

end Cert.Mla

end
-- ==== Proof.Tile.lean ====
/- The attention body's pieces over the extended reals: a chunk's scores and weighted values read at an index,
   the running pair kept through the chunks, and the head's result as the row's attention value. -/
module

public import proofs.«01_k».proof.Proof.Attend
public import proofs.«01_k».proof.Proof.Spec
public import Idealize.ShloMosaic.Lib.ValueIdx
public import Idealize.ShloMosaic.Lib.ValueLayout
public import Idealize.ShloMosaic.Lib.MatmulPlain

@[expose] public section

set_option maxRecDepth 16384

noncomputable section

namespace Cert.KernelIdeal.Hand

open Cert.KernelIdeal Cert.KernelIdeal.Gen Idealize.ShloMosaic Idealize.ShloMosaic.TcCoe Idealize.SL.Sem
open Cert.Mla Idealize.ShloMosaic.ValueIdx
open scoped BigOperators

theorem s512_apply (q : Vec Ideal S1x256x256 .bf16) (k : Vec Ideal S1x512x256 .bf16) (r : Fin 256) (j : Fin 512) :
    s512 q k (ix2 r j) = ∑ d : Fin 256, q (ix3 (0 : Fin 1) r d) * k (ix3 (0 : Fin 1) j d) := by
  unfold s512
  refine (Ideal.matmul_transposedRhs_apply none _ _ _ r j).trans ?_
  rw [constant_apply, Ideal.ofBits_zero_f32, zero_add]
  refine Finset.sum_congr rfl fun d _ => ?_
  rw [shapeCast_1ab_ab_apply, shapeCast_1ab_ab_apply]

theorem s256_apply (q : Vec Ideal S1x256x256 .bf16) (k : Vec Ideal S1x256x256 .bf16) (r : Fin 256) (j : Fin 256) :
    s256 q k (ix2 r j) = ∑ d : Fin 256, q (ix3 (0 : Fin 1) r d) * k (ix3 (0 : Fin 1) j d) := by
  unfold s256
  refine (Ideal.matmul_transposedRhs_apply none _ _ _ r j).trans ?_
  rw [constant_apply, Ideal.ofBits_zero_f32, zero_add]
  refine Finset.sum_congr rfl fun d _ => ?_
  rw [shapeCast_1ab_ab_apply, shapeCast_1ab_ab_apply]

theorem ofBits_negInf : Ideal.ofBits .f32 0xFF800000#32 = ⊥ := by simp [Ideal.ofBits, Ideal.ieee]

theorem max512_real (s : FVec Ideal S256x512 .f32) (r : Fin 256) (g : Fin 512 → ℝ) (h : ∀ j, s (ix2 r j) = (g j : EReal)) :
    ∃ μ : ℝ, max512 s (ix2 r (0 : Fin 1)) = (μ : EReal) := by
  unfold max512
  rw [shapeCast_apply _ _ _ (ix1 r) (by rfl)]
  have hh : ∀ j : Fin 512, (s ∘ reduces_S256x512_S256.lift (ix1 r)) j = (g j : EReal) := fun j => by
    refine Eq.trans (congrArg s ?_) (h j)
    funext a; apply Fin.ext
    match a with
    | ⟨0, _⟩ => rfl
    | ⟨1, _⟩ => rfl
  obtain ⟨μ, hμ⟩ := fold_max_real (Finset.univ : Finset (Fin 512)) ⟨(0 : Fin 512), Finset.mem_univ _⟩ _ g hh
  refine ⟨μ, (Ideal.multiReduction_maximumf_single s _ reduces_S256x512_S256 _ _ (ix1 r)).trans ?_⟩
  rw [show (FloatOps.ofBits (F := Ideal) FTy.f32 0xFF800000#32) = (⊥ : EReal) from ofBits_negInf]
  exact hμ

theorem max256_real (s : FVec Ideal S256x256 .f32) (r : Fin 256) (g : Fin 256 → ℝ) (h : ∀ j, s (ix2 r j) = (g j : EReal)) :
    ∃ μ : ℝ, max256 s (ix2 r (0 : Fin 1)) = (μ : EReal) := by
  unfold max256
  rw [shapeCast_apply _ _ _ (ix1 r) (by rfl)]
  have hh : ∀ j : Fin 256, (s ∘ reduces_S256x256_S256.lift (ix1 r)) j = (g j : EReal) := fun j => by
    refine Eq.trans (congrArg s ?_) (h j)
    funext a; apply Fin.ext
    match a with
    | ⟨0, _⟩ => rfl
    | ⟨1, _⟩ => rfl
  obtain ⟨μ, hμ⟩ := fold_max_real (Finset.univ : Finset (Fin 256)) ⟨(0 : Fin 256), Finset.mem_univ _⟩ _ g hh
  refine ⟨μ, (Ideal.multiReduction_maximumf_single s _ reduces_S256x256_S256 _ _ (ix1 r)).trans ?_⟩
  rw [show (FloatOps.ofBits (F := Ideal) FTy.f32 0xFF800000#32) = (⊥ : EReal) from ofBits_negInf]
  exact hμ

theorem pv512_apply (s : FVec Ideal S256x512 .f32) (m : FVec Ideal S256x1 .f32) (v : Vec Ideal S1x512x256 .bf16)
    (r : Fin 256) (d : Fin 256) :
    pv512 s m v (ix2 r d) = ∑ j : Fin 512, Ideal.exp2 (s (ix2 r j) - m (ix2 r (0 : Fin 1))) * v (ix3 (0 : Fin 1) j d) := by
  unfold pv512
  refine (Ideal.matmul_plain_apply none _ _ _ r d).trans ?_
  rw [constant_apply, Ideal.ofBits_zero_f32, zero_add]
  refine Finset.sum_congr rfl fun j _ => ?_
  rw [shapeCast_1ab_ab_apply, truncf_apply]
  refine congrArg (· * _) ?_
  show Ideal.exp2 (s (ix2 r j) - broadcastTo S256x512 m broadcasts_S256x1_S256x512 (ix2 r j)) = _
  rw [broadcastTo_apply _ _ _ (ix2 r (0 : Fin 1)) (by intro a; fin_cases a <;> rfl)]

theorem pv256_apply (s : FVec Ideal S256x256 .f32) (m : FVec Ideal S256x1 .f32) (v : Vec Ideal S1x256x256 .bf16)
    (r : Fin 256) (d : Fin 256) :
    pv256 s m v (ix2 r d) = ∑ j : Fin 256, Ideal.exp2 (s (ix2 r j) - m (ix2 r (0 : Fin 1))) * v (ix3 (0 : Fin 1) j d) := by
  unfold pv256
  refine (Ideal.matmul_plain_apply none _ _ _ r d).trans ?_
  rw [constant_apply, Ideal.ofBits_zero_f32, zero_add]
  refine Finset.sum_congr rfl fun j _ => ?_
  rw [shapeCast_1ab_ab_apply, truncf_apply]
  refine congrArg (· * _) ?_
  show Ideal.exp2 (s (ix2 r j) - broadcastTo S256x256 m broadcasts_S256x1_S256x256 (ix2 r j)) = _
  rw [broadcastTo_apply _ _ _ (ix2 r (0 : Fin 1)) (by intro a; fin_cases a <;> rfl)]

theorem grow_apply (a : FVec Ideal S256x256 .f32) (m m' : FVec Ideal S256x1 .f32) (r : Fin 256) (d : Fin 256) :
    grow a m m' (ix2 r d) = a (ix2 r d) * Ideal.exp2 (m (ix2 r (0 : Fin 1)) - m' (ix2 r (0 : Fin 1))) := by
  unfold grow
  rw [mulf_apply]
  refine congrArg (_ * ·) ?_
  rw [broadcastTo_apply _ _ _ (ix2 r (0 : Fin 1)) (by intro a; fin_cases a <;> rfl)]
  rfl

theorem quot_apply (a : FVec Ideal S256x256 .f32) (r : Fin 256) (d : Fin 128) :
    quot a (ix2 r d) = Ideal.div (a (ix2 r (⟨d.val, by omega⟩ : Fin 256))) (a (ix2 r (⟨128 + d.val, by omega⟩ : Fin 256))) := by
  unfold quot
  rw [divf_apply]
  rw [extractStridedSlice_apply _ _ _ _ (ix2 r (⟨d.val, by omega⟩ : Fin 256)) (by
    intro a
    match a with
    | ⟨0, _⟩ => exact (Nat.zero_add _).symm
    | ⟨1, _⟩ => exact (Nat.zero_add _).symm)]
  rw [extractStridedSlice_apply _ _ _ _ (ix2 r (⟨128 + d.val, by omega⟩ : Fin 256)) (by
    intro a
    match a with
    | ⟨0, _⟩ => exact (Nat.zero_add _).symm
    | ⟨1, _⟩ => rfl)]

/-- The weight of a real score against a real reference point. -/
theorem exp2_sub (x y : ℝ) : Ideal.exp2 ((x : EReal) - (y : EReal)) = ((pow2 (x - y) : ℝ) : EReal) := by
  rw [← EReal.coe_sub, Ideal.exp2_coe]; rfl

/-- After `n` keys the running pair of every row is a real reference point and the running sums against it. -/
def Kept (n : ℕ) (S : Fin 256 → ℕ → ℝ) (V : ℕ → Fin 256 → EReal) (m : FVec Ideal S256x1 .f32) (a : FVec Ideal S256x256 .f32) : Prop :=
  ∀ r : Fin 256, ∃ μ : ℝ, m (ix2 r (0 : Fin 1)) = (μ : EReal) ∧ ∀ d : Fin 256, a (ix2 r d) = wsum n (S r) (fun k => V k d) μ

variable {S : Fin 256 → ℕ → ℝ} {V : ℕ → Fin 256 → EReal}

/-- A chunk's weighted values in the row's terms. -/
theorem pv512_eq {n : ℕ} {s : FVec Ideal S256x512 .f32} {m : FVec Ideal S256x1 .f32} {v : Vec Ideal S1x512x256 .bf16} {r : Fin 256} {μ : ℝ}
    (hm : m (ix2 r (0 : Fin 1)) = (μ : EReal)) (hs : ∀ j : Fin 512, s (ix2 r j) = (S r (n + j) : EReal))
    (hv : ∀ (j : Fin 512) (d : Fin 256), v (ix3 (0 : Fin 1) j d) = V (n + j) d) (d : Fin 256) :
    pv512 s m v (ix2 r d) = ∑ j : Fin 512, ((pow2 (S r (n + j) - μ) : ℝ) : EReal) * V (n + j) d := by
  rw [pv512_apply]
  refine Finset.sum_congr rfl fun j _ => ?_
  rw [hs, hm, exp2_sub, hv]

theorem pv256_eq {n : ℕ} {s : FVec Ideal S256x256 .f32} {m : FVec Ideal S256x1 .f32} {v : Vec Ideal S1x256x256 .bf16} {r : Fin 256} {μ : ℝ}
    (hm : m (ix2 r (0 : Fin 1)) = (μ : EReal)) (hs : ∀ j : Fin 256, s (ix2 r j) = (S r (n + j) : EReal))
    (hv : ∀ (j : Fin 256) (d : Fin 256), v (ix3 (0 : Fin 1) j d) = V (n + j) d) (d : Fin 256) :
    pv256 s m v (ix2 r d) = ∑ j : Fin 256, ((pow2 (S r (n + j) - μ) : ℝ) : EReal) * V (n + j) d := by
  rw [pv256_apply]
  refine Finset.sum_congr rfl fun j _ => ?_
  rw [hs, hm, exp2_sub, hv]

theorem wsum_zero_add (c : ℕ) (S : ℕ → ℝ) (V : ℕ → EReal) (μ : ℝ) :
    wsum c S V μ = ∑ j : Fin c, ((pow2 (S (0 + j) - μ) : ℝ) : EReal) * V (0 + j) := by
  have h := wsum_add 0 c S V μ
  rw [zero_add] at h
  rw [h]
  simp [wsum]

theorem kept_first {s : FVec Ideal S256x512 .f32} {v : Vec Ideal S1x512x256 .bf16}
    (hs : ∀ (r : Fin 256) (j : Fin 512), s (ix2 r j) = (S r (0 + j) : EReal))
    (hv : ∀ (j : Fin 512) (d : Fin 256), v (ix3 (0 : Fin 1) j d) = V (0 + j) d) :
    Kept 512 S V (max512 s) (pv512 s (max512 s) v) := by
  intro r
  obtain ⟨μ, hμ⟩ := max512_real s r _ (hs r)
  exact ⟨μ, hμ, fun d => by rw [pv512_eq hμ (hs r) hv d, wsum_zero_add]⟩

theorem kept_only {s : FVec Ideal S256x256 .f32} {v : Vec Ideal S1x256x256 .bf16}
    (hs : ∀ (r : Fin 256) (j : Fin 256), s (ix2 r j) = (S r (0 + j) : EReal))
    (hv : ∀ (j : Fin 256) (d : Fin 256), v (ix3 (0 : Fin 1) j d) = V (0 + j) d) :
    Kept 256 S V (max256 s) (pv256 s (max256 s) v) := by
  intro r
  obtain ⟨μ, hμ⟩ := max256_real s r _ (hs r)
  exact ⟨μ, hμ, fun d => by rw [pv256_eq hμ (hs r) hv d, wsum_zero_add]⟩

theorem kept_next {n : ℕ} {m : FVec Ideal S256x1 .f32} {a : FVec Ideal S256x256 .f32} {s : FVec Ideal S256x512 .f32}
    {v : Vec Ideal S1x512x256 .bf16} (h : Kept n S V m a)
    (hs : ∀ (r : Fin 256) (j : Fin 512), s (ix2 r j) = (S r (n + j) : EReal))
    (hv : ∀ (j : Fin 512) (d : Fin 256), v (ix3 (0 : Fin 1) j d) = V (n + j) d) :
    Kept (n + 512) S V (mNext m s) (aNext m a s v) := by
  intro r
  obtain ⟨μ, hμ, ha⟩ := h r
  obtain ⟨ν, hν⟩ := max512_real s r _ (hs r)
  have hm : mNext m s (ix2 r (0 : Fin 1)) = ((max μ ν : ℝ) : EReal) := by
    unfold mNext
    rw [maximumf_apply, hμ, hν]
    exact (EReal.coe_strictMono.monotone.map_max).symm
  refine ⟨max μ ν, hm, fun d => ?_⟩
  unfold aNext
  rw [addf_apply, grow_apply, ha, hμ, hm, exp2_sub, wsum_rescale, pv512_eq hm (hs r) hv d, wsum_add]

theorem kept_last {n : ℕ} {m : FVec Ideal S256x1 .f32} {a : FVec Ideal S256x256 .f32} {s : FVec Ideal S256x256 .f32}
    {v : Vec Ideal S1x256x256 .bf16} (h : Kept n S V m a)
    (hs : ∀ (r : Fin 256) (j : Fin 256), s (ix2 r j) = (S r (n + j) : EReal))
    (hv : ∀ (j : Fin 256) (d : Fin 256), v (ix3 (0 : Fin 1) j d) = V (n + j) d) :
    Kept (n + 256) S V (mLast m s) (aLast m a s v) := by
  intro r
  obtain ⟨μ, hμ, ha⟩ := h r
  obtain ⟨ν, hν⟩ := max256_real s r _ (hs r)
  have hm : mLast m s (ix2 r (0 : Fin 1)) = ((max μ ν : ℝ) : EReal) := by
    unfold mLast
    rw [maximumf_apply, hμ, hν]
    exact (EReal.coe_strictMono.monotone.map_max).symm
  refine ⟨max μ ν, hm, fun d => ?_⟩
  unfold aLast
  rw [addf_apply, grow_apply, ha, hμ, hm, exp2_sub, wsum_rescale, pv256_eq hm (hs r) hv d, wsum_add]

theorem quot_kept {n : ℕ} (hn : 0 < n) {m : FVec Ideal S256x1 .f32} {a : FVec Ideal S256x256 .f32} (h : Kept n S V m a)
    (h1 : ∀ (k : ℕ) (d : Fin 128), k < n → V k (⟨128 + d.val, by omega⟩ : Fin 256) = 1) (r : Fin 256) (d : Fin 128) :
    quot a (ix2 r d) = att n (S r) (fun k => V k (⟨d.val, by omega⟩ : Fin 256)) := by
  obtain ⟨μ, _, ha⟩ := h r
  rw [quot_apply, ha, ha]
  rw [show wsum n (S r) (fun k => V k (⟨128 + d.val, by omega⟩ : Fin 256)) μ = wsum n (S r) (fun _ => 1) μ from
    Finset.sum_congr rfl fun k hk => congrArg (_ * ·) (h1 k d (Finset.mem_range.mp hk))]
  exact div_wsum n hn _ _ μ

/-- One head over the context keys is its rows' attention over them. -/
theorem headA_apply {q k v : Vec Ideal S1x256x256 .bf16}
    (hs : ∀ (r : Fin 256) (j : Fin 256), ∑ d : Fin 256, q (ix3 (0 : Fin 1) r d) * k (ix3 (0 : Fin 1) j d) = (S r j : EReal))
    (hv : ∀ (j : Fin 256) (d : Fin 256), v (ix3 (0 : Fin 1) j d) = V j d)
    (h1 : ∀ (k : ℕ) (d : Fin 128), k < 256 → V k (⟨128 + d.val, by omega⟩ : Fin 256) = 1) (r : Fin 256) (d : Fin 128) :
    headA q k v (ix2 r d) = att 256 (S r) (fun k => V k (⟨d.val, by omega⟩ : Fin 256)) :=
  quot_kept (by norm_num) (kept_only (fun r j => by rw [s256_apply, zero_add]; exact hs r j) (fun j d => by rw [zero_add]; exact hv j d)) h1 r d

/-- One head over all keys is its rows' attention over them. -/
theorem headB_apply {q : Vec Ideal S1x256x256 .bf16} {k : Fin 8 → Vec Ideal S1x512x256 .bf16} {kl : Vec Ideal S1x256x256 .bf16}
    {v : Fin 8 → Vec Ideal S1x512x256 .bf16} {vl : Vec Ideal S1x256x256 .bf16}
    (hs : ∀ (i : Fin 8) (r : Fin 256) (j : Fin 512),
      ∑ d : Fin 256, q (ix3 (0 : Fin 1) r d) * k i (ix3 (0 : Fin 1) j d) = (S r (512 * i.val + j) : EReal))
    (hsl : ∀ (r : Fin 256) (j : Fin 256), ∑ d : Fin 256, q (ix3 (0 : Fin 1) r d) * kl (ix3 (0 : Fin 1) j d) = (S r (4096 + j) : EReal))
    (hv : ∀ (i : Fin 8) (j : Fin 512) (d : Fin 256), v i (ix3 (0 : Fin 1) j d) = V (512 * i.val + j) d)
    (hvl : ∀ (j : Fin 256) (d : Fin 256), vl (ix3 (0 : Fin 1) j d) = V (4096 + j) d)
    (h1 : ∀ (k : ℕ) (d : Fin 128), k < 4352 → V k (⟨128 + d.val, by omega⟩ : Fin 256) = 1) (r : Fin 256) (d : Fin 128) :
    headB q k kl v vl (ix2 r d) = att 4352 (S r) (fun k => V k (⟨d.val, by omega⟩ : Fin 256)) := by
  have H : ∀ (i : Fin 8) (n : ℕ), n = 512 * i.val → ∀ (r : Fin 256) (j : Fin 512), s512 q (k i) (ix2 r j) = (S r (n + j) : EReal) :=
    fun i n hn r j => by rw [hn, s512_apply]; exact hs i r j
  have G : ∀ (i : Fin 8) (n : ℕ), n = 512 * i.val → ∀ (j : Fin 512) (d : Fin 256), v i (ix3 (0 : Fin 1) j d) = V (n + j) d :=
    fun i n hn j d => by rw [hn]; exact hv i j d
  have k0 := kept_first (H 0 0 rfl) (G 0 0 rfl)
  have k1 := kept_next k0 (H 1 512 rfl) (G 1 512 rfl)
  have k2 := kept_next k1 (H 2 1024 rfl) (G 2 1024 rfl)
  have k3 := kept_next k2 (H 3 1536 rfl) (G 3 1536 rfl)
  have k4 := kept_next k3 (H 4 2048 rfl) (G 4 2048 rfl)
  have k5 := kept_next k4 (H 5 2560 rfl) (G 5 2560 rfl)
  have k6 := kept_next k5 (H 6 3072 rfl) (G 6 3072 rfl)
  have k7 := kept_next k6 (H 7 3584 rfl) (G 7 3584 rfl)
  have k8 := kept_last k7 (s := s256 q kl) (v := vl) (fun r j => by rw [s256_apply]; exact hsl r j) hvl
  exact quot_kept (by norm_num) k8 h1 r d

end Cert.KernelIdeal.Hand

end
-- ==== Proof.Array.lean ====
/- Arrays of extended reals read at natural coordinates, and the attention of one row of the three arrays. -/
module

public import proofs.«01_k».proof.Proof.Spec
public import Idealize.ShloMosaic.Lib.ValueIdx
public import Idealize.ShloMosaic.Lib.ValueLayout

@[expose] public section

noncomputable section

namespace Cert.Mla

open Idealize.ShloMosaic Idealize.ShloMosaic.ValueIdx
open scoped BigOperators

/-- A three-axis array read at natural coordinates, zero outside it. -/
def get {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem get_ix3 {n0 n1 n2 : ℕ} (X : (⟨3, ![n0, n1, n2]⟩ : Shape).Idx → EReal) (a : Fin n0) (b : Fin n1) (c : Fin n2) :
    X (ix3 a b c) = get X a.val b.val c.val := by
  unfold get
  rw [dif_pos ⟨a.isLt, b.isLt, c.isLt⟩]

theorem get_eq {n0 n1 n2 : ℕ} (X : (⟨3, ![n0, n1, n2]⟩ : Shape).Idx → EReal) (i : (⟨3, ![n0, n1, n2]⟩ : Shape).Idx)
    (a b c : ℕ) (ha : (i 0).val = a) (hb : (i 1).val = b) (hc : (i 2).val = c) : X i = get X a b c := by
  subst ha; subst hb; subst hc
  conv_lhs => rw [eq_ix3 i]
  exact get_ix3 X (i 0) (i 1) (i 2)

/-- Every element is a real. -/
def Real3 {n0 n1 n2 : ℕ} (X : (⟨3, ![n0, n1, n2]⟩ : Shape).Idx → EReal) : Prop := ∀ i, ∃ r : ℝ, X i = (r : EReal)

theorem Real3.get {n0 n1 n2 : ℕ} {X : (⟨3, ![n0, n1, n2]⟩ : Shape).Idx → EReal} (h : Real3 X) (a b c : ℕ) :
    ∃ r : ℝ, get X a b c = (r : EReal) := by
  unfold Mla.get
  split
  · exact h _
  · exact ⟨0, rfl⟩

/-- The score of query `t` against key `j` in head `h` of batch `b`. -/
def dotE (q k : (⟨3, ![4, 4352, 2048]⟩ : Shape).Idx → EReal) (b t h j : ℕ) : EReal :=
  ∑ e : Fin 256, get q b t (256 * h + e.val) * get k b j (256 * h + e.val)

/-- That score as a real number. -/
def score (q k : (⟨3, ![4, 4352, 2048]⟩ : Shape).Idx → EReal) (b t h j : ℕ) : ℝ := (dotE q k b t h j).toReal

theorem dotE_eq {q k : (⟨3, ![4, 4352, 2048]⟩ : Shape).Idx → EReal} (hq : Real3 q) (hk : Real3 k) (b t h j : ℕ) :
    dotE q k b t h j = (score q k b t h j : EReal) := by
  unfold score
  have : ∃ r : ℝ, dotE q k b t h j = (r : EReal) := by
    choose f hf using fun e : Fin 256 => hq.get b t (256 * h + e.val)
    choose g hg using fun e : Fin 256 => hk.get b j (256 * h + e.val)
    refine ⟨∑ e, f e * g e, ?_⟩
    unfold dotE
    rw [coe_sum]
    refine Finset.sum_congr rfl fun e _ => ?_
    rw [hf, hg, EReal.coe_mul]
  obtain ⟨r, hr⟩ := this
  rw [hr, EReal.toReal_coe]

/-- The attention array at batch `b`, query `t`, lane `c`: the first 256 queries attend to the first 256 keys, the
    others to all 4352. -/
def attn (q k : (⟨3, ![4, 4352, 2048]⟩ : Shape).Idx → EReal) (v : (⟨3, ![4, 4352, 1024]⟩ : Shape).Idx → EReal) (b t c : ℕ) : EReal :=
  att (if t < 256 then 256 else 4352) (score q k b t (c / 128)) (fun j => get v b j c)

end Cert.Mla

end
-- ==== Proof.Block.lean ====
/- What one grid point of the attention kernel stores, as rows of attention of the arrays its blocks come from. -/
module

public import proofs.«01_k».proof.Proof.Tile
public import proofs.«01_k».proof.Proof.Array
public import Idealize.ShloMosaic.Lib.Pipeline.ValueKit.Tiles

@[expose] public section

set_option maxRecDepth 16384

noncomputable section

namespace Cert.KernelIdeal.Hand

open Cert.KernelIdeal Cert.KernelIdeal.Gen Idealize.ShloMosaic Idealize.ShloMosaic.TcCoe Idealize.SL.Sem
open Cert.Mla Idealize.ShloMosaic.ValueIdx
open scoped BigOperators

/-- A rectangle loaded from a three-axis array, read at natural coordinates. -/
theorem ld_get {n0 n1 n2 : ℕ} (X : Vec Ideal ⟨3, ![n0, n1, n2]⟩ .bf16) (o0 o1 o2 s0 s1 s2 : ℕ)
    (inb : ∀ a, (![o0, o1, o2] : Fin 3 → ℕ) a + (![s0, s1, s2] : Fin 3 → ℕ) a ≤ (⟨3, ![n0, n1, n2]⟩ : Shape).size a)
    (a : Fin s0) (b : Fin s1) (c : Fin s2) :
    View.ld X (Rect.unit (s := ⟨3, ![n0, n1, n2]⟩) ![o0, o1, o2] ![s0, s1, s2] inb) (ix3 a b c) = get X (o0 + a.val) (o1 + b.val) (o2 + c.val) := by
  have h0 : o0 + s0 ≤ n0 := inb 0
  have h1 : o1 + s1 ≤ n1 := inb 1
  have h2 : o2 + s2 ≤ n2 := inb 2
  refine (View.ld_unit_apply_of X ![o0, o1, o2] ![s0, s1, s2] inb (ix3 a b c)
    (ix3 ⟨o0 + a.val, by omega⟩ ⟨o1 + b.val, by omega⟩ ⟨o2 + c.val, by omega⟩) ?_).trans (get_ix3 X _ _ _)
  intro x
  match x with
  | ⟨0, _⟩ => rfl
  | ⟨1, _⟩ => rfl
  | ⟨2, _⟩ => rfl

/-- The stored block at lane `128·hh + d` is head `hh` at lane `d`. -/
theorem join_apply (h : Fin 4 → FVec Ideal S256x128 .f32) (hh : Fin 4) (r : Fin 256) (d : Fin 128) (c : Fin 512)
    (hc : c.val = 128 * hh.val + d.val) :
    join (h 0) (h 1) (h 2) (h 3) (ix3 (0 : Fin 1) r c) = h hh (ix2 r d) := by
  unfold join
  rw [shapeCast_ab_1ab_apply, truncf_apply]
  refine concatenate_apply_piece (t := S256x512) 1 _ _ (ix2 r c) hh.val (by show hh.val < 4; exact hh.isLt) S256x128 (h hh)
    (by fin_cases hh <;> rfl) rfl (128 * hh.val) (by fin_cases hh <;> rfl) (ix2 r d) ?_ ?_
  · intro b hb
    match b with
    | ⟨0, _⟩ => rfl
    | ⟨1, _⟩ => exact absurd rfl hb
  · exact hc.symm

/-- The extended values the context point leaves: a head's value lanes, then ones. -/
theorem vxOf_get (x2 : Vec Ideal S1x4352x512 .bf16) (h : Fin 4) (k : Fin 4352) (l : Fin 256) :
    vxOf x2 (ix3 h k l) = if l.val < 128 then get x2 0 k.val (128 * h.val + l.val) else 1 := by
  have one : ∀ i : S1x4352x128.Idx, (shapeCast S1x4352x128 (broadcast S4352x128 (Scalar.ofBits (F := Ideal) .bf16 0x3F80#16))
      shapeCasts_S4352x128_S1x4352x128 : FVec Ideal S1x4352x128 .bf16) i = (1 : EReal) := by
    intro i
    show Ideal.ofBits .bf16 0x3F80#16 = 1
    simp [Ideal.ofBits, Ideal.ieee, -EReal.coe_mul]
    norm_num
  have val : ∀ (X : Vec Ideal S1x4352x128 .bf16) (i : S1x4352x128.Idx),
      (shapeCast S1x4352x128 (shapeCast S4352x128 X shapeCasts_S1x4352x128_S4352x128) shapeCasts_S4352x128_S1x4352x128 :
        FVec Ideal S1x4352x128 .bf16) i = X i := by
    intro X i
    rw [eq_ix3 i, show i 0 = (0 : Fin 1) from Subsingleton.elim (α := Fin 1) _ _]
    exact (shapeCast_ab_1ab_apply _ _ _ _ _).trans (shapeCast_1ab_ab_apply _ _ _ _)
  let G : S4x4352x256.Idx → EReal := fun y =>
    if (y 2).val < 128 then get x2 0 (y 1).val (128 * (y 0).val + (y 2).val) else 1
  show vxOf x2 (ix3 h k l) = G (ix3 h k l)
  unfold vxOf
  refine View.canon_apply_of_pieces (S := S4x4352x256) G _ ?_ _ (vx_cover x2 (ix3 h k l))
  have hone : ∀ (hd : ℕ) (inb : ∀ a, (![hd, 0, 128] : Fin 3 → ℕ) a + S1x4352x128.size a ≤ S4x4352x256.size a)
      (x : S1x4352x128.Idx), (1 : EReal) = G ((Rect.unit (s := S4x4352x256) ![hd, 0, 128] S1x4352x128.size inb).emb x) := by
    intro hd inb x
    refine (if_neg ?_).symm
    show ¬(128 + 1 * (x 2).val < 128)
    omega
  have hval : ∀ (hd : ℕ) (o : ℕ) (_ : o = 128 * hd) (inb : ∀ a, (![hd, 0, 0] : Fin 3 → ℕ) a + S1x4352x128.size a ≤ S4x4352x256.size a)
      (inb' : ∀ a, (![0, 0, o] : Fin 3 → ℕ) a + S1x4352x128.size a ≤ S1x4352x512.size a)
      (x : S1x4352x128.Idx), View.ld x2 (Rect.unit (s := S1x4352x512) ![0, 0, o] S1x4352x128.size inb') x
        = G ((Rect.unit (s := S4x4352x256) ![hd, 0, 0] S1x4352x128.size inb).emb x) := by
    intro hd o ho inb inb' x
    have h0 : (x 0).val < 1 := (x 0).isLt
    have h2 : (x 2).val < 128 := (x 2).isLt
    refine Eq.trans ?_ (if_pos ?_).symm
    · refine get_eq x2 _ _ _ _ ?_ ?_ ?_
      · show 0 + 1 * (x 0).val = 0
        omega
      · show 0 + 1 * (x 1).val = 0 + 1 * (x 1).val
        rfl
      · show o + 1 * (x 2).val = 128 * (hd + 1 * (x 0).val) + (0 + 1 * (x 2).val)
        omega
    · show 0 + 1 * (x 2).val < 128
      omega
  intro p hp x
  simp only [List.mem_cons, List.not_mem_nil, or_false] at hp
  rcases hp with rfl | rfl | rfl | rfl | rfl | rfl | rfl | rfl
  · exact (one x).trans (hone 3 inb_S4x4352x256_S1x4352x128_3_0_128 x)
  · exact (val _ x).trans (hval 3 384 rfl inb_S4x4352x256_S1x4352x128_3_0_0 inb_S1x4352x512_S1x4352x128_0_0_384 x)
  · exact (one x).trans (hone 2 inb_S4x4352x256_S1x4352x128_2_0_128 x)
  · exact (val _ x).trans (hval 2 256 rfl inb_S4x4352x256_S1x4352x128_2_0_0 inb_S1x4352x512_S1x4352x128_0_0_256 x)
  · exact (one x).trans (hone 1 inb_S4x4352x256_S1x4352x128_1_0_128 x)
  · exact (val _ x).trans (hval 1 128 rfl inb_S4x4352x256_S1x4352x128_1_0_0 inb_S1x4352x512_S1x4352x128_0_0_128 x)
  · exact (one x).trans (hone 0 inb_S4x4352x256_S1x4352x128_0_0_128 x)
  · exact (val _ x).trans (hval 0 0 rfl inb_S4x4352x256_S1x4352x128_0_0_0 inb_S1x4352x512_S1x4352x128_0_0_0 x)

/-- Lanes and extended values of one head, by key. -/
def lanes (v : Vec Ideal S4x4352x1024 .bf16) (b o k : ℕ) (l : Fin 256) : EReal := if l.val < 128 then get v b k (o + l.val) else 1

section
variable {q k : Vec Ideal S4x4352x2048 .bf16} {v : Vec Ideal S4x4352x1024 .bf16} (hq : Real3 q) (hk : Real3 k)
  {x0 : Vec Ideal S1x256x1024 .bf16} {x1 : Vec Ideal S1x4352x1024 .bf16} {xs0 : Vec Ideal S4x4352x256 .bf16} {b g tq : ℕ}
  (hx0 : ∀ r c : ℕ, r < 256 → c < 1024 → get x0 0 r c = get q b (256 * tq + r) (1024 * g + c))
  (hx1 : ∀ j c : ℕ, j < 4352 → c < 1024 → get x1 0 j c = get k b j (1024 * g + c))
  (hxs : ∀ h j l : ℕ, h < 4 → j < 4352 → l < 256 → get xs0 h j l = if l < 128 then get v b j (512 * g + 128 * h + l) else 1)
include hq hk hx0 hx1 hxs

/-- A block of latent queries holds its rows' attention over all keys. -/
theorem blockB_apply (r : Fin 256) (c : Fin 512) :
    blockB x0 x1 xs0 (ix3 (0 : Fin 1) r c)
      = att 4352 (score q k b (256 * tq + r.val) (4 * g + c.val / 128)) (fun j => get v b j (512 * g + c.val)) := by
  have sc : ∀ (hh o n : ℕ) (sz : ℕ) (hsz : n + sz ≤ 4352) (ho : o = 256 * hh) (hhh : hh < 4)
      (inbq : ∀ a, (![0, 0, o] : Fin 3 → ℕ) a + (![1, 256, 256] : Fin 3 → ℕ) a ≤ S1x256x1024.size a)
      (inbk : ∀ a, (![0, n, o] : Fin 3 → ℕ) a + (![1, sz, 256] : Fin 3 → ℕ) a ≤ S1x4352x1024.size a) (r : Fin 256) (j : Fin sz),
      ∑ d : Fin 256, View.ld x0 (Rect.unit (s := S1x256x1024) ![0, 0, o] ![1, 256, 256] inbq) (ix3 (0 : Fin 1) r d)
        * View.ld x1 (Rect.unit (s := S1x4352x1024) ![0, n, o] ![1, sz, 256] inbk) (ix3 (0 : Fin 1) j d)
        = (score q k b (256 * tq + r.val) (4 * g + hh) (n + j.val) : EReal) := by
    intro hh o n sz hsz ho hhh inbq inbk r j
    rw [← dotE_eq hq hk]
    unfold dotE
    refine Finset.sum_congr rfl fun d _ => ?_
    have hd := d.isLt
    have hr := r.isLt
    have hj := j.isLt
    rw [ld_get x0, ld_get x1]
    simp only [Fin.val_zero, zero_add]
    rw [hx0 _ _ hr (by omega), hx1 _ _ (by omega) (by omega), show 1024 * g + (o + d.val) = 256 * (4 * g + hh) + d.val by omega]
  have vl : ∀ (hh n sz : ℕ) (hsz : n + sz ≤ 4352) (hhh : hh < 4)
      (inb : ∀ a, (![hh, n, 0] : Fin 3 → ℕ) a + (![1, sz, 256] : Fin 3 → ℕ) a ≤ S4x4352x256.size a) (j : Fin sz) (d : Fin 256),
      View.ld xs0 (Rect.unit (s := S4x4352x256) ![hh, n, 0] ![1, sz, 256] inb) (ix3 (0 : Fin 1) j d)
        = lanes v b (512 * g + 128 * hh) (n + j.val) d := by
    intro hh n sz hsz hhh inb j d
    have hj := j.isLt
    rw [ld_get xs0]
    simp only [Fin.val_zero, zero_add, add_zero]
    rw [hxs _ _ _ hhh (by omega) d.isLt]
    rfl
  have one : ∀ (o : ℕ) (k : ℕ) (d : Fin 128), k < 4352 → lanes v b o k (⟨128 + d.val, by omega⟩ : Fin 256) = 1 :=
    fun o k d _ => if_neg (by show ¬(128 + d.val < 128); omega)
  have hcq : c.val / 128 < 4 := by have := c.isLt; omega
  have key : ∀ hh : Fin 4, c.val / 128 = hh.val → (blockB x0 x1 xs0 (ix3 (0 : Fin 1) r c)
      = att 4352 (score q k b (256 * tq + r.val) (4 * g + hh.val))
          (fun j => lanes v b (512 * g + 128 * hh.val) j (⟨c.val % 128, by omega⟩ : Fin 256))) := by
    intro hh hc
    unfold blockB
    refine (join_apply ![_, _, _, _] hh r ⟨c.val % 128, by omega⟩ c (by show c.val = 128 * hh.val + c.val % 128; omega)).trans ?_
    fin_cases hh
    · refine headB_apply (S := fun r => score q k b (256 * tq + r.val) (4 * g + 0)) (V := lanes v b (512 * g + 128 * 0))
        (fun i r j => ?_) (fun r j => sc 0 0 4096 256 (by omega) rfl (by omega) _ _ r j) (fun i j d => ?_)
        (fun j d => vl 0 4096 256 (by omega) (by omega) _ j d) (one _) r ⟨c.val % 128, by omega⟩
      · fin_cases i
        · exact sc 0 0 0 512 (by omega) rfl (by omega) _ _ r j
        · exact sc 0 0 512 512 (by omega) rfl (by omega) _ _ r j
        · exact sc 0 0 1024 512 (by omega) rfl (by omega) _ _ r j
        · exact sc 0 0 1536 512 (by omega) rfl (by omega) _ _ r j
        · exact sc 0 0 2048 512 (by omega) rfl (by omega) _ _ r j
        · exact sc 0 0 2560 512 (by omega) rfl (by omega) _ _ r j
        · exact sc 0 0 3072 512 (by omega) rfl (by omega) _ _ r j
        · exact sc 0 0 3584 512 (by omega) rfl (by omega) _ _ r j
      · fin_cases i
        · exact vl 0 0 512 (by omega) (by omega) _ j d
        · exact vl 0 512 512 (by omega) (by omega) _ j d
        · exact vl 0 1024 512 (by omega) (by omega) _ j d
        · exact vl 0 1536 512 (by omega) (by omega) _ j d
        · exact vl 0 2048 512 (by omega) (by omega) _ j d
        · exact vl 0 2560 512 (by omega) (by omega) _ j d
        · exact vl 0 3072 512 (by omega) (by omega) _ j d
        · exact vl 0 3584 512 (by omega) (by omega) _ j d
    · refine headB_apply (S := fun r => score q k b (256 * tq + r.val) (4 * g + 1)) (V := lanes v b (512 * g + 128 * 1))
        (fun i r j => ?_) (fun r j => sc 1 256 4096 256 (by omega) rfl (by omega) _ _ r j) (fun i j d => ?_)
        (fun j d => vl 1 4096 256 (by omega) (by omega) _ j d) (one _) r ⟨c.val % 128, by omega⟩
      · fin_cases i
        · exact sc 1 256 0 512 (by omega) rfl (by omega) _ _ r j
        · exact sc 1 256 512 512 (by omega) rfl (by omega) _ _ r j
        · exact sc 1 256 1024 512 (by omega) rfl (by omega) _ _ r j
        · exact sc 1 256 1536 512 (by omega) rfl (by omega) _ _ r j
        · exact sc 1 256 2048 512 (by omega) rfl (by omega) _ _ r j
        · exact sc 1 256 2560 512 (by omega) rfl (by omega) _ _ r j
        · exact sc 1 256 3072 512 (by omega) rfl (by omega) _ _ r j
        · exact sc 1 256 3584 512 (by omega) rfl (by omega) _ _ r j
      · fin_cases i
        · exact vl 1 0 512 (by omega) (by omega) _ j d
        · exact vl 1 512 512 (by omega) (by omega) _ j d
        · exact vl 1 1024 512 (by omega) (by omega) _ j d
        · exact vl 1 1536 512 (by omega) (by omega) _ j d
        · exact vl 1 2048 512 (by omega) (by omega) _ j d
        · exact vl 1 2560 512 (by omega) (by omega) _ j d
        · exact vl 1 3072 512 (by omega) (by omega) _ j d
        · exact vl 1 3584 512 (by omega) (by omega) _ j d
    · refine headB_apply (S := fun r => score q k b (256 * tq + r.val) (4 * g + 2)) (V := lanes v b (512 * g + 128 * 2))
        (fun i r j => ?_) (fun r j => sc 2 512 4096 256 (by omega) rfl (by omega) _ _ r j) (fun i j d => ?_)
        (fun j d => vl 2 4096 256 (by omega) (by omega) _ j d) (one _) r ⟨c.val % 128, by omega⟩
      · fin_cases i
        · exact sc 2 512 0 512 (by omega) rfl (by omega) _ _ r j
        · exact sc 2 512 512 512 (by omega) rfl (by omega) _ _ r j
        · exact sc 2 512 1024 512 (by omega) rfl (by omega) _ _ r j
        · exact sc 2 512 1536 512 (by omega) rfl (by omega) _ _ r j
        · exact sc 2 512 2048 512 (by omega) rfl (by omega) _ _ r j
        · exact sc 2 512 2560 512 (by omega) rfl (by omega) _ _ r j
        · exact sc 2 512 3072 512 (by omega) rfl (by omega) _ _ r j
        · exact sc 2 512 3584 512 (by omega) rfl (by omega) _ _ r j
      · fin_cases i
        · exact vl 2 0 512 (by omega) (by omega) _ j d
        · exact vl 2 512 512 (by omega) (by omega) _ j d
        · exact vl 2 1024 512 (by omega) (by omega) _ j d
        · exact vl 2 1536 512 (by omega) (by omega) _ j d
        · exact vl 2 2048 512 (by omega) (by omega) _ j d
        · exact vl 2 2560 512 (by omega) (by omega) _ j d
        · exact vl 2 3072 512 (by omega) (by omega) _ j d
        · exact vl 2 3584 512 (by omega) (by omega) _ j d
    · refine headB_apply (S := fun r => score q k b (256 * tq + r.val) (4 * g + 3)) (V := lanes v b (512 * g + 128 * 3))
        (fun i r j => ?_) (fun r j => sc 3 768 4096 256 (by omega) rfl (by omega) _ _ r j) (fun i j d => ?_)
        (fun j d => vl 3 4096 256 (by omega) (by omega) _ j d) (one _) r ⟨c.val % 128, by omega⟩
      · fin_cases i
        · exact sc 3 768 0 512 (by omega) rfl (by omega) _ _ r j
        · exact sc 3 768 512 512 (by omega) rfl (by omega) _ _ r j
        · exact sc 3 768 1024 512 (by omega) rfl (by omega) _ _ r j
        · exact sc 3 768 1536 512 (by omega) rfl (by omega) _ _ r j
        · exact sc 3 768 2048 512 (by omega) rfl (by omega) _ _ r j
        · exact sc 3 768 2560 512 (by omega) rfl (by omega) _ _ r j
        · exact sc 3 768 3072 512 (by omega) rfl (by omega) _ _ r j
        · exact sc 3 768 3584 512 (by omega) rfl (by omega) _ _ r j
      · fin_cases i
        · exact vl 3 0 512 (by omega) (by omega) _ j d
        · exact vl 3 512 512 (by omega) (by omega) _ j d
        · exact vl 3 1024 512 (by omega) (by omega) _ j d
        · exact vl 3 1536 512 (by omega) (by omega) _ j d
        · exact vl 3 2048 512 (by omega) (by omega) _ j d
        · exact vl 3 2560 512 (by omega) (by omega) _ j d
        · exact vl 3 3072 512 (by omega) (by omega) _ j d
        · exact vl 3 3584 512 (by omega) (by omega) _ j d
  refine (key ⟨c.val / 128, hcq⟩ rfl).trans ?_
  congr 1
  funext j
  refine (if_pos (by show c.val % 128 < 128; omega)).trans ?_
  show get v b j (512 * g + 128 * (c.val / 128) + c.val % 128) = _
  congr 1
  omega

/-- A block of context queries holds its rows' attention over the context keys. -/
theorem blockA_apply (r : Fin 256) (c : Fin 512) :
    blockA x0 x1 xs0 (ix3 (0 : Fin 1) r c)
      = att 256 (score q k b (256 * tq + r.val) (4 * g + c.val / 128)) (fun j => get v b j (512 * g + c.val)) := by
  have sc : ∀ (hh o : ℕ) (ho : o = 256 * hh) (hhh : hh < 4)
      (inbq : ∀ a, (![0, 0, o] : Fin 3 → ℕ) a + (![1, 256, 256] : Fin 3 → ℕ) a ≤ S1x256x1024.size a)
      (inbk : ∀ a, (![0, 0, o] : Fin 3 → ℕ) a + (![1, 256, 256] : Fin 3 → ℕ) a ≤ S1x4352x1024.size a) (r : Fin 256) (j : Fin 256),
      ∑ d : Fin 256, View.ld x0 (Rect.unit (s := S1x256x1024) ![0, 0, o] ![1, 256, 256] inbq) (ix3 (0 : Fin 1) r d)
        * View.ld x1 (Rect.unit (s := S1x4352x1024) ![0, 0, o] ![1, 256, 256] inbk) (ix3 (0 : Fin 1) j d)
        = (score q k b (256 * tq + r.val) (4 * g + hh) j.val : EReal) := by
    intro hh o ho hhh inbq inbk r j
    rw [← dotE_eq hq hk]
    unfold dotE
    refine Finset.sum_congr rfl fun d _ => ?_
    have hd := d.isLt
    have hr := r.isLt
    have hj := j.isLt
    rw [ld_get x0, ld_get x1]
    simp only [Fin.val_zero, zero_add]
    rw [hx0 _ _ hr (by omega), hx1 _ _ (by omega) (by omega), show 1024 * g + (o + d.val) = 256 * (4 * g + hh) + d.val by omega]
  have vl : ∀ (hh : ℕ) (hhh : hh < 4)
      (inb : ∀ a, (![hh, 0, 0] : Fin 3 → ℕ) a + (![1, 256, 256] : Fin 3 → ℕ) a ≤ S4x4352x256.size a) (j : Fin 256) (d : Fin 256),
      View.ld xs0 (Rect.unit (s := S4x4352x256) ![hh, 0, 0] ![1, 256, 256] inb) (ix3 (0 : Fin 1) j d)
        = lanes v b (512 * g + 128 * hh) j.val d := by
    intro hh hhh inb j d
    have hj := j.isLt
    rw [ld_get xs0]
    simp only [Fin.val_zero, zero_add, add_zero]
    rw [hxs _ _ _ hhh (by omega) d.isLt]
    rfl
  have one : ∀ (o : ℕ) (k : ℕ) (d : Fin 128), k < 256 → lanes v b o k (⟨128 + d.val, by omega⟩ : Fin 256) = 1 :=
    fun o k d _ => if_neg (by show ¬(128 + d.val < 128); omega)
  have hcq : c.val / 128 < 4 := by have := c.isLt; omega
  have key : ∀ hh : Fin 4, c.val / 128 = hh.val → (blockA x0 x1 xs0 (ix3 (0 : Fin 1) r c)
      = att 256 (score q k b (256 * tq + r.val) (4 * g + hh.val))
          (fun j => lanes v b (512 * g + 128 * hh.val) j (⟨c.val % 128, by omega⟩ : Fin 256))) := by
    intro hh hc
    unfold blockA
    refine (join_apply ![_, _, _, _] hh r ⟨c.val % 128, by omega⟩ c (by show c.val = 128 * hh.val + c.val % 128; omega)).trans ?_
    fin_cases hh
    · exact headA_apply (S := fun r => score q k b (256 * tq + r.val) (4 * g + 0)) (V := lanes v b (512 * g + 128 * 0))
        (fun r j => sc 0 0 rfl (by omega) _ _ r j)
        (fun j d => vl 0 (by omega) _ j d) (one _) r ⟨c.val % 128, by omega⟩
    · exact headA_apply (S := fun r => score q k b (256 * tq + r.val) (4 * g + 1)) (V := lanes v b (512 * g + 128 * 1))
        (fun r j => sc 1 256 rfl (by omega) _ _ r j)
        (fun j d => vl 1 (by omega) _ j d) (one _) r ⟨c.val % 128, by omega⟩
    · exact headA_apply (S := fun r => score q k b (256 * tq + r.val) (4 * g + 2)) (V := lanes v b (512 * g + 128 * 2))
        (fun r j => sc 2 512 rfl (by omega) _ _ r j)
        (fun j d => vl 2 (by omega) _ j d) (one _) r ⟨c.val % 128, by omega⟩
    · exact headA_apply (S := fun r => score q k b (256 * tq + r.val) (4 * g + 3)) (V := lanes v b (512 * g + 128 * 3))
        (fun r j => sc 3 768 rfl (by omega) _ _ r j)
        (fun j d => vl 3 (by omega) _ j d) (one _) r ⟨c.val % 128, by omega⟩
  refine (key ⟨c.val / 128, hcq⟩ rfl).trans ?_
  congr 1
  funext j
  refine (if_pos (by show c.val % 128 < 128; omega)).trans ?_
  show get v b j (512 * g + 128 * (c.val / 128) + c.val % 128) = _
  congr 1
  omega

end

end Cert.KernelIdeal.Hand

end
-- ==== Proof.Final.lean ====
/- The attention kernel's result array: every element is its row's attention. -/
module

public import proofs.«01_k».proof.Proof.Block
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Cert.Mla

variable (m : (ℓ : Loc nD τ sig) → Buf (Elt Ideal) ℓ)

/-- The block indices of the four windows at a point. -/
theorem idx : ∀ t : Fin cfg0.N, win0_0.index t = ![t.val / 34, t.val % 17, t.val / 17 % 2]
    ∧ win0_1.index t = ![t.val / 34, 0, t.val / 17 % 2] ∧ win0_2.index t = ![t.val / 34, 0, t.val / 17 % 2]
    ∧ win0_3.index t = ![t.val / 34, t.val % 17, t.val / 17 % 2] :=
  (by decide +kernel : ∀ t : Fin grid0.N, _)

/-- The three argument arrays. -/
abbrev Q (c : Dev nD) : Vec Ideal S4x4352x2048 .bf16 := m ((c : Thread nD τ).loc main_arg0)
abbrev K (c : Dev nD) : Vec Ideal S4x4352x2048 .bf16 := m ((c : Thread nD τ).loc main_arg1)
abbrev VV (c : Dev nD) : Vec Ideal S4x4352x1024 .bf16 := m ((c : Thread nD τ).loc main_arg2)

theorem blk0 (c : Dev nD) (t : Fin cfg0.N) (r l : ℕ) (hr : r < 256) (hl : l < 1024) :
    get (iblk m c 0 t : Vec Ideal S1x256x1024 .bf16) 0 r l = get (Q m c) (t.val / 34) (256 * (t.val % 17) + r) (1024 * (t.val / 17 % 2) + l) := by
  obtain ⟨e0, e1, e2, e3⟩ := idx t
  unfold Mla.get
  rw [dif_pos ⟨by norm_num, hr, hl⟩]
  refine get_eq (Q m c) (((cfg0.win 0).blk t).view.emb _) _ _ _ ?_ ?_ ?_ <;> blk_simp [e0] <;> simp <;> omega

theorem blk1 (c : Dev nD) (t : Fin cfg0.N) (j l : ℕ) (hj : j < 4352) (hl : l < 1024) :
    get (iblk m c 1 t : Vec Ideal S1x4352x1024 .bf16) 0 j l = get (K m c) (t.val / 34) j (1024 * (t.val / 17 % 2) + l) := by
  obtain ⟨e0, e1, e2, e3⟩ := idx t
  unfold Mla.get
  rw [dif_pos ⟨by norm_num, hj, hl⟩]
  refine get_eq (K m c) (((cfg0.win 1).blk t).view.emb _) _ _ _ ?_ ?_ ?_ <;> blk_simp [e1] <;> simp <;> omega

theorem blk2 (c : Dev nD) (t : Fin cfg0.N) (j l : ℕ) (hj : j < 4352) (hl : l < 512) :
    get (iblk m c 2 t : Vec Ideal S1x4352x512 .bf16) 0 j l = get (VV m c) (t.val / 34) j (512 * (t.val / 17 % 2) + l) := by
  obtain ⟨e0, e1, e2, e3⟩ := idx t
  unfold Mla.get
  rw [dif_pos ⟨by norm_num, hj, hl⟩]
  refine get_eq (VV m c) (((cfg0.win 2).blk t).view.emb _) _ _ _ ?_ ?_ ?_ <;> blk_simp [e2] <;> simp <;> omega

/-- After every point of a run of 17 the scratch holds the extended values of that run's batch and heads. -/
theorem scratch (c : Dev nD) : ∀ (n : ℕ) (hn : n < cfg0.N) (h j l : ℕ), h < 4 → j < 4352 → l < 256 →
    get ((outsAt0 m c n hn).2 : Vec Ideal S4x4352x256 .bf16) h j l
      = if l < 128 then get (VV m c) (n / 34) j (512 * (n / 17 % 2) + 128 * h + l) else 1 := by
  intro n
  induction n with
  | zero =>
    intro hn h j l hh hj hl
    rw [outsAt0_A m c ⟨0, hn⟩ (by simp) (by simp) (by simp)]
    dsimp only
    rw [sout_A]
    refine (get_ix3 _ (⟨h, hh⟩ : Fin 4) (⟨j, hj⟩ : Fin 4352) (⟨l, hl⟩ : Fin 256)).symm.trans ((vxOf_get _ _ _ _).trans ?_)
    split
    · rename_i h1
      have h1 : l < 128 := h1
      refine (blk2 m c ⟨0, hn⟩ j (128 * h + l) hj (by omega)).trans ?_
      rw [Nat.add_assoc]
    · rfl
  | succ n ih =>
    intro hn h j l hh hj hl
    by_cases hr : (n + 1) % 17 = 0
    · rw [outsAt0_A m c ⟨n + 1, hn⟩ hr hr (by simp only; omega)]
      dsimp only
      rw [sout_A]
      refine (get_ix3 _ (⟨h, hh⟩ : Fin 4) (⟨j, hj⟩ : Fin 4352) (⟨l, hl⟩ : Fin 256)).symm.trans ((vxOf_get _ _ _ _).trans ?_)
      split
      · rename_i h1
        have h1 : l < 128 := h1
        refine (blk2 m c ⟨n + 1, hn⟩ j (128 * h + l) hj (by omega)).trans ?_
        rw [Nat.add_assoc]
      · rfl
    · rw [outsAt0_B m c ⟨n + 1, hn⟩ hr hr (by simp only; omega)]
      refine (ih (Nat.lt_of_succ_lt hn) h j l hh hj hl).trans ?_
      rw [show n / 34 = (n + 1) / 34 by omega, show n / 17 % 2 = (n + 1) / 17 % 2 by omega]

/-- The result array: the attention of the three argument arrays. -/
def G (c : Dev nD) : Vec Ideal S4x4352x1024 .bf16 := fun i => attn (Q m c) (K m c) (VV m c) (i 0).val (i 1).val (i 2).val

/-- What a point leaves in the output block. -/
theorem point (c : Dev nD) (hq : Real3 (Q m c)) (hk : Real3 (K m c)) (t : Fin cfg0.N) (r : Fin 256) (l : Fin 512) :
    ((outsAt0 m c t.val t.isLt).1 : Vec Ideal S1x256x512 .bf16) (ValueIdx.ix3 (0 : Fin 1) r l)
      = attn (Q m c) (K m c) (VV m c) (t.val / 34) (256 * (t.val % 17) + r.val) (512 * (t.val / 17 % 2) + l.val) := by
  have hr := r.isLt
  have hl := l.isLt
  by_cases h : t.val % 17 = 0
  · rw [outsAt0_A m c t h h (by omega)]
    dsimp only
    rw [out_A]
    refine (blockA_apply hq hk (fun r l hr hl => blk0 m c t r l hr hl) (fun j l hj hl => blk1 m c t j l hj hl)
      (v := VV m c) ?_ r l).trans ?_
    · intro h j l hh hj hl
      refine (get_ix3 _ (⟨h, hh⟩ : Fin 4) (⟨j, hj⟩ : Fin 4352) (⟨l, hl⟩ : Fin 256)).symm.trans ((vxOf_get _ _ _ _).trans ?_)
      split
      · rename_i h1
        have h1 : l < 128 := h1
        refine (blk2 m c t j (128 * h + l) hj (by omega)).trans ?_
        rw [Nat.add_assoc]
      · rfl
    · unfold attn
      rw [if_pos (by omega), show (512 * (t.val / 17 % 2) + l.val) / 128 = 4 * (t.val / 17 % 2) + l.val / 128 by omega]
  · rw [outsAt0_B m c t h h (by omega)]
    dsimp only
    rw [out_B]
    refine (blockB_apply hq hk (fun r l hr hl => blk0 m c t r l hr hl) (fun j l hj hl => blk1 m c t j l hj hl)
      (v := VV m c) ?_ r l).trans ?_
    · intro h' j l hh hj hl
      rw [scratch m c _ _ h' j l hh hj hl, show (t.val - 1) / 34 = t.val / 34 by omega, show (t.val - 1) / 17 % 2 = t.val / 17 % 2 by omega]
    · unfold attn
      rw [if_neg (by omega), show (512 * (t.val / 17 % 2) + l.val) / 128 = 4 * (t.val / 17 % 2) + l.val / 128 by omega]

theorem final (c : Dev nD) (hq : Real3 (Q m c)) (hk : Real3 (K m c)) :
    (dats m 0 c).arrAt 3 cfg0.N = G m c := by
  refine (dats m 0 c).arrAt_eq_of_covers 3 _ (by decide +kernel) fun t hf y => ?_
  obtain ⟨e0, e1, e2, e3⟩ := idx t
  have y0 : (y 0).val < 1 := (y 0).isLt
  have hG : G m c (((cfg0.win 3).blk t).view.emb y) = attn (Q m c) (K m c) (VV m c) (t.val / 34) (256 * (t.val % 17) + (y 1).val)
      (512 * (t.val / 17 % 2) + (y 2).val) := by
    show attn _ _ _ _ _ _ = _
    congr 1 <;> blk_simp [e3] <;> simp <;> omega
  refine Eq.trans ?_ hG.symm
  blk_simp
  rw [after0_3]
  refine Eq.trans ?_ (point m c hq hk t (y 1) (y 2))
  refine congrArg _ ?_
  refine (ValueIdx.eq_ix3 (n0 := 1) (n1 := 256) (n2 := 512) y).trans ?_
  exact congrArg (fun z => ValueIdx.ix3 (n0 := 1) (n1 := 256) (n2 := 512) z (y 1) (y 2)) (Subsingleton.elim (α := Fin 1) _ _)

end Cert.KernelIdeal.Hand

end
-- ==== Proof.RefValue.lean ====
/- What the reference computes: each entry of its result is the attention of one row of the three arrays. -/
module

public import proofs.«01_k».proof.Proof.Array
public import proofs.«01_k».proof.Proof.Gen.ReferenceIdeal.Read
public import Idealize.ShloMosaic.Lib.KernelVsHost

@[expose] public section

noncomputable section

namespace Cert.ReferenceIdeal.Hand

open Idealize.ShloMosaic Idealize.ShloMosaic.ValueIdx Cert.Mla Cert.ReferenceIdeal Cert.ReferenceIdeal.Read
open scoped BigOperators

theorem ofBits_negInf : Ideal.ofBits .f32 0xFF800000#32 = ⊥ := by
  simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

variable (x0 x1 : (⟨3, ![4, 4352, 2048]⟩ : Shape).Idx → EReal) (x2 : (⟨3, ![4, 4352, 1024]⟩ : Shape).Idx → EReal)

theorem score_ctx (hq : Real3 x0) (hk : Real3 x1) (i : S4x8x256x256.Idx) :
    val_main_v12 (F := Ideal) x0 x1 i
      = ((score x0 x1 (i 0).val ((i 2).val) (i 1).val (i 3).val * Real.log 2 : ℝ) : EReal) := by
  have h0 : (i 0).val < 4 := (i 0).isLt
  have h1 : (i 1).val < 8 := (i 1).isLt
  have h2 : (i 2).val < 256 := (i 2).isLt
  have h3 : (i 3).val < 256 := (i 3).isLt
  have e : val_main_v9 (F := Ideal) x0 x1 i = dotE x0 x1 (i 0).val ((i 2).val) (i 1).val (i 3).val := by
    rw [val_main_v9_apply]
    refine Finset.sum_congr rfl fun k _ => ?_
    have hk : k.val < 256 := k.isLt
    refine congrArg₂ (· * ·) ?_ ?_
    · rw [val_main_v6_apply, val_main_v1_apply]
      refine get_eq x0 _ _ _ _ ?_ ?_ ?_ <;> simp <;> omega
    · rw [val_main_v7_apply, val_main_v3_apply]
      refine get_eq x1 _ _ _ _ ?_ ?_ ?_ <;> simp <;> omega
  rw [val_main_v12_apply, val_main_v11_apply, val_main_v10_apply, e, dotE_eq hq hk, EReal.coe_mul]
  exact congrArg (_ * ·) log_two

theorem max_ctx (hq : Real3 x0) (hk : Real3 x1) (j : S4x8x256.Idx) :
    ∃ μ : ℝ, val_main_v15 (F := Ideal) x0 x1 j = (μ : EReal) := by
  have hr : S4x8x256x256.Reduces [3] S4x8x256 := by decide
  have hh : ∀ k : Fin 256, (val_main_v12 (F := Ideal) x0 x1 ∘ hr.lift j) k
      = ((score x0 x1 (hr.lift j k 0).val ((hr.lift j k 2).val) (hr.lift j k 1).val (hr.lift j k 3).val * Real.log 2 : ℝ) : EReal) :=
    fun k => score_ctx x0 x1 hq hk (hr.lift j k)
  obtain ⟨μ, hμ⟩ := fold_max_real (Finset.univ : Finset (Fin 256)) ⟨(0 : Fin 256), Finset.mem_univ _⟩ _ _ hh
  refine ⟨μ, ?_⟩
  rw [val_main_v15_apply, val_main_v14_apply]
  have hm : val_main_v13 (F := Ideal) x0 x1 j = (μ : EReal) := by
    unfold val_main_v13 val_main_cst_0
    refine (congrFun (hostReduce_maximumf_eq_multiReduction _ _ _ _ hr (by decide) (by decide)) j).trans ?_
    refine (Ideal.multiReduction_maximumf_single _ _ hr _ _ j).trans ?_
    rw [show (FloatOps.ofBits (F := Ideal) FTy.f32 0xFF800000#32) = (⊥ : EReal) from ofBits_negInf]
    exact hμ
  rw [hm]
  exact (congrArg (max · (μ : EReal)) ofBits_negInf).trans (max_eq_right bot_le)

theorem row_ctx (hq : Real3 x0) (hk : Real3 x1) (b : Fin 4) (h : Fin 8) (t : Fin 256) (d : Fin 128) :
    val_main_v24 (F := Ideal) x0 x1 x2 (ix4 b h d t)
      = att 256 (score x0 x1 b.val (t.val) h.val) (fun k => get x2 b.val k (128 * h.val + d.val)) := by
  obtain ⟨μ, hμ⟩ := max_ctx x0 x1 hq hk (ix3 b h t)
  have he : ∀ i : S4x8x256x256.Idx, (i 0).val = b.val → (i 1).val = h.val → (i 2).val = t.val →
      val_main_v19 (F := Ideal) x0 x1 i
        = ((Real.exp (score x0 x1 b.val (t.val) h.val (i 3).val * Real.log 2 - μ) : ℝ) : EReal) := by
    intro i e0 e1 e2
    rw [val_main_v19_apply, val_main_v18_apply, score_ctx x0 x1 hq hk, val_main_v17_apply, val_main_v16_apply]
    rw [show idx_main_v16 (idx_main_v17 i) = ix3 b h t from funext fun a => Fin.ext (match a with
      | ⟨0, _⟩ => e0
      | ⟨1, _⟩ => e1
      | ⟨2, _⟩ => e2), hμ, e0, e1, e2]
    exact (congrArg Ideal.exp (EReal.coe_sub _ _).symm).trans (Ideal.exp_coe _)
  have hs : val_main_v20 (F := Ideal) x0 x1 (ix3 b h t)
      = ((∑ j : Fin 256, Real.exp (score x0 x1 b.val (t.val) h.val j.val * Real.log 2 - μ) : ℝ) : EReal) := by
    rw [val_main_v20_apply, coe_sum]
    have z : ∀ u, val_main_cst_2 (F := Ideal) u = 0 := fun _ => Ideal.ofBits_zero_f32
    rw [z, zero_add]
    exact Finset.sum_congr rfl fun k _ => he _ rfl rfl rfl
  rw [val_main_v24_apply, ← softmax_eq_att 256 (by norm_num) _ _ μ]
  refine Finset.sum_congr rfl fun k _ => congrArg₂ (· * ·) ?_ ?_
  · rw [val_main_v8_apply, val_main_v5_apply]
    have h0 := b.isLt
    have h1 := h.isLt
    have h2 := d.isLt
    have h3 := k.isLt
    have g0 : (ix4 b h d t 0).val = b.val := rfl
    have g1 : (ix4 b h d t 1).val = h.val := rfl
    have g2 : (ix4 b h d t 2).val = d.val := rfl
    refine get_eq x2 _ _ _ _ ?_ ?_ ?_ <;> simp <;> omega
  · rw [val_main_v23_apply, val_main_v22_apply, val_main_v21_apply, he _ rfl rfl rfl]
    rw [show idx_main_v21 (idx_main_v22 (ridx_main_v24 (ix4 b h d t) k)) = ix3 b h t from funext fun a => Fin.ext (match a with
      | ⟨0, _⟩ => rfl
      | ⟨1, _⟩ => rfl
      | ⟨2, _⟩ => rfl), hs]
    rfl

theorem score_lat (hq : Real3 x0) (hk : Real3 x1) (i : S4x8x4096x4352.Idx) :
    val_main_v31 (F := Ideal) x0 x1 i
      = ((score x0 x1 (i 0).val (256 + (i 2).val) (i 1).val (i 3).val * Real.log 2 : ℝ) : EReal) := by
  have h0 : (i 0).val < 4 := (i 0).isLt
  have h1 : (i 1).val < 8 := (i 1).isLt
  have h2 : (i 2).val < 4096 := (i 2).isLt
  have h3 : (i 3).val < 4352 := (i 3).isLt
  have e : val_main_v28 (F := Ideal) x0 x1 i = dotE x0 x1 (i 0).val (256 + (i 2).val) (i 1).val (i 3).val := by
    rw [val_main_v28_apply]
    refine Finset.sum_congr rfl fun k _ => ?_
    have hk : k.val < 256 := k.isLt
    refine congrArg₂ (· * ·) ?_ ?_
    · rw [val_main_v27_apply, val_main_v1_apply]
      refine get_eq x0 _ _ _ _ ?_ ?_ ?_ <;> simp <;> omega
    · rw [val_main_v3_apply]
      refine get_eq x1 _ _ _ _ ?_ ?_ ?_ <;> simp <;> omega
  rw [val_main_v31_apply, val_main_v30_apply, val_main_v29_apply, e, dotE_eq hq hk, EReal.coe_mul]
  exact congrArg (_ * ·) log_two

theorem max_lat (hq : Real3 x0) (hk : Real3 x1) (j : S4x8x4096.Idx) :
    ∃ μ : ℝ, val_main_v34 (F := Ideal) x0 x1 j = (μ : EReal) := by
  have hr : S4x8x4096x4352.Reduces [3] S4x8x4096 := by decide
  have hh : ∀ k : Fin 4352, (val_main_v31 (F := Ideal) x0 x1 ∘ hr.lift j) k
      = ((score x0 x1 (hr.lift j k 0).val (256 + (hr.lift j k 2).val) (hr.lift j k 1).val (hr.lift j k 3).val * Real.log 2 : ℝ) : EReal) :=
    fun k => score_lat x0 x1 hq hk (hr.lift j k)
  obtain ⟨μ, hμ⟩ := fold_max_real (Finset.univ : Finset (Fin 4352)) ⟨(0 : Fin 4352), Finset.mem_univ _⟩ _ _ hh
  refine ⟨μ, ?_⟩
  rw [val_main_v34_apply, val_main_v33_apply]
  have hm : val_main_v32 (F := Ideal) x0 x1 j = (μ : EReal) := by
    unfold val_main_v32 val_main_cst_4
    refine (congrFun (hostReduce_maximumf_eq_multiReduction _ _ _ _ hr (by decide) (by decide)) j).trans ?_
    refine (Ideal.multiReduction_maximumf_single _ _ hr _ _ j).trans ?_
    rw [show (FloatOps.ofBits (F := Ideal) FTy.f32 0xFF800000#32) = (⊥ : EReal) from ofBits_negInf]
    exact hμ
  rw [hm]
  exact (congrArg (max · (μ : EReal)) ofBits_negInf).trans (max_eq_right bot_le)

theorem row_lat (hq : Real3 x0) (hk : Real3 x1) (b : Fin 4) (h : Fin 8) (t : Fin 4096) (d : Fin 128) :
    val_main_v43 (F := Ideal) x0 x1 x2 (ix4 b h d t)
      = att 4352 (score x0 x1 b.val (256 + t.val) h.val) (fun k => get x2 b.val k (128 * h.val + d.val)) := by
  obtain ⟨μ, hμ⟩ := max_lat x0 x1 hq hk (ix3 b h t)
  have he : ∀ i : S4x8x4096x4352.Idx, (i 0).val = b.val → (i 1).val = h.val → (i 2).val = t.val →
      val_main_v38 (F := Ideal) x0 x1 i
        = ((Real.exp (score x0 x1 b.val (256 + t.val) h.val (i 3).val * Real.log 2 - μ) : ℝ) : EReal) := by
    intro i e0 e1 e2
    rw [val_main_v38_apply, val_main_v37_apply, score_lat x0 x1 hq hk, val_main_v36_apply, val_main_v35_apply]
    rw [show idx_main_v35 (idx_main_v36 i) = ix3 b h t from funext fun a => Fin.ext (match a with
      | ⟨0, _⟩ => e0
      | ⟨1, _⟩ => e1
      | ⟨2, _⟩ => e2), hμ, e0, e1, e2]
    exact (congrArg Ideal.exp (EReal.coe_sub _ _).symm).trans (Ideal.exp_coe _)
  have hs : val_main_v39 (F := Ideal) x0 x1 (ix3 b h t)
      = ((∑ j : Fin 4352, Real.exp (score x0 x1 b.val (256 + t.val) h.val j.val * Real.log 2 - μ) : ℝ) : EReal) := by
    rw [val_main_v39_apply, coe_sum]
    have z : ∀ u, val_main_cst_6 (F := Ideal) u = 0 := fun _ => Ideal.ofBits_zero_f32
    rw [z, zero_add]
    exact Finset.sum_congr rfl fun k _ => he _ rfl rfl rfl
  rw [val_main_v43_apply, ← softmax_eq_att 4352 (by norm_num) _ _ μ]
  refine Finset.sum_congr rfl fun k _ => congrArg₂ (· * ·) ?_ ?_
  · rw [val_main_v5_apply]
    have h0 := b.isLt
    have h1 := h.isLt
    have h2 := d.isLt
    have h3 := k.isLt
    have g0 : (ix4 b h d t 0).val = b.val := rfl
    have g1 : (ix4 b h d t 1).val = h.val := rfl
    have g2 : (ix4 b h d t 2).val = d.val := rfl
    refine get_eq x2 _ _ _ _ ?_ ?_ ?_ <;> simp <;> omega
  · rw [val_main_v42_apply, val_main_v41_apply, val_main_v40_apply, he _ rfl rfl rfl]
    rw [show idx_main_v40 (idx_main_v41 (ridx_main_v43 (ix4 b h d t) k)) = ix3 b h t from funext fun a => Fin.ext (match a with
      | ⟨0, _⟩ => rfl
      | ⟨1, _⟩ => rfl
      | ⟨2, _⟩ => rfl), hs]
    rfl

theorem result_apply (hq : Real3 x0) (hk : Real3 x1) (i : S4x4352x1024.Idx) :
    val_main_v47 (F := Ideal) x0 x1 x2 i = attn x0 x1 x2 (i 0).val (i 1).val (i 2).val := by
  have h0 : (i 0).val < 4 := (i 0).isLt
  have h1 : (i 1).val < 4352 := (i 1).isLt
  have h2 : (i 2).val < 1024 := (i 2).isLt
  rw [val_main_v47_apply]
  show val_main_v46 (F := Ideal) x0 x1 x2 i = _
  unfold val_main_v46 attn
  by_cases ht : (i 1).val < 256
  · rw [concatenate_pair_apply_left (s₁ := S4x256x1024) (s₂ := S4x4096x1024) (1 : Fin 3) _ _ _ i rfl (ix3 (⟨(i 0).val, h0⟩ : Fin 4) (⟨(i 1).val, ht⟩ : Fin 256) (⟨(i 2).val, h2⟩ : Fin 1024)) (fun b => match b with
      | ⟨0, _⟩ => rfl
      | ⟨1, _⟩ => rfl
      | ⟨2, _⟩ => rfl)]
    rw [val_main_v26_apply, val_main_v25_apply, if_pos ht]
    have e : idx_main_v25 (idx_main_v26 (ix3 (⟨(i 0).val, h0⟩ : Fin 4) (⟨(i 1).val, ht⟩ : Fin 256) (⟨(i 2).val, h2⟩ : Fin 1024)))
        = ix4 (⟨(i 0).val, h0⟩ : Fin 4) (⟨(i 2).val / 128, by omega⟩ : Fin 8) (⟨(i 2).val % 128, by omega⟩ : Fin 128) (⟨(i 1).val, ht⟩ : Fin 256) :=
      funext fun a => Fin.ext (match a with
        | ⟨0, _⟩ => by simp; omega
        | ⟨1, _⟩ => by simp; omega
        | ⟨2, _⟩ => by simp; omega
        | ⟨3, _⟩ => by simp; omega)
    rw [e, row_ctx x0 x1 x2 hq hk]
    show att 256 _ (fun k => get x2 (i 0).val k (128 * ((i 2).val / 128) + (i 2).val % 128)) = _
    rw [Nat.div_add_mod]
  · rw [concatenate_pair_apply_right (s₁ := S4x256x1024) (s₂ := S4x4096x1024) (1 : Fin 3) _ _ _ i rfl rfl (ix3 (⟨(i 0).val, h0⟩ : Fin 4) (⟨(i 1).val - 256, by omega⟩ : Fin 4096) (⟨(i 2).val, h2⟩ : Fin 1024)) (fun b hb => match b, hb with
      | ⟨0, _⟩, _ => rfl
      | ⟨1, _⟩, hb => absurd rfl hb
      | ⟨2, _⟩, _ => rfl) (show (i 1).val - 256 + 256 = (i 1).val by omega)]
    rw [val_main_v45_apply, val_main_v44_apply, if_neg ht]
    have e : idx_main_v44 (idx_main_v45 (ix3 (⟨(i 0).val, h0⟩ : Fin 4) (⟨(i 1).val - 256, by omega⟩ : Fin 4096) (⟨(i 2).val, h2⟩ : Fin 1024)))
        = ix4 (⟨(i 0).val, h0⟩ : Fin 4) (⟨(i 2).val / 128, by omega⟩ : Fin 8) (⟨(i 2).val % 128, by omega⟩ : Fin 128) (⟨(i 1).val - 256, by omega⟩ : Fin 4096) :=
      funext fun a => Fin.ext (match a with
        | ⟨0, _⟩ => by simp; omega
        | ⟨1, _⟩ => by simp; omega
        | ⟨2, _⟩ => by simp; omega
        | ⟨3, _⟩ => by simp; omega)
    rw [e, row_lat x0 x1 x2 hq hk]
    show att 4352 (score x0 x1 (i 0).val (256 + ((i 1).val - 256)) ((i 2).val / 128))
      (fun k => get x2 (i 0).val k (128 * ((i 2).val / 128) + (i 2).val % 128)) = _
    rw [Nat.div_add_mod, show 256 + ((i 1).val - 256) = (i 1).val by omega]

end Cert.ReferenceIdeal.Hand

end
-- ==== Proof.Attention.lean ====
/- The claims about the attention call. -/
module

public import proofs.«01_k».proof.Defs
public import proofs.«01_k».proof.Proof.Final
public import proofs.«01_k».proof.Proof.RefValue
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Attention

open Cert.Mla

/-- An extended real whose absolute value is below infinity is a real. -/
theorem real_of_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

theorem facts_finite : Cert.Pre_finite.Facts := ⟨by decide, by decide⟩

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite (hPre_finite := facts_finite) :=
  fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_finite : Cert.quiescent_ReferenceIdeal_pre_finite (hPre_finite := facts_finite) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic : Cert.algebraic_KernelIdeal_ReferenceIdeal_pre_finite (hPre_finite := facts_finite) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  have hq : Real3 (Cert.KernelIdeal.Hand.Q m c) := fun i => real_of_lt _ (congrFun (hpre c).1 i)
  have hk : Real3 (Cert.KernelIdeal.Hand.K m c) := fun i => real_of_lt _ (congrFun (hpre c).2 i)
  rw [Cert.ReferenceIdeal.Read.val_main_v47_eq]
  refine Eq.trans ?_ (Cert.KernelIdeal.Hand.final m c hq hk).symm
  obtain ⟨a0, a1, a2⟩ := hagree c
  rw [a0, a1, a2]
  exact funext fun i => Cert.ReferenceIdeal.Hand.result_apply _ _ _ hq hk i

end Cert.Proof.Attention

end
-- ==== Proof.Layer.lean ====
/- The output projection with its gated residual, and the normalised row, on arrays read at natural coordinates. -/
module

public import proofs.«01_k».proof.Proof.Array

@[expose] public section

noncomputable section

namespace Cert.Mla

open Idealize.ShloMosaic Idealize.ShloMosaic.ValueIdx
open scoped BigOperators

/-- A two-axis array read at natural coordinates, zero outside it. -/
def get2 {n0 n1 : ℕ} (X : (⟨2, ![n0, n1]⟩ : Shape).Idx → EReal) (a b : ℕ) : EReal :=
  if h : a < n0 ∧ b < n1 then X (ix2 ⟨a, h.1⟩ ⟨b, h.2⟩) else 0

theorem get2_ix2 {n0 n1 : ℕ} (X : (⟨2, ![n0, n1]⟩ : Shape).Idx → EReal) (a : Fin n0) (b : Fin n1) :
    X (ix2 a b) = get2 X a.val b.val := by
  unfold get2
  rw [dif_pos ⟨a.isLt, b.isLt⟩]

theorem get2_eq {n0 n1 : ℕ} (X : (⟨2, ![n0, n1]⟩ : Shape).Idx → EReal) (i : (⟨2, ![n0, n1]⟩ : Shape).Idx)
    (a b : ℕ) (ha : (i 0).val = a) (hb : (i 1).val = b) : X i = get2 X a b := by
  subst ha; subst hb
  conv_lhs => rw [eq_ix2 i]
  exact get2_ix2 X (i 0) (i 1)

/-- A one-axis array read at a natural coordinate, zero outside it. -/
def get1 {n0 : ℕ} (X : (⟨1, ![n0]⟩ : Shape).Idx → EReal) (a : ℕ) : EReal :=
  if h : a < n0 then X (ix1 ⟨a, h⟩) else 0

theorem get1_ix1 {n0 : ℕ} (X : (⟨1, ![n0]⟩ : Shape).Idx → EReal) (a : Fin n0) : X (ix1 a) = get1 X a.val := by
  unfold get1
  rw [dif_pos a.isLt]

theorem get1_eq {n0 : ℕ} (X : (⟨1, ![n0]⟩ : Shape).Idx → EReal) (i : (⟨1, ![n0]⟩ : Shape).Idx)
    (a : ℕ) (ha : (i 0).val = a) : X i = get1 X a := by
  subst ha
  conv_lhs => rw [eq_ix1 i]
  exact get1_ix1 X (i 0)

/-- The stack with every layer the layer `l`. -/
def layer {n0 n1 n2 : ℕ} (l : ℕ) (X : (⟨3, ![n0, n1, n2]⟩ : Shape).Idx → EReal) : (⟨3, ![n0, n1, n2]⟩ : Shape).Idx → EReal :=
  fun i => get X l (i 1).val (i 2).val

theorem get_layer {n0 n1 n2 : ℕ} (l : ℕ) (X : (⟨3, ![n0, n1, n2]⟩ : Shape).Idx → EReal) (a b c : ℕ) (ha : a < n0) (hb : b < n1) (hc : c < n2) :
    get (layer l X) a b c = get X l b c := (get_ix3 (layer l X) ⟨a, ha⟩ ⟨b, hb⟩ ⟨c, hc⟩).symm

/-- Row `t` of batch `b` of the merged branches times column `d` of layer `l`'s output weights. -/
def project (z : (⟨3, ![4, 4352, 2048]⟩ : Shape).Idx → EReal) (w : (⟨3, ![4, 2048, 2048]⟩ : Shape).Idx → EReal)
    (l b t d : ℕ) : EReal :=
  ∑ k : Fin 2048, get z b t k.val * get w l k.val d

/-- The residual stream after the output projection, gated by `g`. -/
def resid (z : (⟨3, ![4, 4352, 2048]⟩ : Shape).Idx → EReal) (w : (⟨3, ![4, 2048, 2048]⟩ : Shape).Idx → EReal)
    (x : (⟨3, ![4, 4352, 2048]⟩ : Shape).Idx → EReal) (g : ℕ → EReal) (l b t d : ℕ) : EReal :=
  get x b t d + g d * project z w l b t d

/-- Entry `d` of a row of 2048, divided by the root of the row's mean square plus 1e-6, times a gain. -/
def normed (x : ℕ → EReal) (g : EReal) (d : ℕ) : EReal :=
  x d * Ideal.rsqrt (Ideal.div (∑ k : Fin 2048, x k.val * x k.val) (Ideal.ofBits .f32 0x45000000#32)
    + Ideal.ofBits .f32 0x358637BD#32) * g

end Cert.Mla

end
-- ==== Proof.Rows.lean ====
/- What the final output projection's kernel computes on one block, entry by entry. -/
module

public import proofs.«01_k».proof.Proof.Layer
public import proofs.«01_k».proof.Proof.Gen.Kernel2Ideal.Skeleton
public import Idealize.ShloMosaic.Lib.ValueLayout
public import Idealize.ShloMosaic.Lib.MatmulPlain
public import Idealize.ShloMosaic.Lib.KernelVsHost

@[expose] public section

noncomputable section

namespace Cert.Kernel2Ideal.Hand

open Cert.Kernel2Ideal Cert.Kernel2Ideal.Gen Idealize.ShloMosaic Idealize.ShloMosaic.ValueIdx
open Cert.Mla
open scoped BigOperators

/-- A block's rows after the gated projection is added. -/
def rows (v0 : Vec Ideal S1x256x2048 .f32) (v2 : Vec Ideal S1x1x2048 .f32) (v4 : Vec Ideal S1x256x2048 .bf16)
    (v6 : Vec Ideal S1x2048x2048 .bf16) : FVec Ideal S256x2048 .f32 :=
  addf (shapeCast S256x2048 v0 shapeCasts_S1x256x2048_S256x2048)
    (mulf (broadcastTo S256x2048 (shapeCast S1x2048 v2 shapeCasts_S1x1x2048_S1x2048) broadcasts_S1x2048_S256x2048)
      (matmul dot_S256x2048_S2048x2048_S256x2048_1_0_0_1_n_n none (φ₁ := .bf16) (φ₂ := .bf16)
        (shapeCast S256x2048 v4 shapeCasts_S1x256x2048_S256x2048)
        (shapeCast S2048x2048 v6 shapeCasts_S1x2048x2048_S2048x2048) (constant S256x2048 .f32 0x00000000#32)))

theorem rows_apply (v0 : Vec Ideal S1x256x2048 .f32) (v2 : Vec Ideal S1x1x2048 .f32) (v4 : Vec Ideal S1x256x2048 .bf16)
    (v6 : Vec Ideal S1x2048x2048 .bf16) (r : Fin 256) (d : Fin 2048) :
    rows v0 v2 v4 v6 (ix2 r d) = get v0 0 r.val d.val
      + get v2 0 0 d.val * ∑ k : Fin 2048, get v4 0 r.val k.val * get v6 0 k.val d.val := by
  unfold rows
  rw [addf_apply, mulf_apply, shapeCast_1ab_ab_apply, broadcastTo_1b_ab_apply, shapeCast_1ab_ab_apply]
  refine congrArg₂ (· + ·) (get_ix3 v0 _ _ _) (congrArg₂ (· * ·) (get_ix3 v2 _ _ _) ?_)
  refine (Ideal.matmul_plain_apply none _ _ _ r d).trans ?_
  rw [constant_apply, Ideal.ofBits_zero_f32, zero_add]
  refine Finset.sum_congr rfl fun k _ => ?_
  rw [shapeCast_1ab_ab_apply, shapeCast_1ab_ab_apply]
  exact congrArg₂ (· * ·) (get_ix3 v4 _ _ _) (get_ix3 v6 _ _ _)

theorem pay_apply (v0 : Vec Ideal S1x256x2048 .f32) (v2 : Vec Ideal S1x1x2048 .f32) (v4 : Vec Ideal S1x256x2048 .bf16)
    (v6 : Vec Ideal S1x2048x2048 .bf16) (v12 : Vec Ideal S1x2048 .f32) (x : ℕ → EReal) (r : Fin 256) (d : Fin 2048)
    (hx : ∀ k : Fin 2048, rows v0 v2 v4 v6 (ix2 r k) = x k.val) :
    k0_pay1 (F := Ideal) v0 v2 v4 v6 v12 (ix3 (0 : Fin 1) r d) = normed x (get2 v12 0 d.val) d.val := by
  have hr : S256x2048.Reduces [1] S256 := by decide
  have hs : multiReduction (F := Ideal) .add [1] S256 (mulf (rows v0 v2 v4 v6) (rows v0 v2 v4 v6)) 0x00000000#32
      reduces_S256x2048_S256 (.inl rfl) rfl (ix1 r) = ∑ k : Fin 2048, x k.val * x k.val := by
    refine (Ideal.multiReduction_add_single _ _ hr _ _ (ix1 r)).trans ?_
    refine Finset.sum_congr rfl fun (k : Fin 2048) _ => ?_
    have e : hr.lift (ix1 r) k = ix2 r k := by
      funext a
      match a with
      | ⟨0, _⟩ => rfl
      | ⟨1, _⟩ => rfl
    exact congrArg₂ (· * ·) ((congrArg _ e).trans (hx k)) ((congrArg _ e).trans (hx k))
  unfold k0_pay1 normed
  dsimp only
  refine (shapeCast_ab_1ab_apply _ _ (0 : Fin 1) r d).trans ?_
  rw [mulf_apply, mulf_apply]
  refine congrArg₂ (· * ·) (congrArg₂ (· * ·) (hx d) ?_) ?_
  · refine (broadcastTo_apply _ _ (ix2 r d) (ix2 r (0 : Fin 1)) ?_).trans ?_
    · intro a
      match a with
      | ⟨0, _⟩ => rfl
      | ⟨1, _⟩ => rfl
    · refine congrArg Ideal.rsqrt (congrArg₂ (· + ·) (congrArg₂ Ideal.div ?_ rfl) rfl)
      refine (shapeCast_apply _ _ _ (ix1 r) (by rfl)).trans hs
  · rw [broadcastTo_1b_ab_apply]
    refine (shapeCast_apply _ _ _ (ix2 (0 : Fin 1) d) (by rfl)).trans ?_
    exact get2_ix2 v12 _ _

end Cert.Kernel2Ideal.Hand

end
-- ==== Proof.Projected.lean ====
/- The final output projection's kernel: what one grid point leaves, and the whole result array. -/
module

public import proofs.«01_k».proof.Proof.Rows
public import proofs.«01_k».proof.Proof.Gen.Kernel2Ideal.Value
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Mla
open scoped BigOperators

variable (m : (ℓ : Loc nD τ sig) → Buf (Elt Ideal) ℓ)

/-- The block indices of the six windows at a point. -/
theorem idx : ∀ t : Fin cfg0.N, win0_0.index t = ![t.val / 16, t.val % 16 + 1, 0]
    ∧ win0_1.index t = ![3, 0, 0] ∧ win0_2.index t = ![t.val / 16, t.val % 16 + 1, 0]
    ∧ win0_3.index t = ![t.val / 16, 0, 0] ∧ win0_4.index t = ![0, 0] ∧ win0_5.index t = ![t.val / 16, t.val % 16, 0] :=
  (by decide +kernel : ∀ t : Fin grid0.N, _)

/-- The five argument arrays. -/
abbrev Z (c : Dev nD) : Vec Ideal S4x4352x2048 .bf16 := m ((c : Thread nD τ).loc main_arg0)
abbrev W (c : Dev nD) : Vec Ideal S4x2048x2048 .f32 := m ((c : Thread nD τ).loc main_arg1)
abbrev X (c : Dev nD) : Vec Ideal S4x4352x2048 .f32 := m ((c : Thread nD τ).loc main_arg2)
abbrev GT (c : Dev nD) : Vec Ideal S4x2048 .f32 := m ((c : Thread nD τ).loc main_arg3)
abbrev GG (c : Dev nD) : Vec Ideal S2048 .f32 := m ((c : Thread nD τ).loc main_arg4)

/-- The arrays the host leaves before the region: the weights unchanged, the gate and the gain with an axis of one. -/
theorem V_w (c : Dev nD) : (V m c main_v0 : Vec Ideal S4x2048x2048 .bf16) = W m c := by
  unfold V hostOps0
  after_results_simp <;> rfl

theorem V_gt (c : Dev nD) : (V m c main_v1 : Vec Ideal S4x1x2048 .f32)
    = broadcastInDim S4x1x2048 ![0, 2] bcast_S4x2048_S4x1x2048_0_2 (GT m c) := by
  unfold V hostOps0
  after_results_simp <;> rfl

theorem V_g (c : Dev nD) : (V m c main_v2 : Vec Ideal S1x2048 .f32)
    = broadcastInDim S1x2048 ![1] bcast_S2048_S1x2048_1 (GG m c) := by
  unfold V hostOps0
  after_results_simp <;> rfl

theorem blk0 (c : Dev nD) (t : Fin cfg0.N) (r l : ℕ) (hr : r < 256) (hl : l < 2048) :
    get (iblk m c 0 t : Vec Ideal S1x256x2048 .bf16) 0 r l = get (Z m c) (t.val / 16) (256 + (256 * (t.val % 16) + r)) l := by
  obtain ⟨e0, e1, e2, e3, e4, e5⟩ := idx t
  unfold Mla.get
  rw [dif_pos ⟨by norm_num, hr, hl⟩]
  refine get_eq (Z m c) (((cfg0.win 0).blk t).view.emb _) _ _ _ ?_ ?_ ?_ <;> blk_simp [e0] <;> simp <;> omega

theorem blk1 (c : Dev nD) (t : Fin cfg0.N) (r l : ℕ) (hr : r < 2048) (hl : l < 2048) :
    get (iblk m c 1 t : Vec Ideal S1x2048x2048 .bf16) 0 r l = get (W m c) 3 r l := by
  obtain ⟨e0, e1, e2, e3, e4, e5⟩ := idx t
  unfold Mla.get
  rw [dif_pos ⟨by norm_num, hr, hl⟩]
  refine (congrFun (V_w m c) (((cfg0.win 1).blk t).view.emb _)).trans ?_
  refine get_eq (W m c) (((cfg0.win 1).blk t).view.emb _) _ _ _ ?_ ?_ ?_ <;> blk_simp [e1] <;> simp

theorem blk2 (c : Dev nD) (t : Fin cfg0.N) (r l : ℕ) (hr : r < 256) (hl : l < 2048) :
    get (iblk m c 2 t : Vec Ideal S1x256x2048 .f32) 0 r l = get (X m c) (t.val / 16) (256 + (256 * (t.val % 16) + r)) l := by
  obtain ⟨e0, e1, e2, e3, e4, e5⟩ := idx t
  unfold Mla.get
  rw [dif_pos ⟨by norm_num, hr, hl⟩]
  refine get_eq (X m c) (((cfg0.win 2).blk t).view.emb _) _ _ _ ?_ ?_ ?_ <;> blk_simp [e2] <;> simp <;> omega

theorem blk3 (c : Dev nD) (t : Fin cfg0.N) (l : ℕ) (hl : l < 2048) :
    get (iblk m c 3 t : Vec Ideal S1x1x2048 .f32) 0 0 l = get2 (GT m c) (t.val / 16) l := by
  obtain ⟨e0, e1, e2, e3, e4, e5⟩ := idx t
  have ht : t.val < 64 := t.isLt
  unfold Mla.get
  rw [dif_pos ⟨by norm_num, by norm_num, hl⟩]
  refine (congrFun (V_gt m c) (((cfg0.win 3).blk t).view.emb _)).trans ?_
  refine (broadcastInDim_apply _ bcast_S4x2048_S4x1x2048_0_2 (GT m c) _ (ValueIdx.ix2 (n0 := 4) (n1 := 2048) ⟨t.val / 16, by omega⟩ ⟨l, hl⟩) ?_).trans (get2_ix2 _ _ _)
  intro a
  match a with
  | ⟨0, _⟩ => blk_simp [e3] <;> simp
  | ⟨1, _⟩ => blk_simp [e3] <;> simp

theorem blk4 (c : Dev nD) (t : Fin cfg0.N) (l : ℕ) (hl : l < 2048) :
    get2 (iblk m c 4 t : Vec Ideal S1x2048 .f32) 0 l = get1 (GG m c) l := by
  obtain ⟨e0, e1, e2, e3, e4, e5⟩ := idx t
  unfold get2
  rw [dif_pos ⟨by norm_num, hl⟩]
  refine (congrFun (V_g m c) (((cfg0.win 4).blk t).view.emb _)).trans ?_
  refine (broadcastInDim_apply _ bcast_S2048_S1x2048_1 (GG m c) _ (ValueIdx.ix1 (n := 2048) ⟨l, hl⟩) ?_).trans (get1_eq _ _ _ rfl)
  intro a
  match a with
  | ⟨0, _⟩ => blk_simp [e4] <;> simp

/-- The normalised row of the updated residual stream. -/
def final2 (c : Dev nD) (b t d : ℕ) : EReal :=
  normed (fun k => resid (Z m c) (W m c) (X m c) (fun k => get2 (GT m c) b k) 3 b (256 + t) k) (get1 (GG m c) d) d

/-- What a point leaves in the output block. -/
theorem point (c : Dev nD) (t : Fin cfg0.N) (r : Fin 256) (d : Fin 2048) :
    (out0_5 (iblk m c 0 t) (iblk m c 1 t) (iblk m c 2 t) (iblk m c 3 t) (iblk m c 4 t) : Vec Ideal S1x256x2048 .f32)
      (ValueIdx.ix3 (0 : Fin 1) r d) = final2 m c (t.val / 16) (256 * (t.val % 16) + r.val) d.val := by
  have hr := r.isLt
  have hd := d.isLt
  have z3 : (![0, 0, 0] : Fin 3 → ℕ) = fun _ => 0 := by decide
  have z2 : (![0, 0] : Fin 2 → ℕ) = fun _ => 0 := by decide
  have e0 : ∀ k : Fin 2048, rows (iblk m c 2 t : Vec Ideal S1x256x2048 .f32) (iblk m c 3 t : Vec Ideal S1x1x2048 .f32)
      (iblk m c 0 t : Vec Ideal S1x256x2048 .bf16) (iblk m c 1 t : Vec Ideal S1x2048x2048 .bf16) (ValueIdx.ix2 r k)
      = resid (Z m c) (W m c) (X m c) (fun k => get2 (GT m c) (t.val / 16) k) 3 (t.val / 16) (256 + (256 * (t.val % 16) + r.val)) k.val := by
    intro k
    have hk := k.isLt
    refine (rows_apply _ _ _ _ r k).trans ?_
    unfold resid project
    refine congrArg₂ (· + ·) (blk2 m c t _ _ hr hk) (congrArg₂ (· * ·) (blk3 m c t _ hk) ?_)
    exact Finset.sum_congr rfl fun j _ => congrArg₂ (· * ·) (blk0 m c t _ _ hr j.isLt) (blk1 m c t _ _ j.isLt hk)
  unfold out0_5 r0_0 r0_1 r0_2 r0_3
  rw [View.canon_unit_zero z3, View.ld_unit_zero z3, View.ld_unit_zero z3, View.ld_unit_zero z3, View.ld_unit_zero z3, View.ld_unit_zero z2]
  refine (pay_apply _ _ _ _ _ _ r d e0).trans ?_
  unfold final2
  exact congrArg (fun g => normed _ g d.val) (blk4 m c t _ hd)

/-- The result array. -/
def G (c : Dev nD) : Vec Ideal S4x4096x2048 .f32 := fun i => final2 m c (i 0).val (i 1).val (i 2).val

theorem final (c : Dev nD) : (dats m 0 c).arrAt 5 cfg0.N = G m c := by
  refine (dats m 0 c).arrAt_eq_of_covers 5 _ (by decide +kernel) fun t hf y => ?_
  obtain ⟨e0, e1, e2, e3, e4, e5⟩ := idx t
  have y0 : (y 0).val < 1 := (y 0).isLt
  have hG : G m c (((cfg0.win 5).blk t).view.emb y) = final2 m c (t.val / 16) (256 * (t.val % 16) + (y 1).val) (y 2).val := by
    show final2 m c _ _ _ = _
    congr 1 <;> blk_simp [e5] <;> simp <;> omega
  refine Eq.trans ?_ hG.symm
  blk_simp
  rw [after0_5]
  refine Eq.trans ?_ (point m c t (y 1) (y 2))
  refine congrArg _ ?_
  refine (ValueIdx.eq_ix3 (n0 := 1) (n1 := 256) (n2 := 2048) y).trans ?_
  exact congrArg (fun z => ValueIdx.ix3 (n0 := 1) (n1 := 256) (n2 := 2048) z (y 1) (y 2)) (Subsingleton.elim (α := Fin 1) _ _)

end Cert.Kernel2Ideal.Hand

end
-- ==== Proof.RefProjected.lean ====
/- What the final projection's reference computes: each entry is the normalised row of the updated residual stream. -/
module

public import proofs.«01_k».proof.Proof.Layer
public import proofs.«01_k».proof.Proof.Gen.Reference2Ideal.Read

@[expose] public section

noncomputable section

namespace Cert.Reference2Ideal.Hand

open Idealize.ShloMosaic Idealize.ShloMosaic.ValueIdx Cert.Mla Cert.Reference2Ideal Cert.Reference2Ideal.Read
open scoped BigOperators

variable (x0 : (⟨3, ![4, 4352, 2048]⟩ : Shape).Idx → EReal) (x1 : (⟨3, ![4, 2048, 2048]⟩ : Shape).Idx → EReal)
  (x2 : (⟨3, ![4, 4352, 2048]⟩ : Shape).Idx → EReal) (x3 : (⟨2, ![4, 2048]⟩ : Shape).Idx → EReal)
  (x4 : (⟨1, ![2048]⟩ : Shape).Idx → EReal)

theorem stream (i : S4x4096x2048.Idx) : val_main_v9 (F := Ideal) x0 x1 x2 x3 i
    = resid x0 x1 x2 (fun k => get2 x3 (i 0).val k) 3 (i 0).val (256 + (i 1).val) (i 2).val := by
  have h0 : (i 0).val < 4 := (i 0).isLt
  have h1 : (i 1).val < 4096 := (i 1).isLt
  have h2 : (i 2).val < 2048 := (i 2).isLt
  rw [val_main_v9_apply, val_main_v5_apply, val_main_v8_apply, val_main_v7_apply, val_main_v6_apply, val_main_v4_apply]
  unfold resid project
  refine congrArg₂ (· + ·) ?_ (congrArg₂ (· * ·) ?_ (Finset.sum_congr rfl fun k _ => congrArg₂ (· * ·) ?_ ?_))
  · exact get_eq x2 _ _ _ _ rfl rfl rfl
  · exact get2_eq x3 _ _ _ rfl rfl
  · rw [val_main_v1_apply, val_main_v0_apply]
    exact get_eq x0 _ _ _ _ rfl rfl rfl
  · have hk : k.val < 2048 := k.isLt
    rw [val_main_v3_apply, val_main_v2_apply]
    refine get_eq x1 _ _ _ _ ?_ ?_ ?_ <;> simp <;> omega

theorem result_apply (i : S4x4096x2048.Idx) : val_main_v22 (F := Ideal) x0 x1 x2 x3 x4 i
    = normed (fun k => resid x0 x1 x2 (fun k => get2 x3 (i 0).val k) 3 (i 0).val (256 + (i 1).val) k) (get1 x4 (i 2).val) (i 2).val := by
  have z : ∀ u, val_main_cst (F := Ideal) u = 0 := fun _ => Ideal.ofBits_zero_f32
  rw [val_main_v22_apply, val_main_v19_apply, stream, val_main_v18_apply, val_main_v17_apply, val_main_v16_apply,
    val_main_v14_apply, val_main_v12_apply, val_main_v11_apply, z, zero_add, val_main_v21_apply, val_main_v20_apply]
  unfold normed
  refine congrArg₂ (· * ·) (congrArg₂ (· * ·) rfl ?_) ?_
  · refine congrArg Ideal.rsqrt (congrArg₂ (· + ·) (congrArg₂ Ideal.div ?_ ?_) ?_)
    · refine Finset.sum_congr rfl fun k _ => ?_
      rw [val_main_v10_apply, stream]
      rfl
    · rw [val_main_v13_apply]; rfl
    · rw [val_main_v15_apply]; rfl
  · exact get1_eq x4 _ _ rfl

end Cert.Reference2Ideal.Hand

end
-- ==== Proof.FinalProjection.lean ====
/- The claims about the final output projection. -/
module

public import proofs.«01_k».proof.Defs
public import proofs.«01_k».proof.Proof.Projected
public import proofs.«01_k».proof.Proof.RefProjected
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Quiescent

@[expose] public section

noncomputable section

open Idealize.ShloMosaic Idealize.ShloMosaic.TcCoe Idealize.SL.Sem

namespace Cert.Proof.FinalProjection

open Cert.Mla

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v22_eq]
  refine Eq.trans ?_ (Cert.Kernel2Ideal.Hand.final m c).symm
  obtain ⟨a0, a1, a2, a3, a4⟩ := hagree c
  rw [a0, a1, a2, a3, a4]
  exact funext fun i => Cert.Reference2Ideal.Hand.result_apply _ _ _ _ _ i

end Cert.Proof.FinalProjection

end
-- ==== Proof.Rows3.lean ====
/- What an inner output projection's kernel computes on one block, entry by entry. -/
module

public import proofs.«01_k».proof.Proof.Layer
public import proofs.«01_k».proof.Proof.Gen.Kernel3Ideal.Skeleton
public import Idealize.ShloMosaic.Lib.ValueLayout
public import Idealize.ShloMosaic.Lib.MatmulPlain
public import Idealize.ShloMosaic.Lib.WordCmp

@[expose] public section

noncomputable section

namespace Cert.Kernel3Ideal.Hand

open Cert.Kernel3Ideal Cert.Kernel3Ideal.Gen Idealize.ShloMosaic Idealize.ShloMosaic.ValueIdx
open Cert.Mla
open scoped BigOperators

/-- The word of a row's position is below 256 exactly when the position is. -/
theorem below (n r : ℕ) (hn : n < 8) (hr : r < 544) :
    IntOp.cmpi .slt (IntOp.addi (Scalar.muli (BitVec.ofNat 32 n) 544#32) (BitVec.ofNat 32 r)) 256#32
      = if 544 * n + r < 256 then 1#1 else 0#1 := by
  have e : IntOp.addi (Scalar.muli (BitVec.ofNat 32 n) 544#32) (BitVec.ofNat 32 r) = BitVec.ofNat 32 (544 * n + r) := by
    show BitVec.ofNat 32 n * 544#32 + BitVec.ofNat 32 r = _
    apply BitVec.eq_of_toNat_eq
    simp [BitVec.toNat_add, BitVec.toNat_mul]
    omega
  rw [e, show (256#32 : BitVec 32) = BitVec.ofNat 32 256 from rfl, WordCmp.cmpi_slt_ofNat (by omega) (by omega)]
  by_cases h : 544 * n + r < 256 <;> simp [h]

theorem pay_apply (i : grid0.Coords) (v6 : Vec Ideal S1x2048 .f32) (v8 : Vec Ideal S1x1x2048 .f32) (v17 : Vec Ideal S1x544x2048 .f32)
    (v19 : Vec Ideal S1x544x2048 .bf16) (v21 : Vec Ideal S1x2048x2048 .bf16) (r : Fin 544) (d : Fin 2048) :
    k0_pay1 (F := Ideal) i v6 v8 v17 v19 v21 (ix3 (0 : Fin 1) r d) = get v17 0 r.val d.val
      + (if 544 * (i 1).val + r.val < 256 then get2 v6 0 d.val else get v8 0 0 d.val)
        * ∑ k : Fin 2048, get v19 0 r.val k.val * get v21 0 k.val d.val := by
  have hi : (i 1).val < 8 := (i 1).isLt
  unfold k0_pay1
  dsimp only
  refine (shapeCast_ab_1ab_apply _ _ (0 : Fin 1) r d).trans ?_
  rw [addf_apply, mulf_apply, shapeCast_1ab_ab_apply]
  refine congrArg₂ (· + ·) (get_ix3 v17 _ _ _) (congrArg₂ (· * ·) ?_ ?_)
  · rw [select_apply, broadcastTo_1b_ab_apply, broadcastTo_1b_ab_apply]
    have e : (broadcastTo S544x2048 (shapeCast S544x1 (cmpi .slt (addi (broadcast S544x1 (Scalar.muli (BitVec.ofNat 32 (i 1).val) 544#32))
        (iota .tc S544x1 32 [0] iota_S544x1_d0_w32)) (broadcast S544x1 256#32)) shapeCasts_S544x1_S544x1) broadcasts_S544x1_S544x2048 : IVec S544x2048 1)
        (ix2 r d) = if 544 * (i 1).val + r.val < 256 then 1#1 else 0#1 := by
      refine (broadcastTo_apply _ _ (ix2 r d) (ix2 r (0 : Fin 1)) ?_).trans ?_
      · intro a
        match a with
        | ⟨0, _⟩ => rfl
        | ⟨1, _⟩ => rfl
      · refine (shapeCast_apply _ _ _ (ix2 r (0 : Fin 1)) (by rfl)).trans ?_
        refine Eq.trans ?_ (below (i 1).val r.val hi r.isLt)
        show IntOp.cmpi .slt (IntOp.addi _ (iota .tc S544x1 32 [0] iota_S544x1_d0_w32 (ix2 r (0 : Fin 1)))) _ = _
        rw [WordCmp.iota_at]
        simp
        rfl
    rw [e]
    have g : (shapeCast S1x2048 (shapeCast S1x2048 v6 shapeCasts_S1x2048_S1x2048) shapeCasts_S1x2048_S1x2048 : FVec Ideal S1x2048 .f32)
        (ix2 (0 : Fin 1) d) = get2 v6 0 d.val :=
      (shapeCast_apply _ _ _ (ix2 (0 : Fin 1) d) (by rfl)).trans
        ((shapeCast_apply _ _ _ (ix2 (0 : Fin 1) d) (by rfl)).trans (get2_ix2 v6 _ _))
    have g' : (shapeCast S1x2048 (shapeCast S1x2048 v8 shapeCasts_S1x1x2048_S1x2048) shapeCasts_S1x2048_S1x2048 : FVec Ideal S1x2048 .f32)
        (ix2 (0 : Fin 1) d) = get v8 0 0 d.val :=
      (shapeCast_apply _ _ _ (ix2 (0 : Fin 1) d) (by rfl)).trans
        ((shapeCast_1ab_ab_apply v8 _ (0 : Fin 1) d).trans (get_ix3 v8 _ _ _))
    refine (congrArg₂ (Scalar.select _) g g').trans ?_
    by_cases h : 544 * (i 1).val + r.val < 256 <;> simp [h, Scalar.select]
  · refine (Ideal.matmul_plain_apply none _ _ _ r d).trans ?_
    rw [constant_apply, Ideal.ofBits_zero_f32, zero_add]
    refine Finset.sum_congr rfl fun k _ => ?_
    rw [shapeCast_1ab_ab_apply, shapeCast_1ab_ab_apply]
    exact congrArg₂ (· * ·) (get_ix3 v19 _ _ _) (get_ix3 v21 _ _ _)

end Cert.Kernel3Ideal.Hand

end
-- ==== Proof.Projected3.lean ====
/- The inner output projection's kernel: what one grid point leaves, and the whole result array. -/
module

public import proofs.«01_k».proof.Proof.Rows3
public import proofs.«01_k».proof.Proof.Gen.Kernel3Ideal.Value
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.Mla
open scoped BigOperators

variable (m : (ℓ : Loc nD τ sig) → Buf (Elt Ideal) ℓ)

/-- The block indices of the six windows at a point. -/
theorem idx : ∀ t : Fin cfg0.N, win0_0.index t = ![t.val / 8, t.val % 8, 0]
    ∧ win0_1.index t = ![0, 0, 0] ∧ win0_2.index t = ![t.val / 8, t.val % 8, 0]
    ∧ win0_3.index t = ![t.val / 8, 0, 0] ∧ win0_4.index t = ![0, 0] ∧ win0_5.index t = ![t.val / 8, t.val % 8, 0] :=
  (by decide +kernel : ∀ t : Fin grid0.N, _)

/-- The five argument arrays. -/
abbrev Z (c : Dev nD) : Vec Ideal S4x4352x2048 .bf16 := m ((c : Thread nD τ).loc main_arg0)
abbrev W (c : Dev nD) : Vec Ideal S4x2048x2048 .f32 := m ((c : Thread nD τ).loc main_arg1)
abbrev X (c : Dev nD) : Vec Ideal S4x4352x2048 .f32 := m ((c : Thread nD τ).loc main_arg2)
abbrev GT (c : Dev nD) : Vec Ideal S4x2048 .f32 := m ((c : Thread nD τ).loc main_arg3)
abbrev GG (c : Dev nD) : Vec Ideal S2048 .f32 := m ((c : Thread nD τ).loc main_arg4)

/-- The arrays the host leaves before the region: the weights unchanged, the gate and the gain with an axis of one. -/
theorem V_w (c : Dev nD) : (V m c main_v0 : Vec Ideal S4x2048x2048 .bf16) = W m c := by
  unfold V hostOps0
  after_results_simp <;> rfl

theorem V_gt (c : Dev nD) : (V m c main_v1 : Vec Ideal S4x1x2048 .f32)
    = broadcastInDim S4x1x2048 ![0, 2] bcast_S4x2048_S4x1x2048_0_2 (GT m c) := by
  unfold V hostOps0
  after_results_simp <;> rfl

theorem V_g (c : Dev nD) : (V m c main_v2 : Vec Ideal S1x2048 .f32)
    = broadcastInDim S1x2048 ![1] bcast_S2048_S1x2048_1 (GG m c) := by
  unfold V hostOps0
  after_results_simp <;> rfl

theorem blk0 (c : Dev nD) (t : Fin cfg0.N) (r l : ℕ) (hr : r < 544) (hl : l < 2048) :
    get (iblk m c 0 t : Vec Ideal S1x544x2048 .bf16) 0 r l = get (Z m c) (t.val / 8) (544 * (t.val % 8) + r) l := by
  obtain ⟨e0, e1, e2, e3, e4, e5⟩ := idx t
  unfold Mla.get
  rw [dif_pos ⟨by norm_num, hr, hl⟩]
  refine get_eq (Z m c) (((cfg0.win 0).blk t).view.emb _) _ _ _ ?_ ?_ ?_ <;> blk_simp [e0] <;> simp <;> omega

theorem blk1 (c : Dev nD) (t : Fin cfg0.N) (r l : ℕ) (hr : r < 2048) (hl : l < 2048) :
    get (iblk m c 1 t : Vec Ideal S1x2048x2048 .bf16) 0 r l = get (W m c) 0 r l := by
  obtain ⟨e0, e1, e2, e3, e4, e5⟩ := idx t
  unfold Mla.get
  rw [dif_pos ⟨by norm_num, hr, hl⟩]
  refine (congrFun (V_w m c) (((cfg0.win 1).blk t).view.emb _)).trans ?_
  refine get_eq (W m c) (((cfg0.win 1).blk t).view.emb _) _ _ _ ?_ ?_ ?_ <;> blk_simp [e1] <;> simp

/-- A weight block lying at layer `l` of the stack holds that layer. -/
theorem block_layer (l : ℕ) (hl : l < 4) (c : Dev nD) (e : S1x2048x2048.Idx → S4x2048x2048.Idx)
    (he : ∀ y a, (e y a).val = (![l, 0, 0] : Fin 3 → ℕ) a + (y a).val) (r k : ℕ) (hr : r < 2048) (hk : k < 2048) :
    get (fun y => (V m c main_v0 : Vec Ideal S4x2048x2048 .bf16) (e y) : Vec Ideal S1x2048x2048 .bf16) 0 r k
      = get (layer l (W m c)) 0 r k := by
  rw [get_layer l _ 0 r k (by norm_num) hr hk]
  refine (get_ix3 _ (0 : Fin 1) (⟨r, hr⟩ : Fin 2048) (⟨k, hk⟩ : Fin 2048)).symm.trans ?_
  refine (congrFun (V_w m c) _).trans (get_eq (W m c) _ _ _ _ (he _ 0) ?_ ?_)
  · exact (he _ 1).trans (Nat.zero_add r)
  · exact (he _ 2).trans (Nat.zero_add k)

theorem blk2 (c : Dev nD) (t : Fin cfg0.N) (r l : ℕ) (hr : r < 544) (hl : l < 2048) :
    get (iblk m c 2 t : Vec Ideal S1x544x2048 .f32) 0 r l = get (X m c) (t.val / 8) (544 * (t.val % 8) + r) l := by
  obtain ⟨e0, e1, e2, e3, e4, e5⟩ := idx t
  unfold Mla.get
  rw [dif_pos ⟨by norm_num, hr, hl⟩]
  refine get_eq (X m c) (((cfg0.win 2).blk t).view.emb _) _ _ _ ?_ ?_ ?_ <;> blk_simp [e2] <;> simp <;> omega

theorem blk3 (c : Dev nD) (t : Fin cfg0.N) (l : ℕ) (hl : l < 2048) :
    get (iblk m c 3 t : Vec Ideal S1x1x2048 .f32) 0 0 l = get2 (GT m c) (t.val / 8) l := by
  obtain ⟨e0, e1, e2, e3, e4, e5⟩ := idx t
  have ht : t.val < 32 := t.isLt
  unfold Mla.get
  rw [dif_pos ⟨by norm_num, by norm_num, hl⟩]
  refine (congrFun (V_gt m c) (((cfg0.win 3).blk t).view.emb _)).trans ?_
  refine (broadcastInDim_apply _ bcast_S4x2048_S4x1x2048_0_2 (GT m c) _ (ValueIdx.ix2 (n0 := 4) (n1 := 2048) ⟨t.val / 8, by omega⟩ ⟨l, hl⟩) ?_).trans (get2_ix2 _ _ _)
  intro a
  match a with
  | ⟨0, _⟩ => blk_simp [e3] <;> simp
  | ⟨1, _⟩ => blk_simp [e3] <;> simp

theorem blk4 (c : Dev nD) (t : Fin cfg0.N) (l : ℕ) (hl : l < 2048) :
    get2 (iblk m c 4 t : Vec Ideal S1x2048 .f32) 0 l = get1 (GG m c) l := by
  obtain ⟨e0, e1, e2, e3, e4, e5⟩ := idx t
  unfold get2
  rw [dif_pos ⟨by norm_num, hl⟩]
  refine (congrFun (V_g m c) (((cfg0.win 4).blk t).view.emb _)).trans ?_
  refine (broadcastInDim_apply _ bcast_S2048_S1x2048_1 (GG m c) _ (ValueIdx.ix1 (n := 2048) ⟨l, hl⟩) ?_).trans (get1_eq _ _ _ rfl)
  intro a
  match a with
  | ⟨0, _⟩ => blk_simp [e4] <;> simp

/-- The second grid coordinate at a point. -/
theorem coord : ∀ t : Fin cfg0.N, (grid0.coords t 1).val = t.val % 8 :=
  (by decide +kernel : ∀ t : Fin grid0.N, _)

/-- The residual stream after the gated projection with the weights `w`: the first 256 rows take the context's gate. -/
def final3 (w : Vec Ideal S4x2048x2048 .f32) (c : Dev nD) (b t d : ℕ) : EReal :=
  resid (Z m c) w (X m c) (fun k => if t < 256 then get1 (GG m c) k else get2 (GT m c) b k) 0 b t d

/-- What a point leaves in the output block, when the weight block holds the first layer of `w`. -/
theorem point (w : Vec Ideal S4x2048x2048 .f32) (c : Dev nD) (t : Fin cfg0.N) (v : Vec Ideal S1x2048x2048 .bf16)
    (hv : ∀ r k, r < 2048 → k < 2048 → get v 0 r k = get w 0 r k) (r : Fin 544) (d : Fin 2048) :
    (out0_5 (grid0.coords t) (iblk m c 0 t) v (iblk m c 2 t) (iblk m c 3 t) (iblk m c 4 t) : Vec Ideal S1x544x2048 .f32)
      (ValueIdx.ix3 (0 : Fin 1) r d) = final3 m w c (t.val / 8) (544 * (t.val % 8) + r.val) d.val := by
  have hr := r.isLt
  have hd := d.isLt
  have z3 : (![0, 0, 0] : Fin 3 → ℕ) = fun _ => 0 := by decide
  have z2 : (![0, 0] : Fin 2 → ℕ) = fun _ => 0 := by decide
  unfold out0_5 r0_0 r0_1 r0_2 r0_3
  rw [View.canon_unit_zero z3, View.ld_unit_zero z2, View.ld_unit_zero z3, View.ld_unit_zero z3, View.ld_unit_zero z3, View.ld_unit_zero z3]
  refine (pay_apply _ _ _ _ _ _ r d).trans ?_
  unfold final3 resid project
  rw [coord]
  refine congrArg₂ (· + ·) (blk2 m c t _ _ hr hd) (congrArg₂ (· * ·) ?_ ?_)
  · exact congrArg₂ (fun u v => if 544 * (t.val % 8) + r.val < 256 then u else v) (blk4 m c t _ hd) (blk3 m c t _ hd)
  · exact Finset.sum_congr rfl fun j _ => congrArg₂ (· * ·) (blk0 m c t _ _ hr j.isLt) (hv _ _ j.isLt hd)

/-- The result array with the weights `w`. -/
def G (w : Vec Ideal S4x2048x2048 .f32) (c : Dev nD) : Vec Ideal S4x4352x2048 .f32 := fun i => final3 m w c (i 0).val (i 1).val (i 2).val

/-- A block with a point's entries is the point's block of the result array. -/
theorem block_eq (w : Vec Ideal S4x2048x2048 .f32) (c : Dev nD) (t : Fin cfg0.N) (B : Vec Ideal S1x544x2048 .f32)
    (hB : ∀ (r : Fin 544) (d : Fin 2048), B (ValueIdx.ix3 (0 : Fin 1) r d) = final3 m w c (t.val / 8) (544 * (t.val % 8) + r.val) d.val)
    (y : S1x544x2048.Idx) : B y = G m w c (((cfg0.win 5).blk t).view.emb y) := by
  obtain ⟨e0, e1, e2, e3, e4, e5⟩ := idx t
  have y0 : (y 0).val < 1 := (y 0).isLt
  have hG : G m w c (((cfg0.win 5).blk t).view.emb y) = final3 m w c (t.val / 8) (544 * (t.val % 8) + (y 1).val) (y 2).val := by
    show final3 m w c _ _ _ = _
    congr 1 <;> blk_simp [e5] <;> simp <;> omega
  refine Eq.trans (congrArg B ?_) ((hB (y 1) (y 2)).trans hG.symm)
  refine (ValueIdx.eq_ix3 (n0 := 1) (n1 := 544) (n2 := 2048) y).trans ?_
  exact congrArg (fun z => ValueIdx.ix3 (n0 := 1) (n1 := 544) (n2 := 2048) z (y 1) (y 2)) (Subsingleton.elim (α := Fin 1) _ _)

/-- The first layer's result. -/
theorem final (c : Dev nD) : (dats m 0 c).arrAt 5 cfg0.N = G m (W m c) c := by
  refine (dats m 0 c).arrAt_eq_of_covers 5 _ (by decide +kernel) fun t hf y => ?_
  refine Eq.trans ?_ (block_eq m (W m c) c t _ (point m (W m c) c t _ (blk1 m c t)) y)
  blk_simp
  rw [after0_5]

/-- What a point leaves when its weight block lies at layer `l`. -/
theorem layer_block (l : ℕ) (hl : l < 4) (c : Dev nD) (t : Fin cfg0.N) (e : S1x2048x2048.Idx → S4x2048x2048.Idx)
    (he : ∀ y a, (e y a).val = (![l, 0, 0] : Fin 3 → ℕ) a + (y a).val) (y : S1x544x2048.Idx) :
    (out0_5 (grid0.coords t) (iblk m c 0 t) (fun y => (V m c main_v0 : Vec Ideal S4x2048x2048 .bf16) (e y)) (iblk m c 2 t) (iblk m c 3 t)
      (iblk m c 4 t) : Vec Ideal S1x544x2048 .f32) y = G m (layer l (W m c)) c (((cfg0.win 5).blk t).view.emb y) :=
  block_eq m _ c t _ (point m _ c t _ (block_layer m l hl c e he)) y

end Cert.Kernel3Ideal.Hand

end
-- ==== Proof.RefProjected3.lean ====
/- What an inner projection's reference computes: each entry is the updated residual stream. -/
module

public import proofs.«01_k».proof.Proof.Layer
public import proofs.«01_k».proof.Proof.Gen.Reference3Ideal.Read

@[expose] public section

noncomputable section

namespace Cert.Reference3Ideal.Hand

open Idealize.ShloMosaic Idealize.ShloMosaic.ValueIdx Cert.Mla Cert.Reference3Ideal Cert.Reference3Ideal.Read
open scoped BigOperators

variable (x0 : (⟨3, ![4, 4352, 2048]⟩ : Shape).Idx → EReal) (x1 : (⟨3, ![4, 2048, 2048]⟩ : Shape).Idx → EReal)
  (x2 : (⟨3, ![4, 4352, 2048]⟩ : Shape).Idx → EReal) (x3 : (⟨2, ![4, 2048]⟩ : Shape).Idx → EReal)
  (x4 : (⟨1, ![2048]⟩ : Shape).Idx → EReal)

theorem product (i : S4x4352x2048.Idx) (b t d : ℕ) (h0 : (i 0).val = b) (h1 : (i 1).val = t) (h2 : (i 2).val = d) :
    val_main_v3 (F := Ideal) x0 x1 i = project x0 x1 0 b t d := by
  subst h0; subst h1; subst h2
  have h2 : (i 2).val < 2048 := (i 2).isLt
  rw [val_main_v3_apply]
  unfold project
  refine Finset.sum_congr rfl fun k _ => congrArg₂ (· * ·) ?_ ?_
  · rw [val_main_v0_apply]
    exact get_eq x0 _ _ _ _ rfl rfl rfl
  · have hk : k.val < 2048 := k.isLt
    rw [val_main_v2_apply, val_main_v1_apply]
    refine get_eq x1 _ _ _ _ ?_ ?_ ?_ <;> simp <;> omega

theorem result_apply (i : S4x4352x2048.Idx) : val_main_v16 (F := Ideal) x0 x1 x2 x3 x4 i
    = resid x0 x1 x2 (fun k => if (i 1).val < 256 then get1 x4 k else get2 x3 (i 0).val k) 0 (i 0).val (i 1).val (i 2).val := by
  have h0 : (i 0).val < 4 := (i 0).isLt
  have h1 : (i 1).val < 4352 := (i 1).isLt
  have h2 : (i 2).val < 2048 := (i 2).isLt
  unfold val_main_v16 resid
  by_cases ht : (i 1).val < 256
  · rw [concatenate_pair_apply_left (s₁ := S4x256x2048) (s₂ := S4x4096x2048) (1 : Fin 3) _ _ _ i rfl (ix3 (⟨(i 0).val, h0⟩ : Fin 4) (⟨(i 1).val, ht⟩ : Fin 256) (⟨(i 2).val, h2⟩ : Fin 2048)) (fun b => match b with
      | ⟨0, _⟩ => rfl
      | ⟨1, _⟩ => rfl
      | ⟨2, _⟩ => rfl)]
    rw [val_main_v9_apply, val_main_v4_apply, val_main_v8_apply, val_main_v7_apply, val_main_v6_apply, val_main_v5_apply]
    dsimp only
    rw [if_pos ht]
    refine congrArg₂ (· + ·) ?_ (congrArg₂ (· * ·) ?_ ?_)
    · refine get_eq x2 _ _ _ _ ?_ ?_ ?_ <;> simp
    · refine get1_eq x4 _ _ ?_
      simp
    · refine product x0 x1 _ _ _ _ ?_ ?_ ?_ <;> simp
  · rw [concatenate_pair_apply_right (s₁ := S4x256x2048) (s₂ := S4x4096x2048) (1 : Fin 3) _ _ _ i rfl rfl (ix3 (⟨(i 0).val, h0⟩ : Fin 4) (⟨(i 1).val - 256, by omega⟩ : Fin 4096) (⟨(i 2).val, h2⟩ : Fin 2048)) (fun b hb => match b, hb with
      | ⟨0, _⟩, _ => rfl
      | ⟨1, _⟩, hb => absurd rfl hb
      | ⟨2, _⟩, _ => rfl) (show (i 1).val - 256 + 256 = (i 1).val by omega)]
    rw [val_main_v15_apply, val_main_v10_apply, val_main_v14_apply, val_main_v13_apply, val_main_v11_apply, val_main_v12_apply]
    dsimp only
    rw [if_neg ht]
    refine congrArg₂ (· + ·) ?_ (congrArg₂ (· * ·) ?_ ?_)
    · refine get_eq x2 _ _ _ _ ?_ ?_ ?_ <;> simp <;> omega
    · refine get2_eq x3 _ _ _ ?_ ?_ <;> simp
    · refine product x0 x1 _ _ _ _ ?_ ?_ ?_ <;> simp <;> omega

/-- A slice at layer `l` is the first slice of that layer's weights. -/
theorem slice_layer (l : ℕ) (w : (⟨3, ![4, 2048, 2048]⟩ : Shape).Idx → EReal) (s : S1x2048x2048.Idx → EReal)
    (e : S1x2048x2048.Idx → S4x2048x2048.Idx) (hs : ∀ j, s j = w (e j))
    (he : ∀ j a, (e j a).val = (![l, 0, 0] : Fin 3 → ℕ) a + (j a).val) :
    s = val_main_v1 (F := Ideal) (layer l w) := by
  funext j
  have h : (j 0).val < 1 := (j 0).isLt
  rw [hs, val_main_v1_apply]
  refine get_eq w _ _ _ _ ((he j 0).trans ?_) ((he j 1).trans ?_) ((he j 2).trans ?_) <;> simp <;> omega

end Cert.Reference3Ideal.Hand

end
-- ==== Proof.Projection.lean ====
/- The claims about an inner output projection. -/
module

public import proofs.«01_k».proof.Defs
public import proofs.«01_k».proof.Proof.Projected3
public import proofs.«01_k».proof.Proof.RefProjected3
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Quiescent

@[expose] public section

noncomputable section

open Idealize.ShloMosaic Idealize.ShloMosaic.TcCoe Idealize.SL.Sem

namespace Cert.Proof.Projection

open Cert.Mla

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' hpre hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  rw [Cert.Reference3Ideal.Read.val_main_v16_eq]
  refine Eq.trans ?_ (Cert.Kernel3Ideal.Hand.final m c).symm
  obtain ⟨a0, a1, a2, a3, a4⟩ := hagree c
  rw [a0, a1, a2, a3, a4]
  exact funext fun i => Cert.Reference3Ideal.Hand.result_apply _ _ _ _ _ i

end Cert.Proof.Projection

end
-- ==== Proof.Projection1.lean ====
/- The second layer's inner output projection: the first layer's with the weights one layer on. -/
module

public import proofs.«01_k».proof.Defs
public import proofs.«01_k».proof.Proof.Projected3
public import proofs.«01_k».proof.Proof.RefProjected3
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Quiescent

@[expose] public section

set_option maxRecDepth 16384

noncomputable section

open Idealize.ShloMosaic Idealize.ShloMosaic.TcCoe Idealize.SL.Sem

namespace Cert.Proof.Projection1

open Cert.Mla Cert.Kernel9Ideal Cert.Kernel9Ideal.Gen Cert.Reference9Ideal.Read

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

variable (m : (ℓ : Loc nD τ sig) → Buf (Elt Ideal) ℓ)

/-- The weight block is the layer's at every point. -/
theorem index_w : ∀ t : Fin cfg0.N, win0_1.index t = ![1, 0, 0] := (by decide +kernel : ∀ t : Fin grid0.N, _)

theorem final (c : Dev nD) : (dats m 0 c).arrAt 5 cfg0.N = Cert.Kernel3Ideal.Hand.G m (layer 1 (Cert.Kernel3Ideal.Hand.W m c)) c := by
  refine (dats m 0 c).arrAt_eq_of_covers 5 _ (by decide +kernel) fun t hf y => ?_
  refine Eq.trans ?_ (Cert.Kernel3Ideal.Hand.layer_block m 1 (by norm_num) c t ((cfg0.win 1).blk t).view.emb
    (fun y a => by fin_cases a <;> blk_simp [index_w t] <;> simp) y)
  blk_simp
  rw [after0_5]
  rfl

/-- The reference takes the layer's slice, and is the first layer's from there on. -/
theorem reference_eq (x0 : (⟨3, ![4, 4352, 2048]⟩ : Shape).Idx → EReal) (x1 : (⟨3, ![4, 2048, 2048]⟩ : Shape).Idx → EReal)
    (x2 : (⟨3, ![4, 4352, 2048]⟩ : Shape).Idx → EReal) (x3 : (⟨2, ![4, 2048]⟩ : Shape).Idx → EReal) (x4 : (⟨1, ![2048]⟩ : Shape).Idx → EReal) :
    val_main_v16 (F := Ideal) x0 x1 x2 x3 x4 = Cert.Reference3Ideal.Read.val_main_v16 (F := Ideal) x0 (layer 1 x1) x2 x3 x4 := by
  have e : val_main_v3 (F := Ideal) x0 x1 = Cert.Reference3Ideal.Read.val_main_v3 (F := Ideal) x0 (layer 1 x1) := by
    unfold val_main_v3 val_main_v2
    rw [Cert.Reference3Ideal.Hand.slice_layer 1 x1 (val_main_v1 (F := Ideal) x1) idx_main_v1 (val_main_v1_apply (F := Ideal) x1) fun j a => by
      fin_cases a <;> simp [idx_main_v1]]
    rfl
  unfold val_main_v16 val_main_v9 val_main_v8 val_main_v5 val_main_v15 val_main_v14 val_main_v12
  rw [e]
  rfl

theorem algebraic : Cert.algebraic_Kernel9Ideal_Reference9Ideal := by
  intro m ρ m' ρ' hpre hagree
  refine ⟨_, Cert.Kernel9Ideal.Value.run_blocks (F := Ideal) m ρ, ?_⟩
  refine (θ_run Cert.Reference9Ideal.defs _ _).mono (fun _ h c => ⟨(h c).1.trans ?_, (h c).2⟩)
    (Cert.Reference9Ideal.Value.run (F := Ideal) m' ρ')
  rw [Cert.Reference9Ideal.Read.val_main_v16_eq]
  refine Eq.trans ?_ (final m c).symm
  obtain ⟨a0, a1, a2, a3, a4⟩ := hagree c
  rw [a0, a1, a2, a3, a4, reference_eq]
  exact funext fun i => Cert.Reference3Ideal.Hand.result_apply _ _ _ _ _ i

end Cert.Proof.Projection1

end
-- ==== Proof.Projection2.lean ====
/- The third layer's inner output projection: the first layer's with the weights two layers on. -/
module

public import proofs.«01_k».proof.Defs
public import proofs.«01_k».proof.Proof.Projected3
public import proofs.«01_k».proof.Proof.RefProjected3
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Quiescent

@[expose] public section

set_option maxRecDepth 16384

noncomputable section

open Idealize.ShloMosaic Idealize.ShloMosaic.TcCoe Idealize.SL.Sem

namespace Cert.Proof.Projection2

open Cert.Mla Cert.Kernel10Ideal Cert.Kernel10Ideal.Gen Cert.Reference10Ideal.Read

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

variable (m : (ℓ : Loc nD τ sig) → Buf (Elt Ideal) ℓ)

/-- The weight block is the layer's at every point. -/
theorem index_w : ∀ t : Fin cfg0.N, win0_1.index t = ![2, 0, 0] := (by decide +kernel : ∀ t : Fin grid0.N, _)

theorem final (c : Dev nD) : (dats m 0 c).arrAt 5 cfg0.N = Cert.Kernel3Ideal.Hand.G m (layer 2 (Cert.Kernel3Ideal.Hand.W m c)) c := by
  refine (dats m 0 c).arrAt_eq_of_covers 5 _ (by decide +kernel) fun t hf y => ?_
  refine Eq.trans ?_ (Cert.Kernel3Ideal.Hand.layer_block m 2 (by norm_num) c t ((cfg0.win 1).blk t).view.emb
    (fun y a => by fin_cases a <;> blk_simp [index_w t] <;> simp) y)
  blk_simp
  rw [after0_5]
  rfl

/-- The reference takes the layer's slice, and is the first layer's from there on. -/
theorem reference_eq (x0 : (⟨3, ![4, 4352, 2048]⟩ : Shape).Idx → EReal) (x1 : (⟨3, ![4, 2048, 2048]⟩ : Shape).Idx → EReal)
    (x2 : (⟨3, ![4, 4352, 2048]⟩ : Shape).Idx → EReal) (x3 : (⟨2, ![4, 2048]⟩ : Shape).Idx → EReal) (x4 : (⟨1, ![2048]⟩ : Shape).Idx → EReal) :
    val_main_v16 (F := Ideal) x0 x1 x2 x3 x4 = Cert.Reference3Ideal.Read.val_main_v16 (F := Ideal) x0 (layer 2 x1) x2 x3 x4 := by
  have e : val_main_v3 (F := Ideal) x0 x1 = Cert.Reference3Ideal.Read.val_main_v3 (F := Ideal) x0 (layer 2 x1) := by
    unfold val_main_v3 val_main_v2
    rw [Cert.Reference3Ideal.Hand.slice_layer 2 x1 (val_main_v1 (F := Ideal) x1) idx_main_v1 (val_main_v1_apply (F := Ideal) x1) fun j a => by
      fin_cases a <;> simp [idx_main_v1]]
    rfl
  unfold val_main_v16 val_main_v9 val_main_v8 val_main_v5 val_main_v15 val_main_v14 val_main_v12
  rw [e]
  rfl

theorem algebraic : Cert.algebraic_Kernel10Ideal_Reference10Ideal := by
  intro m ρ m' ρ' hpre hagree
  refine ⟨_, Cert.Kernel10Ideal.Value.run_blocks (F := Ideal) m ρ, ?_⟩
  refine (θ_run Cert.Reference10Ideal.defs _ _).mono (fun _ h c => ⟨(h c).1.trans ?_, (h c).2⟩)
    (Cert.Reference10Ideal.Value.run (F := Ideal) m' ρ')
  rw [Cert.Reference10Ideal.Read.val_main_v16_eq]
  refine Eq.trans ?_ (final m c).symm
  obtain ⟨a0, a1, a2, a3, a4⟩ := hagree c
  rw [a0, a1, a2, a3, a4, reference_eq]
  exact funext fun i => Cert.Reference3Ideal.Hand.result_apply _ _ _ _ _ i

end Cert.Proof.Projection2

end
-- ==== Proof.Gate.lean ====
/- The two gates of the merge, and the merged branches, on arrays read at natural coordinates. -/
module

public import proofs.«01_k».proof.Proof.Layer
public import Idealize.ShloMosaic.PureOps.Ideal.Laws

@[expose] public section

noncomputable section

namespace Cert.Mla

open Idealize.ShloMosaic Idealize.ShloMosaic.ValueIdx
open scoped BigOperators

/-- A four-axis array read at natural coordinates, zero outside it. -/
def get4 {n0 n1 n2 n3 : ℕ} (X : (⟨4, ![n0, n1, n2, n3]⟩ : Shape).Idx → EReal) (a b c d : ℕ) : EReal :=
  if h : a < n0 ∧ b < n1 ∧ c < n2 ∧ d < n3 then X (ix4 ⟨a, h.1⟩ ⟨b, h.2.1⟩ ⟨c, h.2.2.1⟩ ⟨d, h.2.2.2⟩) else 0

theorem get4_ix4 {n0 n1 n2 n3 : ℕ} (X : (⟨4, ![n0, n1, n2, n3]⟩ : Shape).Idx → EReal) (a : Fin n0) (b : Fin n1) (c : Fin n2) (d : Fin n3) :
    X (ix4 a b c d) = get4 X a.val b.val c.val d.val := by
  unfold get4
  rw [dif_pos ⟨a.isLt, b.isLt, c.isLt, d.isLt⟩]

theorem get4_eq {n0 n1 n2 n3 : ℕ} (X : (⟨4, ![n0, n1, n2, n3]⟩ : Shape).Idx → EReal) (i : (⟨4, ![n0, n1, n2, n3]⟩ : Shape).Idx)
    (a b c d : ℕ) (ha : (i 0).val = a) (hb : (i 1).val = b) (hc : (i 2).val = c) (hd : (i 3).val = d) : X i = get4 X a b c d := by
  subst ha; subst hb; subst hc; subst hd
  conv_lhs => rw [eq_ix4 i]
  exact get4_ix4 X (i 0) (i 1) (i 2) (i 3)

/-- The stack with every layer the layer `l`. -/
def layer4 {n0 n1 n2 n3 : ℕ} (l : ℕ) (X : (⟨4, ![n0, n1, n2, n3]⟩ : Shape).Idx → EReal) : (⟨4, ![n0, n1, n2, n3]⟩ : Shape).Idx → EReal :=
  fun i => get4 X l (i 1).val (i 2).val (i 3).val

theorem get4_layer4 {n0 n1 n2 n3 : ℕ} (l : ℕ) (X : (⟨4, ![n0, n1, n2, n3]⟩ : Shape).Idx → EReal) (a b c d : ℕ)
    (ha : a < n0) (hb : b < n1) (hc : c < n2) (hd : d < n3) : get4 (layer4 l X) a b c d = get4 X l b c d :=
  (get4_ix4 (layer4 l X) ⟨a, ha⟩ ⟨b, hb⟩ ⟨c, hc⟩ ⟨d, hd⟩).symm

/-- The gate on a branch's own output, from half its argument. -/
def gate (g : EReal) : EReal := g + g * Ideal.tanh g

/-- The mixing weight of a branch, from half its argument. -/
def weight (h : EReal) : EReal := Ideal.ofBits .f32 0x3F000000#32 + Ideal.ofBits .f32 0x3F000000#32 * Ideal.tanh h

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num

/-- The logistic function of twice a real, written with the hyperbolic tangent. -/
theorem logistic_real (x : ℝ) : 1 / (1 + Real.exp (-(2 * x))) = 1 / 2 + 1 / 2 * Real.tanh x := by
  have h := Real.exp_pos x
  have h2 : Real.exp (-(2 * x)) = (Real.exp x)⁻¹ * (Real.exp x)⁻¹ := by
    rw [← Real.exp_neg, ← Real.exp_add]; ring_nf
  rw [h2, Real.tanh_eq_sinh_div_cosh, Real.sinh_eq, Real.cosh_eq, Real.exp_neg]
  have h3 : Real.exp x + (Real.exp x)⁻¹ ≠ 0 := by positivity
  have h4 : 1 + (Real.exp x)⁻¹ * (Real.exp x)⁻¹ ≠ 0 := by positivity
  field_simp
  ring

theorem logistic_eq (h : EReal) :
    Ideal.div (Ideal.ofBits .f32 0x3F800000#32) (Ideal.ofBits .f32 0x3F800000#32
      + Ideal.exp (-(Ideal.ofBits .f32 0x40000000#32 * h))) = weight h := by
  unfold weight
  rw [half, two, one]
  induction h using EReal.rec with
  | bot =>
    rw [EReal.coe_mul_bot_of_pos (by norm_num), EReal.neg_bot, Ideal.tanh_bot, Ideal.exp_top, EReal.coe_add_top]
    rw [show ((1 / 2 : ℝ) : EReal) * -1 = ((-(1 / 2) : ℝ) : EReal) by rw [mul_neg, mul_one]; rfl, ← EReal.coe_add, Ideal.div, if_neg (by simp), EReal.inv_top]
    norm_num
  | top =>
    rw [EReal.coe_mul_top_of_pos (by norm_num), EReal.neg_top, Ideal.tanh_top, Ideal.exp_bot, add_zero, mul_one, ← EReal.coe_add, Ideal.div_coe (by norm_num), ← EReal.coe_mul]
    norm_num
  | coe r =>
    rw [← EReal.coe_mul, ← EReal.coe_neg, Ideal.exp_coe, ← EReal.coe_add, Ideal.tanh_coe, ← EReal.coe_mul, ← EReal.coe_add]
    have h : Real.exp (-(2 * r)) > 0 := Real.exp_pos _
    rw [Ideal.div_coe (by positivity), ← EReal.coe_mul, one_mul, logistic_real]

theorem silu_eq (r : ℝ) :
    (Ideal.ofBits .f32 0x40000000#32 * (r : EReal)) * Ideal.div (Ideal.ofBits .f32 0x3F800000#32) (Ideal.ofBits .f32 0x3F800000#32
      + Ideal.exp (-(Ideal.ofBits .f32 0x40000000#32 * (r : EReal)))) = gate r := by
  rw [logistic_eq]
  unfold weight gate
  rw [half, two, Ideal.tanh_coe]
  simp only [← EReal.coe_mul, ← EReal.coe_add]
  congr 1
  ring

/-- One branch at batch `b`, row `t`, column `d`: its gated output times its weights, mixed by its weight. -/
def branch (o : (⟨3, ![4, 4352, 1024]⟩ : Shape).Idx → EReal) (p : (⟨3, ![4, 4352, 14336]⟩ : Shape).Idx → EReal)
    (w : (⟨4, ![4, 3, 1024, 2048]⟩ : Shape).Idx → EReal) (n b t d : ℕ) : EReal :=
  weight (get p b t (8192 + 2048 * n + d))
    * ∑ k : Fin 1024, get o b t k.val * gate (get p b t (5120 + 1024 * n + k.val)) * get4 w 0 n k.val d

/-- The three branches merged. -/
def merged (oa ob oc : (⟨3, ![4, 4352, 1024]⟩ : Shape).Idx → EReal) (p : (⟨3, ![4, 4352, 14336]⟩ : Shape).Idx → EReal)
    (w : (⟨4, ![4, 3, 1024, 2048]⟩ : Shape).Idx → EReal) (b t d : ℕ) : EReal :=
  branch oa p w 0 b t d + branch ob p w 1 b t d + branch oc p w 2 b t d

end Cert.Mla

end
-- ==== Proof.Branches.lean ====
/- What the merge kernel computes on one block, entry by entry. -/
module

public import proofs.«01_k».proof.Proof.Gate
public import proofs.«01_k».proof.Proof.Gen.Kernel4Ideal.Skeleton
public import Idealize.ShloMosaic.Lib.ValueLayout
public import Idealize.ShloMosaic.Lib.MatmulPlain

@[expose] public section

noncomputable section

namespace Cert.Kernel4Ideal.Hand

open Cert.Kernel4Ideal Cert.Kernel4Ideal.Gen Idealize.ShloMosaic Idealize.ShloMosaic.ValueIdx
open Cert.Mla
open scoped BigOperators

/-- A branch of a block from its gated output `u`, its mixing argument and its weights. -/
def part (u : FVec Ideal S544x1024 .bf16) (h : Vec Ideal S1x544x2048 .bf16) (w : Vec Ideal S1x1x1024x2048 .bf16) : FVec Ideal S544x2048 .f32 :=
  mulf (addf (broadcast S544x2048 (Scalar.ofBits .f32 0x3F000000#32)) (mulf (broadcast S544x2048 (Scalar.ofBits .f32 0x3F000000#32))
      (tanh (extf .f32 (shapeCast S544x2048 h shapeCasts_S1x544x2048_S544x2048 : FVec Ideal S544x2048 .bf16) bitsLt_bf16_f32))))
    (matmul dot_S544x1024_S1024x2048_S544x2048_1_0_0_1_n_n none (φ₁ := .bf16) (φ₂ := .bf16) u
      (shapeCast S1024x2048 w shapeCasts_S1x1x1024x2048_S1024x2048) (constant S544x2048 .f32 0x00000000#32))

/-- A branch's output times its gate. -/
def gated (o : FVec Ideal S544x1024 .f32) (g : Vec Ideal S1x544x1024 .bf16) : FVec Ideal S544x1024 .bf16 :=
  truncf .bf16 (mulf o (addf (extf .f32 (shapeCast S544x1024 g shapeCasts_S1x544x1024_S544x1024 : FVec Ideal S544x1024 .bf16) bitsLt_bf16_f32)
    (mulf (extf .f32 (shapeCast S544x1024 g shapeCasts_S1x544x1024_S544x1024 : FVec Ideal S544x1024 .bf16) bitsLt_bf16_f32)
      (tanh (extf .f32 (shapeCast S544x1024 g shapeCasts_S1x544x1024_S544x1024 : FVec Ideal S544x1024 .bf16) bitsLt_bf16_f32))))) bitsLt_bf16_f32

theorem pay_eq (x0 x1 : Vec Ideal S1x544x1024 .bf16) (x2 : Vec Ideal S1x544x1024 .f32) (x3 x4 x5 : Vec Ideal S1x544x1024 .bf16)
    (x6 x7 x8 : Vec Ideal S1x544x2048 .bf16) (w0 w1 w2 : Vec Ideal S1x1x1024x2048 .bf16) :
    k0_pay1 (F := Ideal) (k0_pay4 (k0_pay2 x3 x0 x6 w0) (k0_pay3 x4 x1) x7 w1 x5 x2 x8 w2)
      = shapeCast S1x544x2048 (truncf .bf16 (addf (addf
          (part (gated (extf .f32 (shapeCast S544x1024 x0 shapeCasts_S1x544x1024_S544x1024 : FVec Ideal S544x1024 .bf16) bitsLt_bf16_f32) x3) x6 w0)
          (part (gated (extf .f32 (shapeCast S544x1024 x1 shapeCasts_S1x544x1024_S544x1024 : FVec Ideal S544x1024 .bf16) bitsLt_bf16_f32) x4) x7 w1))
          (part (gated (shapeCast S544x1024 x2 shapeCasts_S1x544x1024_S544x1024 : FVec Ideal S544x1024 .f32) x5) x8 w2))
          bitsLt_bf16_f32 : FVec Ideal S544x2048 .bf16) shapeCasts_S544x2048_S1x544x2048 := rfl

theorem gated_apply (o : FVec Ideal S544x1024 .f32) (g : Vec Ideal S1x544x1024 .bf16) (r : Fin 544) (k : Fin 1024) :
    gated o g (ix2 r k) = o (ix2 r k) * gate (get g 0 r.val k.val) := by
  have e : (shapeCast S544x1024 g shapeCasts_S1x544x1024_S544x1024 : FVec Ideal S544x1024 .bf16) (ix2 r k) = get g 0 r.val k.val :=
    (shapeCast_1ab_ab_apply g _ r k).trans (get_ix3 g _ _ _)
  exact congrArg (fun x => o (ix2 r k) * gate x) e

theorem part_apply (u : FVec Ideal S544x1024 .bf16) (h : Vec Ideal S1x544x2048 .bf16) (w : Vec Ideal S1x1x1024x2048 .bf16)
    (r : Fin 544) (d : Fin 2048) :
    part u h w (ix2 r d) = weight (get h 0 r.val d.val) * ∑ k : Fin 1024, u (ix2 r k) * get4 w 0 0 k.val d.val := by
  unfold part
  rw [mulf_apply]
  have e : (shapeCast S544x2048 h shapeCasts_S1x544x2048_S544x2048 : FVec Ideal S544x2048 .bf16) (ix2 r d) = get h 0 r.val d.val :=
    (shapeCast_1ab_ab_apply h _ r d).trans (get_ix3 h _ _ _)
  refine congrArg₂ (· * ·) (congrArg weight e) ?_
  refine (Ideal.matmul_plain_apply none _ _ _ r d).trans ?_
  rw [constant_apply, Ideal.ofBits_zero_f32, zero_add]
  refine Finset.sum_congr rfl fun k _ => congrArg (_ * ·) ?_
  refine (shapeCast_apply w _ (ix2 k d) (ix4 (0 : Fin 1) (0 : Fin 1) k d) ?_).trans (get4_ix4 w _ _ _ _)
  rw [Shape.rowMajor_val_four, Shape.rowMajor_val_two]
  show ((0 * 1 + 0) * 1024 + k.val) * 2048 + d.val = k.val * 2048 + d.val
  omega

/-- The block's entry, given what its blocks are of the whole arrays. -/
theorem pay_apply (x0 x1 : Vec Ideal S1x544x1024 .bf16) (x2 : Vec Ideal S1x544x1024 .f32) (x3 x4 x5 : Vec Ideal S1x544x1024 .bf16)
    (x6 x7 x8 : Vec Ideal S1x544x2048 .bf16) (w0 w1 w2 : Vec Ideal S1x1x1024x2048 .bf16) (r : Fin 544) (d : Fin 2048) :
    k0_pay1 (F := Ideal) (k0_pay4 (k0_pay2 x3 x0 x6 w0) (k0_pay3 x4 x1) x7 w1 x5 x2 x8 w2) (ix3 (0 : Fin 1) r d)
      = weight (get x6 0 r.val d.val) * (∑ k : Fin 1024, get x0 0 r.val k.val * gate (get x3 0 r.val k.val) * get4 w0 0 0 k.val d.val)
        + weight (get x7 0 r.val d.val) * (∑ k : Fin 1024, get x1 0 r.val k.val * gate (get x4 0 r.val k.val) * get4 w1 0 0 k.val d.val)
        + weight (get x8 0 r.val d.val) * (∑ k : Fin 1024, get x2 0 r.val k.val * gate (get x5 0 r.val k.val) * get4 w2 0 0 k.val d.val) := by
  rw [pay_eq]
  refine (shapeCast_ab_1ab_apply _ _ (0 : Fin 1) r d).trans ?_
  rw [truncf_apply]
  refine congrArg₂ (· + ·) (congrArg₂ (· + ·) ?_ ?_) ?_
  all_goals
    refine (part_apply _ _ _ r d).trans ?_
    refine congrArg (_ * ·) (Finset.sum_congr rfl fun k _ => congrArg (· * _) ?_)
    refine (gated_apply _ _ r k).trans (congrArg (· * _) ?_)
  · exact (shapeCast_1ab_ab_apply x0 _ r k).trans (get_ix3 x0 _ _ _)
  · exact (shapeCast_1ab_ab_apply x1 _ r k).trans (get_ix3 x1 _ _ _)
  · exact (shapeCast_1ab_ab_apply x2 _ r k).trans (get_ix3 x2 _ _ _)

end Cert.Kernel4Ideal.Hand

end
-- ==== Proof.Merged.lean ====
/- The merge kernel: what one grid point leaves, and the whole result array. -/
module

public import proofs.«01_k».proof.Proof.Branches
public import proofs.«01_k».proof.Proof.Gen.Kernel4Ideal.Value
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.Mla
open scoped BigOperators

variable (m : (ℓ : Loc nD τ sig) → Buf (Elt Ideal) ℓ)

/-- The block indices of the windows at a point. -/
theorem idx : ∀ t : Fin cfg0.N, (win0_0.index t = ![t.val / 8, t.val % 8, 0] ∧ win0_1.index t = ![t.val / 8, t.val % 8, 0]
    ∧ win0_2.index t = ![t.val / 8, t.val % 8, 0]) ∧ (win0_3.index t = ![t.val / 8, t.val % 8, 5]
    ∧ win0_4.index t = ![t.val / 8, t.val % 8, 6] ∧ win0_5.index t = ![t.val / 8, t.val % 8, 7])
    ∧ (win0_6.index t = ![t.val / 8, t.val % 8, 4] ∧ win0_7.index t = ![t.val / 8, t.val % 8, 5]
    ∧ win0_8.index t = ![t.val / 8, t.val % 8, 6]) ∧ win0_9.index t = ![0, 0, 0, 0]
    ∧ win0_10.index t = ![t.val / 8, t.val % 8, 0] :=
  (by decide +kernel : ∀ t : Fin grid0.N, _)

/-- The five argument arrays. -/
abbrev OA (c : Dev nD) : Vec Ideal S4x4352x1024 .bf16 := m ((c : Thread nD τ).loc main_arg0)
abbrev OB (c : Dev nD) : Vec Ideal S4x4352x1024 .bf16 := m ((c : Thread nD τ).loc main_arg1)
abbrev OC (c : Dev nD) : Vec Ideal S4x4352x1024 .f32 := m ((c : Thread nD τ).loc main_arg2)
abbrev P (c : Dev nD) : Vec Ideal S4x4352x14336 .bf16 := m ((c : Thread nD τ).loc main_arg3)
abbrev W (c : Dev nD) : Vec Ideal S4x3x1024x2048 .f32 := m ((c : Thread nD τ).loc main_arg4)

/-- The host leaves the weights unchanged. -/
theorem V_w (c : Dev nD) : (V m c main_v0 : Vec Ideal S4x3x1024x2048 .bf16) = W m c := by
  unfold V hostOps0
  after_results_simp <;> rfl

theorem blk0 (c : Dev nD) (t : Fin cfg0.N) (r l : ℕ) (hr : r < 544) (hl : l < 1024) :
    get (iblk m c 0 t : Vec Ideal S1x544x1024 .bf16) 0 r l = get (OA m c) (t.val / 8) (544 * (t.val % 8) + r) (l) := by
  obtain ⟨⟨e0, e1, e2⟩, ⟨e3, e4, e5⟩, ⟨e6, e7, e8⟩, e9, e10⟩ := idx t
  unfold Mla.get
  rw [dif_pos ⟨by norm_num, hr, hl⟩]
  refine get_eq (OA m c) (((cfg0.win 0).blk t).view.emb _) _ _ _ ?_ ?_ ?_ <;> blk_simp [e0] <;> simp <;> omega

theorem blk1 (c : Dev nD) (t : Fin cfg0.N) (r l : ℕ) (hr : r < 544) (hl : l < 1024) :
    get (iblk m c 1 t : Vec Ideal S1x544x1024 .bf16) 0 r l = get (OB m c) (t.val / 8) (544 * (t.val % 8) + r) (l) := by
  obtain ⟨⟨e0, e1, e2⟩, ⟨e3, e4, e5⟩, ⟨e6, e7, e8⟩, e9, e10⟩ := idx t
  unfold Mla.get
  rw [dif_pos ⟨by norm_num, hr, hl⟩]
  refine get_eq (OB m c) (((cfg0.win 1).blk t).view.emb _) _ _ _ ?_ ?_ ?_ <;> blk_simp [e1] <;> simp <;> omega

theorem blk2 (c : Dev nD) (t : Fin cfg0.N) (r l : ℕ) (hr : r < 544) (hl : l < 1024) :
    get (iblk m c 2 t : Vec Ideal S1x544x1024 .f32) 0 r l = get (OC m c) (t.val / 8) (544 * (t.val % 8) + r) (l) := by
  obtain ⟨⟨e0, e1, e2⟩, ⟨e3, e4, e5⟩, ⟨e6, e7, e8⟩, e9, e10⟩ := idx t
  unfold Mla.get
  rw [dif_pos ⟨by norm_num, hr, hl⟩]
  refine get_eq (OC m c) (((cfg0.win 2).blk t).view.emb _) _ _ _ ?_ ?_ ?_ <;> blk_simp [e2] <;> simp <;> omega

theorem blk3 (c : Dev nD) (t : Fin cfg0.N) (r l : ℕ) (hr : r < 544) (hl : l < 1024) :
    get (iblk m c 3 t : Vec Ideal S1x544x1024 .bf16) 0 r l = get (P m c) (t.val / 8) (544 * (t.val % 8) + r) (5120 + 1024 * 0 + l) := by
  obtain ⟨⟨e0, e1, e2⟩, ⟨e3, e4, e5⟩, ⟨e6, e7, e8⟩, e9, e10⟩ := idx t
  unfold Mla.get
  rw [dif_pos ⟨by norm_num, hr, hl⟩]
  refine get_eq (P m c) (((cfg0.win 3).blk t).view.emb _) _ _ _ ?_ ?_ ?_ <;> blk_simp [e3] <;> simp <;> omega

theorem blk4 (c : Dev nD) (t : Fin cfg0.N) (r l : ℕ) (hr : r < 544) (hl : l < 1024) :
    get (iblk m c 4 t : Vec Ideal S1x544x1024 .bf16) 0 r l = get (P m c) (t.val / 8) (544 * (t.val % 8) + r) (5120 + 1024 * 1 + l) := by
  obtain ⟨⟨e0, e1, e2⟩, ⟨e3, e4, e5⟩, ⟨e6, e7, e8⟩, e9, e10⟩ := idx t
  unfold Mla.get
  rw [dif_pos ⟨by norm_num, hr, hl⟩]
  refine get_eq (P m c) (((cfg0.win 4).blk t).view.emb _) _ _ _ ?_ ?_ ?_ <;> blk_simp [e4] <;> simp <;> omega

theorem blk5 (c : Dev nD) (t : Fin cfg0.N) (r l : ℕ) (hr : r < 544) (hl : l < 1024) :
    get (iblk m c 5 t : Vec Ideal S1x544x1024 .bf16) 0 r l = get (P m c) (t.val / 8) (544 * (t.val % 8) + r) (5120 + 1024 * 2 + l) := by
  obtain ⟨⟨e0, e1, e2⟩, ⟨e3, e4, e5⟩, ⟨e6, e7, e8⟩, e9, e10⟩ := idx t
  unfold Mla.get
  rw [dif_pos ⟨by norm_num, hr, hl⟩]
  refine get_eq (P m c) (((cfg0.win 5).blk t).view.emb _) _ _ _ ?_ ?_ ?_ <;> blk_simp [e5] <;> simp <;> omega

theorem blk6 (c : Dev nD) (t : Fin cfg0.N) (r l : ℕ) (hr : r < 544) (hl : l < 2048) :
    get (iblk m c 6 t : Vec Ideal S1x544x2048 .bf16) 0 r l = get (P m c) (t.val / 8) (544 * (t.val % 8) + r) (8192 + 2048 * 0 + l) := by
  obtain ⟨⟨e0, e1, e2⟩, ⟨e3, e4, e5⟩, ⟨e6, e7, e8⟩, e9, e10⟩ := idx t
  unfold Mla.get
  rw [dif_pos ⟨by norm_num, hr, hl⟩]
  refine get_eq (P m c) (((cfg0.win 6).blk t).view.emb _) _ _ _ ?_ ?_ ?_ <;> blk_simp [e6] <;> simp <;> omega

theorem blk7 (c : Dev nD) (t : Fin cfg0.N) (r l : ℕ) (hr : r < 544) (hl : l < 2048) :
    get (iblk m c 7 t : Vec Ideal S1x544x2048 .bf16) 0 r l = get (P m c) (t.val / 8) (544 * (t.val % 8) + r) (8192 + 2048 * 1 + l) := by
  obtain ⟨⟨e0, e1, e2⟩, ⟨e3, e4, e5⟩, ⟨e6, e7, e8⟩, e9, e10⟩ := idx t
  unfold Mla.get
  rw [dif_pos ⟨by norm_num, hr, hl⟩]
  refine get_eq (P m c) (((cfg0.win 7).blk t).view.emb _) _ _ _ ?_ ?_ ?_ <;> blk_simp [e7] <;> simp <;> omega

theorem blk8 (c : Dev nD) (t : Fin cfg0.N) (r l : ℕ) (hr : r < 544) (hl : l < 2048) :
    get (iblk m c 8 t : Vec Ideal S1x544x2048 .bf16) 0 r l = get (P m c) (t.val / 8) (544 * (t.val % 8) + r) (8192 + 2048 * 2 + l) := by
  obtain ⟨⟨e0, e1, e2⟩, ⟨e3, e4, e5⟩, ⟨e6, e7, e8⟩, e9, e10⟩ := idx t
  unfold Mla.get
  rw [dif_pos ⟨by norm_num, hr, hl⟩]
  refine get_eq (P m c) (((cfg0.win 8).blk t).view.emb _) _ _ _ ?_ ?_ ?_ <;> blk_simp [e8] <;> simp <;> omega

/-- The weight block. -/
theorem blk9 (c : Dev nD) (t : Fin cfg0.N) (n k d : ℕ) (hn : n < 3) (hk : k < 1024) (hd : d < 2048) :
    get4 (iblk m c 9 t : Vec Ideal S1x3x1024x2048 .bf16) 0 n k d = get4 (W m c) 0 n k d := by
  obtain ⟨⟨e0, e1, e2⟩, ⟨e3, e4, e5⟩, ⟨e6, e7, e8⟩, e9, e10⟩ := idx t
  unfold get4
  rw [dif_pos ⟨by norm_num, hn, hk, hd⟩]
  refine (congrFun (V_w m c) (((cfg0.win 9).blk t).view.emb _)).trans ?_
  refine get4_eq (W m c) (((cfg0.win 9).blk t).view.emb _) _ _ _ _ ?_ ?_ ?_ ?_ <;> blk_simp [e9] <;> simp

/-- A weight block lying at layer `l` of the stack holds that layer. -/
theorem block_layer (l : ℕ) (hl : l < 4) (c : Dev nD) (e : S1x3x1024x2048.Idx → S4x3x1024x2048.Idx)
    (he : ∀ y a, (e y a).val = (![l, 0, 0, 0] : Fin 4 → ℕ) a + (y a).val)
    (n k d : ℕ) (hn : n < 3) (hk : k < 1024) (hd : d < 2048) :
    get4 (fun y => (V m c main_v0 : Vec Ideal S4x3x1024x2048 .bf16) (e y) : Vec Ideal S1x3x1024x2048 .bf16) 0 n k d
      = get4 (layer4 l (W m c)) 0 n k d := by
  rw [get4_layer4 l _ 0 n k d (by norm_num) hn hk hd]
  refine (get4_ix4 _ (0 : Fin 1) (⟨n, hn⟩ : Fin 3) (⟨k, hk⟩ : Fin 1024) (⟨d, hd⟩ : Fin 2048)).symm.trans ?_
  refine (congrFun (V_w m c) _).trans (get4_eq (W m c) _ _ _ _ _ (he _ 0) ?_ ?_ ?_)
  · exact (he _ 1).trans (Nat.zero_add n)
  · exact (he _ 2).trans (Nat.zero_add k)
  · exact (he _ 3).trans (Nat.zero_add d)

/-- A branch's weights, loaded from a weight block. -/
theorem load (v : Vec Ideal S1x3x1024x2048 .bf16) (n : ℕ) (hn : n < 3)
    (inb : ∀ a, (![0, n, 0, 0] : Fin 4 → ℕ) a + S1x1x1024x2048.size a ≤ S1x3x1024x2048.size a) (k d : ℕ) (hk : k < 1024) (hd : d < 2048) :
    get4 (View.ld v (Rect.unit (s := S1x3x1024x2048) ![0, n, 0, 0] S1x1x1024x2048.size inb) : Vec Ideal S1x1x1024x2048 .bf16) 0 0 k d
      = get4 v 0 n k d := by
  refine (get4_ix4 _ (0 : Fin 1) (0 : Fin 1) (⟨k, hk⟩ : Fin 1024) (⟨d, hd⟩ : Fin 2048)).symm.trans ?_
  refine Eq.trans ?_ (get4_ix4 v (0 : Fin 1) (⟨n, hn⟩ : Fin 3) (⟨k, hk⟩ : Fin 1024) (⟨d, hd⟩ : Fin 2048))
  refine View.ld_unit_apply_of v ![0, n, 0, 0] S1x1x1024x2048.size inb _ _ ?_
  intro x
  match x with
  | ⟨0, _⟩ => rfl
  | ⟨1, _⟩ => rfl
  | ⟨2, _⟩ => exact (Nat.zero_add k).symm
  | ⟨3, _⟩ => exact (Nat.zero_add d).symm

/-- The output block's entry from the staged blocks. -/
theorem out_apply (x0 x1 : Vec Ideal S1x544x1024 .bf16) (x2 : Vec Ideal S1x544x1024 .f32) (x3 x4 x5 : Vec Ideal S1x544x1024 .bf16)
    (x6 x7 x8 : Vec Ideal S1x544x2048 .bf16) (x9 : Vec Ideal S1x3x1024x2048 .bf16) (r : Fin 544) (d : Fin 2048) :
    out0_10 x0 x1 x2 x3 x4 x5 x6 x7 x8 x9 (ValueIdx.ix3 (0 : Fin 1) r d)
      = weight (get x6 0 r.val d.val) * (∑ k : Fin 1024, get x0 0 r.val k.val * gate (get x3 0 r.val k.val)
          * get4 (View.ld x9 r0_2 : Vec Ideal S1x1x1024x2048 .bf16) 0 0 k.val d.val)
        + weight (get x7 0 r.val d.val) * (∑ k : Fin 1024, get x1 0 r.val k.val * gate (get x4 0 r.val k.val)
          * get4 (View.ld x9 r0_3 : Vec Ideal S1x1x1024x2048 .bf16) 0 0 k.val d.val)
        + weight (get x8 0 r.val d.val) * (∑ k : Fin 1024, get x2 0 r.val k.val * gate (get x5 0 r.val k.val)
          * get4 (View.ld x9 r0_4 : Vec Ideal S1x1x1024x2048 .bf16) 0 0 k.val d.val) := by
  have z3 : (![0, 0, 0] : Fin 3 → ℕ) = fun _ => 0 := by decide
  have l0 : ∀ X : Vec Ideal S1x544x1024 .bf16, View.ld X r0_0 = X := fun X => View.ld_unit_zero z3 _ X
  have l0' : ∀ X : Vec Ideal S1x544x1024 .f32, View.ld X r0_0 = X := fun X => View.ld_unit_zero z3 _ X
  have l1 : ∀ X : Vec Ideal S1x544x2048 .bf16, View.ld X r0_1 = X := fun X => View.ld_unit_zero z3 _ X
  have c1 : ∀ X : Vec Ideal S1x544x2048 .bf16, View.canon [⟨r0_1, X⟩] = X := fun X => View.canon_unit_zero z3 _ X
  unfold out0_10
  refine (congrFun (c1 _) _).trans ?_
  rw [l0 x0, l0 x1, l0' x2, l0 x3, l0 x4, l0 x5, l1 x6, l1 x7, l1 x8]
  exact pay_apply _ _ _ _ _ _ _ _ _ _ _ _ r d

/-- What a point leaves in the output block, when the weight block holds the first layer of `w`. -/
theorem point (w : Vec Ideal S4x3x1024x2048 .f32) (c : Dev nD) (t : Fin cfg0.N) (v : Vec Ideal S1x3x1024x2048 .bf16)
    (hv : ∀ n k d, n < 3 → k < 1024 → d < 2048 → get4 v 0 n k d = get4 w 0 n k d) (r : Fin 544) (d : Fin 2048) :
    (out0_10 (iblk m c 0 t) (iblk m c 1 t) (iblk m c 2 t) (iblk m c 3 t) (iblk m c 4 t) (iblk m c 5 t) (iblk m c 6 t)
      (iblk m c 7 t) (iblk m c 8 t) v : Vec Ideal S1x544x2048 .bf16)
      (ValueIdx.ix3 (0 : Fin 1) r d)
      = merged (OA m c) (OB m c) (OC m c) (P m c) w (t.val / 8) (544 * (t.val % 8) + r.val) d.val := by
  have hr := r.isLt
  have hd := d.isLt
  refine (out_apply _ _ _ _ _ _ _ _ _ _ r d).trans ?_
  unfold merged branch
  refine congrArg₂ (· + ·) (congrArg₂ (· + ·) ?_ ?_) ?_
  · refine congrArg₂ (· * ·) (congrArg weight (blk6 m c t _ _ hr hd)) (Finset.sum_congr rfl fun k _ => ?_)
    exact congrArg₂ (· * ·) (congrArg₂ (· * ·) (blk0 m c t _ _ hr k.isLt) (congrArg gate (blk3 m c t _ _ hr k.isLt))) ((load v 0 (by omega) _ _ _ k.isLt hd).trans (hv 0 _ _ (by omega) k.isLt hd))
  · refine congrArg₂ (· * ·) (congrArg weight (blk7 m c t _ _ hr hd)) (Finset.sum_congr rfl fun k _ => ?_)
    exact congrArg₂ (· * ·) (congrArg₂ (· * ·) (blk1 m c t _ _ hr k.isLt) (congrArg gate (blk4 m c t _ _ hr k.isLt))) ((load v 1 (by omega) _ _ _ k.isLt hd).trans (hv 1 _ _ (by omega) k.isLt hd))
  · refine congrArg₂ (· * ·) (congrArg weight (blk8 m c t _ _ hr hd)) (Finset.sum_congr rfl fun k _ => ?_)
    exact congrArg₂ (· * ·) (congrArg₂ (· * ·) (blk2 m c t _ _ hr k.isLt) (congrArg gate (blk5 m c t _ _ hr k.isLt))) ((load v 2 (by omega) _ _ _ k.isLt hd).trans (hv 2 _ _ (by omega) k.isLt hd))

/-- The result array with the weights `w`. -/
def G (w : Vec Ideal S4x3x1024x2048 .f32) (c : Dev nD) : Vec Ideal S4x4352x2048 .bf16 :=
  fun i => merged (OA m c) (OB m c) (OC m c) (P m c) w (i 0).val (i 1).val (i 2).val

/-- A block with a point's entries is the point's block of the result array. -/
theorem block_eq (w : Vec Ideal S4x3x1024x2048 .f32) (c : Dev nD) (t : Fin cfg0.N) (B : Vec Ideal S1x544x2048 .bf16)
    (hB : ∀ (r : Fin 544) (d : Fin 2048), B (ValueIdx.ix3 (0 : Fin 1) r d)
      = merged (OA m c) (OB m c) (OC m c) (P m c) w (t.val / 8) (544 * (t.val % 8) + r.val) d.val)
    (y : S1x544x2048.Idx) : B y = G m w c (((cfg0.win 10).blk t).view.emb y) := by
  obtain ⟨⟨e0, e1, e2⟩, ⟨e3, e4, e5⟩, ⟨e6, e7, e8⟩, e9, e10⟩ := idx t
  have y0 : (y 0).val < 1 := (y 0).isLt
  have hG : G m w c (((cfg0.win 10).blk t).view.emb y)
      = merged (OA m c) (OB m c) (OC m c) (P m c) w (t.val / 8) (544 * (t.val % 8) + (y 1).val) (y 2).val := by
    show merged (OA m c) (OB m c) (OC m c) (P m c) w _ _ _ = _
    congr 1 <;> blk_simp [e10] <;> simp <;> omega
  refine Eq.trans (congrArg B ?_) ((hB (y 1) (y 2)).trans hG.symm)
  refine (ValueIdx.eq_ix3 (n0 := 1) (n1 := 544) (n2 := 2048) y).trans ?_
  exact congrArg (fun z => ValueIdx.ix3 (n0 := 1) (n1 := 544) (n2 := 2048) z (y 1) (y 2)) (Subsingleton.elim (α := Fin 1) _ _)

/-- The first layer's result. -/
theorem final (c : Dev nD) : (dats m 0 c).arrAt 10 cfg0.N = G m (W m c) c := by
  refine (dats m 0 c).arrAt_eq_of_covers 10 _ (by decide +kernel) fun t hf y => ?_
  refine Eq.trans ?_ (block_eq m (W m c) c t _ (point m (W m c) c t _ (blk9 m c t)) y)
  blk_simp
  rw [after0_10]

/-- What a point leaves when its weight block lies at layer `l`. -/
theorem layer_block (l : ℕ) (hl : l < 4) (c : Dev nD) (t : Fin cfg0.N) (e : S1x3x1024x2048.Idx → S4x3x1024x2048.Idx)
    (he : ∀ y a, (e y a).val = (![l, 0, 0, 0] : Fin 4 → ℕ) a + (y a).val) (y : S1x544x2048.Idx) :
    (out0_10 (iblk m c 0 t) (iblk m c 1 t) (iblk m c 2 t) (iblk m c 3 t) (iblk m c 4 t) (iblk m c 5 t) (iblk m c 6 t)
      (iblk m c 7 t) (iblk m c 8 t) (fun y => (V m c main_v0 : Vec Ideal S4x3x1024x2048 .bf16) (e y)) : Vec Ideal S1x544x2048 .bf16) y
      = G m (layer4 l (W m c)) c (((cfg0.win 10).blk t).view.emb y) :=
  block_eq m _ c t _ (point m _ c t _ (block_layer m l hl c e he)) y

end Cert.Kernel4Ideal.Hand

end
-- ==== Proof.RefMerged.lean ====
/- What the merge's reference computes: each entry is the mixed sum of the three gated, projected branches. -/
module

public import proofs.«01_k».proof.Proof.Gate
public import proofs.«01_k».proof.Proof.Gen.Reference4Ideal.Read

@[expose] public section

noncomputable section

namespace Cert.Reference4Ideal.Hand

open Idealize.ShloMosaic Idealize.ShloMosaic.ValueIdx Cert.Mla Cert.Reference4Ideal Cert.Reference4Ideal.Read
open scoped BigOperators

variable (x0 x1 x2 : (⟨3, ![4, 4352, 1024]⟩ : Shape).Idx → EReal) (x3 : (⟨3, ![4, 4352, 14336]⟩ : Shape).Idx → EReal)
  (x4 : (⟨4, ![4, 3, 1024, 2048]⟩ : Shape).Idx → EReal)

/-- The gate columns hold reals. -/
def RealGate : Prop := ∀ j : S4x4352x3072.Idx, ∃ r : ℝ, val_main_v6 (F := Ideal) x3 j = (r : EReal)

theorem gate_at (i : S4x4352x3x1024.Idx) : val_main_v8 (F := Ideal) x3 i
    = get x3 (i 0).val (i 1).val (5120 + 1024 * (i 2).val + (i 3).val) := by
  have h0 : (i 0).val < 4 := (i 0).isLt
  have h1 : (i 1).val < 4352 := (i 1).isLt
  have h2 : (i 2).val < 3 := (i 2).isLt
  have h3 : (i 3).val < 1024 := (i 3).isLt
  rw [val_main_v8_apply, val_main_v7_apply, val_main_v6_apply]
  refine get_eq x3 _ _ _ _ ?_ ?_ ?_ <;> simp <;> omega

theorem weight_at (i : S4x4352x3x2048.Idx) : val_main_v13 (F := Ideal) x3 i
    = get x3 (i 0).val (i 1).val (8192 + 2048 * (i 2).val + (i 3).val) := by
  have h0 : (i 0).val < 4 := (i 0).isLt
  have h1 : (i 1).val < 4352 := (i 1).isLt
  have h2 : (i 2).val < 3 := (i 2).isLt
  have h3 : (i 3).val < 2048 := (i 3).isLt
  rw [val_main_v13_apply, val_main_v12_apply, val_main_v11_apply]
  refine get_eq x3 _ _ _ _ ?_ ?_ ?_ <;> simp <;> omega

theorem silu_at (hg : RealGate x3) (i : S4x4352x3x1024.Idx) : val_main_v16 (F := Ideal) x3 i
    = gate (get x3 (i 0).val (i 1).val (5120 + 1024 * (i 2).val + (i 3).val)) := by
  obtain ⟨r, hr⟩ := hg (idx_main_v8 i)
  have e : val_main_v8 (F := Ideal) x3 i = (r : EReal) := by rw [val_main_v8_apply, val_main_v7_apply]; exact hr
  rw [← gate_at, val_main_v16_apply, val_main_call0_v5_apply, val_main_call0_v4_apply, val_main_call0_v3_apply,
    val_main_call0_v2_apply, val_main_call0_v1_apply, val_main_call0_v0_apply, val_main_v10_apply, e, val_main_v9_apply]
  exact silu_eq r

theorem mix_at (i : S4x4352x3x2048.Idx) : val_main_v27 (F := Ideal) x3 i
    = weight (get x3 (i 0).val (i 1).val (8192 + 2048 * (i 2).val + (i 3).val)) := by
  rw [← weight_at, val_main_v27_apply, val_main_v26_apply, val_main_v25_apply, val_main_v24_apply, val_main_v23_apply,
    val_main_v22_apply, val_main_v15_apply, val_main_v14_apply]
  exact logistic_eq _

/-- The branch arrays side by side. -/
theorem branch_at (n : ℕ) (o : (⟨3, ![4, 4352, 1024]⟩ : Shape).Idx → EReal)
    (ho : (n = 0 ∧ o = x0) ∨ (n = 1 ∧ o = x1) ∨ (n = 2 ∧ o = x2)) (i : S4x4352x3x1024.Idx) (hi : (i 2).val = n) :
    val_main_v5 (F := Ideal) x0 x1 x2 i = get o (i 0).val (i 1).val (i 3).val := by
  unfold val_main_v5
  rcases ho with ⟨rfl, rfl⟩ | ⟨rfl, rfl⟩ | ⟨rfl, rfl⟩
  · refine (concatenate_apply_piece (t := S4x4352x3x1024) 2 _ _ i 0 (by show 0 < 3; omega) S4x4352x1x1024 _ rfl rfl 0 rfl
      (ix4 (n0 := 4) (n1 := 4352) (n2 := 1) (n3 := 1024) (i 0) (i 1) (0 : Fin 1) (i 3)) ?_ ?_).trans ?_
    · intro b hb
      match b with
      | ⟨0, _⟩ => rfl
      | ⟨1, _⟩ => rfl
      | ⟨2, _⟩ => exact absurd rfl hb
      | ⟨3, _⟩ => rfl
    · exact hi.symm
    · rw [val_main_v2_apply, val_main_v0_apply]
      exact get_eq _ _ _ _ _ rfl rfl rfl
  · refine (concatenate_apply_piece (t := S4x4352x3x1024) 2 _ _ i 1 (by show 1 < 3; omega) S4x4352x1x1024 _ rfl rfl 1 rfl
      (ix4 (n0 := 4) (n1 := 4352) (n2 := 1) (n3 := 1024) (i 0) (i 1) (0 : Fin 1) (i 3)) ?_ ?_).trans ?_
    · intro b hb
      match b with
      | ⟨0, _⟩ => rfl
      | ⟨1, _⟩ => rfl
      | ⟨2, _⟩ => exact absurd rfl hb
      | ⟨3, _⟩ => rfl
    · exact hi.symm
    · rw [val_main_v3_apply, val_main_v1_apply]
      exact get_eq _ _ _ _ _ rfl rfl rfl
  · refine (concatenate_apply_piece (t := S4x4352x3x1024) 2 _ _ i 2 (by show 2 < 3; omega) S4x4352x1x1024 _ rfl rfl 2 rfl
      (ix4 (n0 := 4) (n1 := 4352) (n2 := 1) (n3 := 1024) (i 0) (i 1) (0 : Fin 1) (i 3)) ?_ ?_).trans ?_
    · intro b hb
      match b with
      | ⟨0, _⟩ => rfl
      | ⟨1, _⟩ => rfl
      | ⟨2, _⟩ => exact absurd rfl hb
      | ⟨3, _⟩ => rfl
    · exact hi.symm
    · rw [val_main_v4_apply]
      exact get_eq _ _ _ _ _ rfl rfl rfl

theorem mixed (hg : RealGate x3) (n : ℕ) (o : (⟨3, ![4, 4352, 1024]⟩ : Shape).Idx → EReal)
    (ho : (n = 0 ∧ o = x0) ∨ (n = 1 ∧ o = x1) ∨ (n = 2 ∧ o = x2)) (i : S4x4352x3x2048.Idx) (hi : (i 2).val = n) :
    val_main_v28 (F := Ideal) x0 x1 x2 x3 x4 i = branch o x3 x4 n (i 0).val (i 1).val (i 3).val := by
  have h0 : (i 0).val < 4 := (i 0).isLt
  have h1 : (i 1).val < 4352 := (i 1).isLt
  have h2 : (i 2).val < 3 := (i 2).isLt
  have h3 : (i 3).val < 2048 := (i 3).isLt
  rw [val_main_v28_apply, mix_at, val_main_v21_apply, val_main_v20_apply, hi]
  unfold branch
  refine congrArg₂ (· * ·) rfl (Finset.sum_congr rfl fun k _ => ?_)
  have hk : k.val < 1024 := k.isLt
  rw [val_main_v17_apply, branch_at x0 x1 x2 n o ho _ hi, silu_at x3 hg]
  refine (mul_comm _ _).trans (congrArg₂ (· * ·) (congrArg₂ (· * ·) rfl ?_) ?_)
  · rw [← hi]
  · rw [val_main_v19_apply, val_main_v18_apply]
    refine get4_eq x4 _ _ _ _ _ ?_ ?_ ?_ ?_ <;> simp <;> omega

theorem result_apply (hg : RealGate x3) (i : S4x4352x2048.Idx) : val_main_v30 (F := Ideal) x0 x1 x2 x3 x4 i
    = merged x0 x1 x2 x3 x4 (i 0).val (i 1).val (i 2).val := by
  have z : ∀ u, val_main_cst_3 (F := Ideal) u = 0 := fun _ => Ideal.ofBits_zero_f32
  rw [val_main_v30_apply]
  refine (val_main_v29_apply x0 x1 x2 x3 x4 i).trans ?_
  rw [z, zero_add, Fin.sum_univ_three]
  unfold merged
  refine congrArg₂ (· + ·) (congrArg₂ (· + ·) ?_ ?_) ?_
  · exact mixed x0 x1 x2 x3 x4 hg 0 x0 (Or.inl ⟨rfl, rfl⟩) _ rfl
  · exact mixed x0 x1 x2 x3 x4 hg 1 x1 (Or.inr (Or.inl ⟨rfl, rfl⟩)) _ rfl
  · exact mixed x0 x1 x2 x3 x4 hg 2 x2 (Or.inr (Or.inr ⟨rfl, rfl⟩)) _ rfl

/-- A slice at layer `l` is the first slice of that layer's weights. -/
theorem slice_layer (l : ℕ) (w : (⟨4, ![4, 3, 1024, 2048]⟩ : Shape).Idx → EReal) (s : S1x3x1024x2048.Idx → EReal)
    (e : S1x3x1024x2048.Idx → S4x3x1024x2048.Idx) (hs : ∀ j, s j = w (e j))
    (he : ∀ j a, (e j a).val = (![l, 0, 0, 0] : Fin 4 → ℕ) a + (j a).val) :
    s = val_main_v18 (F := Ideal) (layer4 l w) := by
  funext j
  have h : (j 0).val < 1 := (j 0).isLt
  rw [hs, val_main_v18_apply]
  refine get4_eq w _ _ _ _ _ ((he j 0).trans ?_) ((he j 1).trans ?_) ((he j 2).trans ?_) ((he j 3).trans ?_) <;> simp <;> omega

end Cert.Reference4Ideal.Hand

end
-- ==== Proof.Merge.lean ====
/- The claims about the merge of the three branches. -/
module

public import proofs.«01_k».proof.Defs
public import proofs.«01_k».proof.Proof.Merged
public import proofs.«01_k».proof.Proof.RefMerged
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Attention
public import proofs.«01_k».proof.Proof.Gen.Pre_finite4
public import Idealize.ShloMosaic.Lib.Quiescent

@[expose] public section

noncomputable section

open Idealize.ShloMosaic Idealize.ShloMosaic.TcCoe Idealize.SL.Sem

namespace Cert.Proof.Merge

open Cert.Mla

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_finite : Cert.quiescent_Kernel4Ideal_pre_finite4 := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_ri_finite : Cert.quiescent_Reference4Ideal_pre_finite4 := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic : Cert.algebraic_Kernel4Ideal_Reference4Ideal_pre_finite4 := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  have hg : Cert.Reference4Ideal.Hand.RealGate (Cert.Kernel4Ideal.Hand.P m c) := fun j => Attention.real_of_lt _ (congrFun (hpre c) j)
  rw [Cert.Reference4Ideal.Read.val_main_v30_eq]
  refine Eq.trans ?_ (Cert.Kernel4Ideal.Hand.final m c).symm
  obtain ⟨a0, a1, a2, a3, a4⟩ := hagree c
  rw [a0, a1, a2, a3, a4]
  exact funext fun i => Cert.Reference4Ideal.Hand.result_apply _ _ _ _ _ hg i

end Cert.Proof.Merge

end
-- ==== Proof.Merge1.lean ====
/- The second layer's merge: the first layer's with the weights one layer on. -/
module

public import proofs.«01_k».proof.Defs
public import proofs.«01_k».proof.Proof.Merged
public import proofs.«01_k».proof.Proof.RefMerged
public import proofs.«01_k».proof.Proof.Attention
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite4
public import Idealize.ShloMosaic.Lib.Quiescent

@[expose] public section

set_option maxRecDepth 16384

noncomputable section

open Idealize.ShloMosaic Idealize.ShloMosaic.TcCoe Idealize.SL.Sem

namespace Cert.Proof.Merge1

open Cert.Mla Cert.Kernel11Ideal Cert.Kernel11Ideal.Gen Cert.Reference11Ideal.Read

theorem frame_p : Cert.quiescent_Kernel11 := fun m ρ _ => Cert.Kernel11.Gen.frame m ρ
theorem frame_pi : Cert.quiescent_Kernel11Ideal := fun m ρ _ => Cert.Kernel11Ideal.Gen.frame m ρ
theorem frame_pi_finite : Cert.quiescent_Kernel11Ideal_pre_finite4 := fun m ρ _ => Cert.Kernel11Ideal.Gen.frame m ρ
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)
theorem frame_ri_finite : Cert.quiescent_Reference11Ideal_pre_finite4 := fun m ρ _ => frame_ri m ρ trivial

variable (m : (ℓ : Loc nD τ sig) → Buf (Elt Ideal) ℓ)

/-- The weight block is the layer's at every point. -/
theorem index_w : ∀ t : Fin cfg0.N, win0_9.index t = ![1, 0, 0, 0] := (by decide +kernel : ∀ t : Fin grid0.N, _)

theorem final (c : Dev nD) : (dats m 0 c).arrAt 10 cfg0.N = Cert.Kernel4Ideal.Hand.G m (layer4 1 (Cert.Kernel4Ideal.Hand.W m c)) c := by
  refine (dats m 0 c).arrAt_eq_of_covers 10 _ (by decide +kernel) fun t hf y => ?_
  refine Eq.trans ?_ (Cert.Kernel4Ideal.Hand.layer_block m 1 (by norm_num) c t ((cfg0.win 9).blk t).view.emb
    (fun y a => by fin_cases a <;> blk_simp [index_w t] <;> simp) y)
  blk_simp
  rw [after0_10]
  rfl

/-- The reference takes the layer's slice, and is the first layer's from there on. -/
theorem reference_eq (x0 x1 x2 : (⟨3, ![4, 4352, 1024]⟩ : Shape).Idx → EReal) (x3 : (⟨3, ![4, 4352, 14336]⟩ : Shape).Idx → EReal)
    (x4 : (⟨4, ![4, 3, 1024, 2048]⟩ : Shape).Idx → EReal) :
    val_main_v30 (F := Ideal) x0 x1 x2 x3 x4 = Cert.Reference4Ideal.Read.val_main_v30 (F := Ideal) x0 x1 x2 x3 (layer4 1 x4) := by
  unfold val_main_v30 val_main_v29 val_main_v28 val_main_v21 val_main_v20 val_main_v19
  rw [Cert.Reference4Ideal.Hand.slice_layer 1 x4 (val_main_v18 (F := Ideal) x4) idx_main_v18 (val_main_v18_apply (F := Ideal) x4) fun j a => by
      fin_cases a <;> simp [idx_main_v18]]
  rfl

theorem algebraic : Cert.algebraic_Kernel11Ideal_Reference11Ideal_pre_finite4 := by
  intro m ρ m' ρ' hpre hagree
  refine ⟨_, Cert.Kernel11Ideal.Value.run_blocks (F := Ideal) m ρ, ?_⟩
  refine (θ_run Cert.Reference11Ideal.defs _ _).mono (fun _ h c => ⟨(h c).1.trans ?_, (h c).2⟩)
    (Cert.Reference11Ideal.Value.run (F := Ideal) m' ρ')
  have hg : Cert.Reference4Ideal.Hand.RealGate (Cert.Kernel4Ideal.Hand.P m c) := fun j => Attention.real_of_lt _ (congrFun (hpre c) j)
  rw [Cert.Reference11Ideal.Read.val_main_v30_eq]
  refine Eq.trans ?_ (final m c).symm
  obtain ⟨a0, a1, a2, a3, a4⟩ := hagree c
  rw [a0, a1, a2, a3, a4, reference_eq]
  exact funext fun i => Cert.Reference4Ideal.Hand.result_apply _ _ _ _ _ hg i

end Cert.Proof.Merge1

end
-- ==== Proof.Merge2.lean ====
/- The third layer's merge: the first layer's with the weights two layers on. -/
module

public import proofs.«01_k».proof.Defs
public import proofs.«01_k».proof.Proof.Merged
public import proofs.«01_k».proof.Proof.RefMerged
public import proofs.«01_k».proof.Proof.Attention
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite4
public import Idealize.ShloMosaic.Lib.Quiescent

@[expose] public section

set_option maxRecDepth 16384

noncomputable section

open Idealize.ShloMosaic Idealize.ShloMosaic.TcCoe Idealize.SL.Sem

namespace Cert.Proof.Merge2

open Cert.Mla Cert.Kernel12Ideal Cert.Kernel12Ideal.Gen Cert.Reference12Ideal.Read

theorem frame_p : Cert.quiescent_Kernel12 := fun m ρ _ => Cert.Kernel12.Gen.frame m ρ
theorem frame_pi : Cert.quiescent_Kernel12Ideal := fun m ρ _ => Cert.Kernel12Ideal.Gen.frame m ρ
theorem frame_pi_finite : Cert.quiescent_Kernel12Ideal_pre_finite4 := fun m ρ _ => Cert.Kernel12Ideal.Gen.frame m ρ
theorem frame_ri : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)
theorem frame_ri_finite : Cert.quiescent_Reference12Ideal_pre_finite4 := fun m ρ _ => frame_ri m ρ trivial

variable (m : (ℓ : Loc nD τ sig) → Buf (Elt Ideal) ℓ)

/-- The weight block is the layer's at every point. -/
theorem index_w : ∀ t : Fin cfg0.N, win0_9.index t = ![2, 0, 0, 0] := (by decide +kernel : ∀ t : Fin grid0.N, _)

theorem final (c : Dev nD) : (dats m 0 c).arrAt 10 cfg0.N = Cert.Kernel4Ideal.Hand.G m (layer4 2 (Cert.Kernel4Ideal.Hand.W m c)) c := by
  refine (dats m 0 c).arrAt_eq_of_covers 10 _ (by decide +kernel) fun t hf y => ?_
  refine Eq.trans ?_ (Cert.Kernel4Ideal.Hand.layer_block m 2 (by norm_num) c t ((cfg0.win 9).blk t).view.emb
    (fun y a => by fin_cases a <;> blk_simp [index_w t] <;> simp) y)
  blk_simp
  rw [after0_10]
  rfl

/-- The reference takes the layer's slice, and is the first layer's from there on. -/
theorem reference_eq (x0 x1 x2 : (⟨3, ![4, 4352, 1024]⟩ : Shape).Idx → EReal) (x3 : (⟨3, ![4, 4352, 14336]⟩ : Shape).Idx → EReal)
    (x4 : (⟨4, ![4, 3, 1024, 2048]⟩ : Shape).Idx → EReal) :
    val_main_v30 (F := Ideal) x0 x1 x2 x3 x4 = Cert.Reference4Ideal.Read.val_main_v30 (F := Ideal) x0 x1 x2 x3 (layer4 2 x4) := by
  unfold val_main_v30 val_main_v29 val_main_v28 val_main_v21 val_main_v20 val_main_v19
  rw [Cert.Reference4Ideal.Hand.slice_layer 2 x4 (val_main_v18 (F := Ideal) x4) idx_main_v18 (val_main_v18_apply (F := Ideal) x4) fun j a => by
      fin_cases a <;> simp [idx_main_v18]]
  rfl

theorem algebraic : Cert.algebraic_Kernel12Ideal_Reference12Ideal_pre_finite4 := by
  intro m ρ m' ρ' hpre hagree
  refine ⟨_, Cert.Kernel12Ideal.Value.run_blocks (F := Ideal) m ρ, ?_⟩
  refine (θ_run Cert.Reference12Ideal.defs _ _).mono (fun _ h c => ⟨(h c).1.trans ?_, (h c).2⟩)
    (Cert.Reference12Ideal.Value.run (F := Ideal) m' ρ')
  have hg : Cert.Reference4Ideal.Hand.RealGate (Cert.Kernel4Ideal.Hand.P m c) := fun j => Attention.real_of_lt _ (congrFun (hpre c) j)
  rw [Cert.Reference12Ideal.Read.val_main_v30_eq]
  refine Eq.trans ?_ (final m c).symm
  obtain ⟨a0, a1, a2, a3, a4⟩ := hagree c
  rw [a0, a1, a2, a3, a4, reference_eq]
  exact funext fun i => Cert.Reference4Ideal.Hand.result_apply _ _ _ _ _ hg i

end Cert.Proof.Merge2

end
-- ==== Proof.Merge3.lean ====
/- The last layer's merge: the first layer's with the weights three layers on. -/
module

public import proofs.«01_k».proof.Defs
public import proofs.«01_k».proof.Proof.Merged
public import proofs.«01_k».proof.Proof.RefMerged
public import proofs.«01_k».proof.Proof.Attention
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite4
public import Idealize.ShloMosaic.Lib.Quiescent

@[expose] public section

set_option maxRecDepth 16384

noncomputable section

open Idealize.ShloMosaic Idealize.ShloMosaic.TcCoe Idealize.SL.Sem

namespace Cert.Proof.Merge3

open Cert.Mla Cert.Kernel13Ideal Cert.Kernel13Ideal.Gen Cert.Reference13Ideal.Read

theorem frame_p : Cert.quiescent_Kernel13 := fun m ρ _ => Cert.Kernel13.Gen.frame m ρ
theorem frame_pi : Cert.quiescent_Kernel13Ideal := fun m ρ _ => Cert.Kernel13Ideal.Gen.frame m ρ
theorem frame_pi_finite : Cert.quiescent_Kernel13Ideal_pre_finite4 := fun m ρ _ => Cert.Kernel13Ideal.Gen.frame m ρ
theorem frame_ri : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)
theorem frame_ri_finite : Cert.quiescent_Reference13Ideal_pre_finite4 := fun m ρ _ => frame_ri m ρ trivial

variable (m : (ℓ : Loc nD τ sig) → Buf (Elt Ideal) ℓ)

/-- The weight block is the layer's at every point. -/
theorem index_w : ∀ t : Fin cfg0.N, win0_9.index t = ![3, 0, 0, 0] := (by decide +kernel : ∀ t : Fin grid0.N, _)

theorem final (c : Dev nD) : (dats m 0 c).arrAt 10 cfg0.N = Cert.Kernel4Ideal.Hand.G m (layer4 3 (Cert.Kernel4Ideal.Hand.W m c)) c := by
  refine (dats m 0 c).arrAt_eq_of_covers 10 _ (by decide +kernel) fun t hf y => ?_
  refine Eq.trans ?_ (Cert.Kernel4Ideal.Hand.layer_block m 3 (by norm_num) c t ((cfg0.win 9).blk t).view.emb
    (fun y a => by fin_cases a <;> blk_simp [index_w t] <;> simp) y)
  blk_simp
  rw [after0_10]
  rfl

/-- The reference takes the layer's slice, and is the first layer's from there on. -/
theorem reference_eq (x0 x1 x2 : (⟨3, ![4, 4352, 1024]⟩ : Shape).Idx → EReal) (x3 : (⟨3, ![4, 4352, 14336]⟩ : Shape).Idx → EReal)
    (x4 : (⟨4, ![4, 3, 1024, 2048]⟩ : Shape).Idx → EReal) :
    val_main_v30 (F := Ideal) x0 x1 x2 x3 x4 = Cert.Reference4Ideal.Read.val_main_v30 (F := Ideal) x0 x1 x2 x3 (layer4 3 x4) := by
  unfold val_main_v30 val_main_v29 val_main_v28 val_main_v21 val_main_v20 val_main_v19
  rw [Cert.Reference4Ideal.Hand.slice_layer 3 x4 (val_main_v18 (F := Ideal) x4) idx_main_v18 (val_main_v18_apply (F := Ideal) x4) fun j a => by
      fin_cases a <;> simp [idx_main_v18]]
  rfl

theorem algebraic : Cert.algebraic_Kernel13Ideal_Reference13Ideal_pre_finite4 := by
  intro m ρ m' ρ' hpre hagree
  refine ⟨_, Cert.Kernel13Ideal.Value.run_blocks (F := Ideal) m ρ, ?_⟩
  refine (θ_run Cert.Reference13Ideal.defs _ _).mono (fun _ h c => ⟨(h c).1.trans ?_, (h c).2⟩)
    (Cert.Reference13Ideal.Value.run (F := Ideal) m' ρ')
  have hg : Cert.Reference4Ideal.Hand.RealGate (Cert.Kernel4Ideal.Hand.P m c) := fun j => Attention.real_of_lt _ (congrFun (hpre c) j)
  rw [Cert.Reference13Ideal.Read.val_main_v30_eq]
  refine Eq.trans ?_ (final m c).symm
  obtain ⟨a0, a1, a2, a3, a4⟩ := hagree c
  rw [a0, a1, a2, a3, a4, reference_eq]
  exact funext fun i => Cert.Reference4Ideal.Hand.result_apply _ _ _ _ _ hg i

end Cert.Proof.Merge3

end
-- ==== Proof.InRing.lean ====
/- The input projection's ring of transfers: the conditions of the body's branches, the slots the rows are
   copied into, and the state of the ring before each point. -/
module

public import proofs.«01_k».proof.Proof.Gen.Kernel5Ideal
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — decided over the grid. -/
theorem hcond0_0 : ∀ t : Fin cfg0.N, cond0_0 (grid0.coords t) ↔ t.val % 224 = 0 :=
  (by decide +kernel : ∀ t : Fin grid0.N, cond0_0 (grid0.coords t) ↔ t.val % 224 = 0)

/-- The condition of the body's `scf.if` 1 (`k0_h2`), from the grid coordinates (the skeleton's scalar
    chain substituted). -/
abbrev cond0_1 (i : grid0.Coords) : Prop := k0_cond2 i = 1#1
/-- It holds at the points ≡ 0 (mod 14) — by arithmetic of the point. -/
theorem hcond0_1 : ∀ t : Fin cfg0.N, cond0_1 (grid0.coords t) ↔ t.val % 14 = 0 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 14 % 4 := Pipeline.Grid.coords_val t 1 (by decide) rfl
    have e2 : (grid0.coords t 2).val = t.val / 1 % 14 := Pipeline.Grid.coords_val t 2 (by decide) rfl
    simp only [cond0_1, k0_cond2, e0, e1, e2]
    word_cmp
   : ∀ t : Fin grid0.N, cond0_1 (grid0.coords t) ↔ t.val % 14 = 0)

/-- The condition of the body's `scf.if` 2 (`k0_h3`), from the grid coordinates (the skeleton's scalar
    chain substituted). -/
abbrev cond0_2 (i : grid0.Coords) : Prop := k0_cond3 i = 1#1
/-- It holds at the points before point 210 — decided over the grid. -/
theorem hcond0_2 : ∀ t : Fin cfg0.N, cond0_2 (grid0.coords t) ↔ t.val < 210 :=
  (by decide +kernel : ∀ t : Fin grid0.N, cond0_2 (grid0.coords t) ↔ t.val < 210)

/-- The condition of the body's `scf.if` 3 (`k0_h4`), from the grid coordinates (the skeleton's scalar
    chain substituted). -/
abbrev cond0_3 (i : grid0.Coords) : Prop := k0_cond4 i = 1#1
/-- It holds at the points whose coordinates have 1 ≤ i2 — decided over the grid. -/
theorem hcond0_3 : ∀ t : Fin cfg0.N, cond0_3 (grid0.coords t) ↔ 1 ≤ t.val % 14 :=
  (by decide +kernel : ∀ t : Fin grid0.N, cond0_3 (grid0.coords t) ↔ 1 ≤ t.val % 14)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- The scratch operands: whole scoped buffers of the kernel's own, passed beside the windows. -/
abbrev scM0_0 : Memref sig .tc .vmem S1088x2048 .bf16 := Memref.whole cc0_scratch0
abbrev scM0_1 : Memref sig .tc .vmem S2x1088x2048 .f32 := Memref.whole cc0_scratch1
/-- The operands left in HBM that the body copies into scratch itself, whole. -/
abbrev hbM0_0 : Memref sig .tc .hbm S4x4352x2048 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 12, SemLoc.dma 13] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg0))) := by
  rw [Pipeline.ΦD_eq, scopedRest0_eq, ownSems00_eq, hbmPts0_eq]; simp only [scM0_0, scM0_1, owns_whole]; try rfl

/-! ## Ring 0 of kernel 0: `main_arg0` streamed through the 2 slots of `cc0_scratch1` on the cells of `cc0_scratch2`, 1 block ahead, in 16 steps -/

instance : NeZero grid0.N := ⟨by rw [N_0]; decide⟩
/-- The ring's STEPS before point `t` (the waits for a block of it at earlier points): one every 14 points, the first at point 0. -/
def ringStep0_0 (t : ℕ) : ℕ := (t + 13) / 14
theorem inb_slot0_0 (s : Fin 2) : ∀ a, (![s.val, 0, 0] : Fin 3 → Nat) a + S1x1088x2048.size a ≤ S2x1088x2048.size a := by
  have := s.isLt; intro a; fin_cases a <;> simp <;> omega
theorem inb_src0_0 (b : Fin 16) : ∀ a, (![(b.val / 4), 1088 * (b.val % 4), 0] : Fin 3 → Nat) a + S1x1088x2048.size a ≤ S4x4352x2048.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S1088x2048 .f32 :=
  (scM0_1.slice (Rect.unit (s := S2x1088x2048) ![s.val, 0, 0] S1x1088x2048.size (inb_slot0_0 s)) (fun _ => rfl)).squeeze S1088x2048 squeezes_S1x1088x2048_S1088x2048
/-- Block `b` of the operand (the block step `b` waits), spelt as the transfers spell their source, at offsets in `b`. -/
def srcB0_0 (b : Fin 16) : Memref sig .tc .hbm S1088x2048 .f32 :=
  (hbM0_0.slice (Rect.unit (s := S4x4352x2048) ![(b.val / 4), 1088 * (b.val % 4), 0] S1x1088x2048.size (inb_src0_0 b)) (fun _ => rfl)).squeeze S1088x2048 squeezes_S1x1088x2048_S1088x2048
/-- Cell `s` of `cc0_scratch2`, spelt as the body spells a cell; its number in the pool. -/
def cellA0_0 (s : Fin 2) : DmaSems sig S_ := (cc0_scratch2.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 12 := by decide
theorem cellR0_0_1 : cellR0_0 1 = SemLoc.dma 13 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 16) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 16) : sProp 𝕄 := ((c : Thread nD τ).loc main_arg0) ↦[Finset.univ \ (srcB0_0 b).view.set]{qs0_0 s} W
abbrev wholeP0_0 (s : Fin 2) : sProp 𝕄 := ((c : Thread nD τ).loc main_arg0) ↦[Finset.univ]{qs0_0 s} W
abbrev landed0_0 (s : Fin 2) (b : Fin 16) (f : HbBuf0 (F := F) c (rslot0_0 s)) : HbBuf0 (F := F) c (rslot0_0 s) :=
  (rslot0_0 s).view.writes (Elt F) f [⟨Rect.whole S1088x2048, ReadAs.same.apply ((srcB0_0 b).view.read (Elt F) W)⟩]
abbrev flightP0_0 (s : Fin 2) (b : Fin 16) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 16) (f : HbBuf0 (F := F) c (rslot0_0 s)) : sProp 𝕄 := iprop(flightP0_0 c W s b f ∗ restP0_0 c W s b)
abbrev noHome0_0 (b : Fin 16) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 12) 0 := congrArg (fun x => (semVal ((c : Thread nD τ), x) 0 : sProp 𝕄)) cellR0_0_0
omit [FloatOps F] in
theorem cellP0_0_1 : cellP0_0 (F := F) c 1 = semVal ((c : Thread nD τ), SemLoc.dma 13) 0 := congrArg (fun x => (semVal ((c : Thread nD τ), x) 0 : sProp 𝕄)) cellR0_0_1
end Ring0_0

/-! ### The slots, disjoint and covering the scratch (Lib/Ring.lean `lead_disjoint` / `lead_cover`) -/

abbrev slotSet0_0 (s : Fin 2) : Finset S2x1088x2048.Idx := (Rect.unit (s := S2x1088x2048) ![s.val, 0, 0] S1x1088x2048.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x1088x2048) (0 : Fin 3) 1 (fun s : Fin 2 => (![s.val, 0, 0] : Fin 3 → Nat)) S1x1088x2048.size inb_slot0_0 (fun s => by simp) rfl s s' h
theorem slots0_0_cover : Finset.univ.biUnion slotSet0_0 = Finset.univ :=
  Ring.lead_cover (s := S2x1088x2048) (0 : Fin 3) 1 (fun s : Fin 2 => (![s.val, 0, 0] : Fin 3 → Nat)) S1x1088x2048.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch1) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 16) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_1 fullShare d) ⊢ (iprop((∃ f, slotP0_0 (F := F) c 0 f) ∗ ∃ f, slotP0_0 (F := F) c 1 f) : sProp 𝕄) := by
  simp only [scM0_1, owns_whole]
  exact Ring.slots2_split (U := Pipeline.UD sig nD τ) (ℓ := (c : Thread nD τ).loc cc0_scratch1) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_1 fullShare d) ∗ (semVal ((c : Thread nD τ), SemLoc.dma 12) 0 ∗ semVal ((c : Thread nD τ), SemLoc.dma 13) 0) ∗ hbPt0 c hbM0_0 (V m c main_arg0))
      ⊢ ringAt0_0 c (V m c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_arg0) 16
      ⊢ iprop((∃ d, owns (c : Thread nD τ) scM0_1 fullShare d) ∗ (semVal ((c : Thread nD τ), SemLoc.dma 12) 0 ∗ semVal ((c : Thread nD τ), SemLoc.dma 13) 0) ∗ hbPt0 c hbM0_0 (V m c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg0)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → ¬cond0_3 (grid0.coords t) → (ringStep0_0 t.val) = 0 ∧ (ringStep0_0 (t.val + 1)) = 1 := by decide +kernel
/-- At the points of case B the ring is IDLE (nothing started or waited). -/
theorem rstep0_0_B : ∀ t : Fin grid0.N, ¬cond0_0 (grid0.coords t) → ¬cond0_1 (grid0.coords t) → cond0_3 (grid0.coords t) → (ringStep0_0 (t.val + 1)) = (ringStep0_0 t.val) ∧ (ringStep0_0 t.val) ≤ 16 := by decide +kernel
/-- At the points of case C the ring takes a step, a block still to start. -/
theorem rstep0_0_C : ∀ t : Fin grid0.N, ¬cond0_0 (grid0.coords t) → cond0_1 (grid0.coords t) → cond0_2 (grid0.coords t) → ¬cond0_3 (grid0.coords t) → 1 ≤ (ringStep0_0 t.val) ∧ (ringStep0_0 t.val) + 1 < 16 ∧ (ringStep0_0 (t.val + 1)) = (ringStep0_0 t.val) + 1 := by decide +kernel
/-- At the points of case D the ring takes its LAST step. -/
theorem rstep0_0_D : ∀ t : Fin grid0.N, ¬cond0_0 (grid0.coords t) → cond0_1 (grid0.coords t) → ¬cond0_2 (grid0.coords t) → ¬cond0_3 (grid0.coords t) → 1 ≤ (ringStep0_0 t.val) ∧ (ringStep0_0 t.val) + 1 = 16 ∧ (ringStep0_0 (t.val + 1)) = (ringStep0_0 t.val) + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → k0_off2 (grid0.coords t) = ![(Ring.sl 2 (ringStep0_0 t.val)).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S2x1088x2048) (k0_off2 (grid0.coords t)) S1x1088x2048.size (k0_off2_inb (grid0.coords t) h0)) (fun _ => rfl)).squeeze S1088x2048 squeezes_S1x1088x2048_S1088x2048 = rslot0_0 (Ring.sl 2 (ringStep0_0 t.val)) :=
  congrArg (fun M : Memref sig .tc .vmem S1x1088x2048 .f32 => M.squeeze S1088x2048 squeezes_S1x1088x2048_S1088x2048) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → k0_off1 (grid0.coords t) = ![(Ring.sl 2 (ringStep0_0 t.val)).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S2) (k0_off1 (grid0.coords t)) S1.size (k0_off1_inb (grid0.coords t) h0))).squeeze S_ squeezes_S1_S_ = cellA0_0 (Ring.sl 2 (ringStep0_0 t.val)) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → k0_off3 (grid0.coords t) = ![((Ring.bk 16 (ringStep0_0 t.val)).val / 4), 1088 * ((Ring.bk 16 (ringStep0_0 t.val)).val % 4), 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    (hbM0_0.slice (Rect.unit (s := S4x4352x2048) (k0_off3 (grid0.coords t)) S1x1088x2048.size (k0_off3_inb (grid0.coords t) h0)) (fun _ => rfl)).squeeze S1088x2048 squeezes_S1x1088x2048_S1088x2048 = srcB0_0 (Ring.bk 16 (ringStep0_0 t.val)) :=
  congrArg (fun M : Memref sig .tc .hbm S1x1088x2048 .f32 => M.squeeze S1088x2048 squeezes_S1x1088x2048_S1088x2048) (Memref.slice_unit_congr _ (coff0_0_3 t h0 h1 h2 h3) _ _ (fun _ => rfl) (fun _ => rfl))
set_option synthInstance.maxSize 4096 in
theorem coff0_0_4 : ∀ t : Fin grid0.N, cond0_0 (grid0.coords t) → cond0_1 (grid0.coords t) → cond0_2 (grid0.coords t) → ¬cond0_3 (grid0.coords t) → k0_off5 (grid0.coords t) = ![(Ring.sl 2 ((ringStep0_0 t.val) + 1)).val, 0, 0] := by decide +kernel
@[sl_canon] theorem canon0_0_4 (t : Fin grid0.N) (h0 : cond0_0 (grid0.coords t)) (h1 : cond0_1 (grid0.coords t)) (h2 : cond0_2 (grid0.coords t)) (h3 : ¬cond0_3 (grid0.coords t)) :
    (scM0_1.slice (Rect.unit (s := S2x1088x2048) (k0_off5 (grid0.coords t)) S1x1088x2048.size (k0_off5_inb (grid0.coords t) h1 h2)) (fun _ => rfl)).squeeze S1088x2048 squeezes_S1x1088x2048_S1088x2048 = rslot0_0 (Ring.sl 2 ((ringStep0_0 t.val) + 1)) :=
  congrArg (fun M : Memref sig .tc .vmem S1x1088x2048 .f32 => M.squeeze S1088x2048 squeezes_S1x1088x2048_S1088x2048) (Memref.slice_unit_congr _ (coff0_0_4 t h0 h1 h2 h3) _ _ (fun _ => rfl) (fun _ => rfl))
set_option synthInstance.maxSize 4096 in
theorem coff0_0_5 : ∀ t : Fin grid0.N, cond0_0 (grid0.coords t) → cond0_1 (grid0.coords t) → cond0_2 (grid0.coords t) → ¬cond0_3 (grid0.coords t) → k0_off4 (grid0.coords t) = ![(Ring.sl 2 ((ringStep0_0 t.val) + 1)).val] := by decide +kernel
@[sl_canon] theorem canon0_0_5 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S2) (k0_off4 (grid0.coords t)) S1.size (k0_off4_inb (grid0.coords t) h1 h2))).squeeze S_ squeezes_S1_S_ = cellA0_0 (Ring.sl 2 ((ringStep0_0 t.val) + 1)) :=
  congrArg (fun A : DmaSems sig S1 => A.squeeze S_ squeezes_S1_S_) (SemArray.slice_unit_congr _ (coff0_0_5 t h0 h1 h2 h3) _ _)
set_option synthInstance.maxSize 4096 in
theorem coff0_0_6 : ∀ t : Fin grid0.N, cond0_0 (grid0.coords t) → cond0_1 (grid0.coords t) → cond0_2 (grid0.coords t) → ¬cond0_3 (grid0.coords t) → k0_off6 (grid0.coords t) = ![((Ring.bk 16 ((ringStep0_0 t.val) + 1)).val / 4), 1088 * ((Ring.bk 16 ((ringStep0_0 t.val) + 1)).val % 4), 0] := by decide +kernel
@[sl_canon] theorem canon0_0_6 (t : Fin grid0.N) (h0 : cond0_0 (grid0.coords t)) (h1 : cond0_1 (grid0.coords t)) (h2 : cond0_2 (grid0.coords t)) (h3 : ¬cond0_3 (grid0.coords t)) :
    (hbM0_0.slice (Rect.unit (s := S4x4352x2048) (k0_off6 (grid0.coords t)) S1x1088x2048.size (k0_off6_inb (grid0.coords t) h1 h2)) (fun _ => rfl)).squeeze S1088x2048 squeezes_S1x1088x2048_S1088x2048 = srcB0_0 (Ring.bk 16 ((ringStep0_0 t.val) + 1)) :=
  congrArg (fun M : Memref sig .tc .hbm S1x1088x2048 .f32 => M.squeeze S1088x2048 squeezes_S1x1088x2048_S1088x2048) (Memref.slice_unit_congr _ (coff0_0_6 t h0 h1 h2 h3) _ _ (fun _ => rfl) (fun _ => rfl))
set_option synthInstance.maxSize 4096 in
theorem coff0_0_7 : ∀ t : Fin grid0.N, cond0_0 (grid0.coords t) → cond0_1 (grid0.coords t) → cond0_2 (grid0.coords t) → ¬cond0_3 (grid0.coords t) → k0_off8 (grid0.coords t) = ![(Ring.sl 2 (ringStep0_0 t.val)).val, 0, 0] := by decide +kernel
@[sl_canon] theorem canon0_0_7 (t : Fin grid0.N) (h0 : cond0_0 (grid0.coords t)) (h1 : cond0_1 (grid0.coords t)) (h2 : cond0_2 (grid0.coords t)) (h3 : ¬cond0_3 (grid0.coords t)) :
    (scM0_1.slice (Rect.unit (s := S2x1088x2048) (k0_off8 (grid0.coords t)) S1x1088x2048.size (k0_off8_inb (grid0.coords t) h1)) (fun _ => rfl)).squeeze S1088x2048 squeezes_S1x1088x2048_S1088x2048 = rslot0_0 (Ring.sl 2 (ringStep0_0 t.val)) :=
  congrArg (fun M : Memref sig .tc .vmem S1x1088x2048 .f32 => M.squeeze S1088x2048 squeezes_S1x1088x2048_S1088x2048) (Memref.slice_unit_congr _ (coff0_0_7 t h0 h1 h2 h3) _ _ (fun _ => rfl) (fun _ => rfl))
set_option synthInstance.maxSize 4096 in
theorem coff0_0_8 : ∀ t : Fin grid0.N, cond0_0 (grid0.coords t) → cond0_1 (grid0.coords t) → cond0_2 (grid0.coords t) → ¬cond0_3 (grid0.coords t) → k0_off7 (grid0.coords t) = ![(Ring.sl 2 (ringStep0_0 t.val)).val] := by decide +kernel
@[sl_canon] theorem canon0_0_8 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S2) (k0_off7 (grid0.coords t)) S1.size (k0_off7_inb (grid0.coords t) h1))).squeeze S_ squeezes_S1_S_ = cellA0_0 (Ring.sl 2 (ringStep0_0 t.val)) :=
  congrArg (fun A : DmaSems sig S1 => A.squeeze S_ squeezes_S1_S_) (SemArray.slice_unit_congr _ (coff0_0_8 t h0 h1 h2 h3) _ _)
set_option synthInstance.maxSize 4096 in
theorem coff0_0_9 : ∀ t : Fin grid0.N, ¬cond0_0 (grid0.coords t) → cond0_1 (grid0.coords t) → cond0_2 (grid0.coords t) → ¬cond0_3 (grid0.coords t) → k0_off5 (grid0.coords t) = ![(Ring.sl 2 ((ringStep0_0 t.val) + 1)).val, 0, 0] := by decide +kernel
@[sl_canon] theorem canon0_0_9 (t : Fin grid0.N) (h0 : ¬cond0_0 (grid0.coords t)) (h1 : cond0_1 (grid0.coords t)) (h2 : cond0_2 (grid0.coords t)) (h3 : ¬cond0_3 (grid0.coords t)) :
    (scM0_1.slice (Rect.unit (s := S2x1088x2048) (k0_off5 (grid0.coords t)) S1x1088x2048.size (k0_off5_inb (grid0.coords t) h1 h2)) (fun _ => rfl)).squeeze S1088x2048 squeezes_S1x1088x2048_S1088x2048 = rslot0_0 (Ring.sl 2 ((ringStep0_0 t.val) + 1)) :=
  congrArg (fun M : Memref sig .tc .vmem S1x1088x2048 .f32 => M.squeeze S1088x2048 squeezes_S1x1088x2048_S1088x2048) (Memref.slice_unit_congr _ (coff0_0_9 t h0 h1 h2 h3) _ _ (fun _ => rfl) (fun _ => rfl))
set_option synthInstance.maxSize 4096 in
theorem coff0_0_10 : ∀ t : Fin grid0.N, ¬cond0_0 (grid0.coords t) → cond0_1 (grid0.coords t) → cond0_2 (grid0.coords t) → ¬cond0_3 (grid0.coords t) → k0_off4 (grid0.coords t) = ![(Ring.sl 2 ((ringStep0_0 t.val) + 1)).val] := by decide +kernel
@[sl_canon] theorem canon0_0_10 (t : Fin grid0.N) (h0 : ¬cond0_0 (grid0.coords t)) (h1 : cond0_1 (grid0.coords t)) (h2 : cond0_2 (grid0.coords t)) (h3 : ¬cond0_3 (grid0.coords t)) :
    (cc0_scratch2.slice (Rect.unit (s := S2) (k0_off4 (grid0.coords t)) S1.size (k0_off4_inb (grid0.coords t) h1 h2))).squeeze S_ squeezes_S1_S_ = cellA0_0 (Ring.sl 2 ((ringStep0_0 t.val) + 1)) :=
  congrArg (fun A : DmaSems sig S1 => A.squeeze S_ squeezes_S1_S_) (SemArray.slice_unit_congr _ (coff0_0_10 t h0 h1 h2 h3) _ _)
set_option synthInstance.maxSize 4096 in
theorem coff0_0_11 : ∀ t : Fin grid0.N, ¬cond0_0 (grid0.coords t) → cond0_1 (grid0.coords t) → cond0_2 (grid0.coords t) → ¬cond0_3 (grid0.coords t) → k0_off6 (grid0.coords t) = ![((Ring.bk 16 ((ringStep0_0 t.val) + 1)).val / 4), 1088 * ((Ring.bk 16 ((ringStep0_0 t.val) + 1)).val % 4), 0] := by decide +kernel
@[sl_canon] theorem canon0_0_11 (t : Fin grid0.N) (h0 : ¬cond0_0 (grid0.coords t)) (h1 : cond0_1 (grid0.coords t)) (h2 : cond0_2 (grid0.coords t)) (h3 : ¬cond0_3 (grid0.coords t)) :
    (hbM0_0.slice (Rect.unit (s := S4x4352x2048) (k0_off6 (grid0.coords t)) S1x1088x2048.size (k0_off6_inb (grid0.coords t) h1 h2)) (fun _ => rfl)).squeeze S1088x2048 squeezes_S1x1088x2048_S1088x2048 = srcB0_0 (Ring.bk 16 ((ringStep0_0 t.val) + 1)) :=
  congrArg (fun M : Memref sig .tc .hbm S1x1088x2048 .f32 => M.squeeze S1088x2048 squeezes_S1x1088x2048_S1088x2048) (Memref.slice_unit_congr _ (coff0_0_11 t h0 h1 h2 h3) _ _ (fun _ => rfl) (fun _ => rfl))
set_option synthInstance.maxSize 4096 in
theorem coff0_0_12 : ∀ t : Fin grid0.N, ¬cond0_0 (grid0.coords t) → cond0_1 (grid0.coords t) → cond0_2 (grid0.coords t) → ¬cond0_3 (grid0.coords t) → k0_off8 (grid0.coords t) = ![(Ring.sl 2 (ringStep0_0 t.val)).val, 0, 0] := by decide +kernel
@[sl_canon] theorem canon0_0_12 (t : Fin grid0.N) (h0 : ¬cond0_0 (grid0.coords t)) (h1 : cond0_1 (grid0.coords t)) (h2 : cond0_2 (grid0.coords t)) (h3 : ¬cond0_3 (grid0.coords t)) :
    (scM0_1.slice (Rect.unit (s := S2x1088x2048) (k0_off8 (grid0.coords t)) S1x1088x2048.size (k0_off8_inb (grid0.coords t) h1)) (fun _ => rfl)).squeeze S1088x2048 squeezes_S1x1088x2048_S1088x2048 = rslot0_0 (Ring.sl 2 (ringStep0_0 t.val)) :=
  congrArg (fun M : Memref sig .tc .vmem S1x1088x2048 .f32 => M.squeeze S1088x2048 squeezes_S1x1088x2048_S1088x2048) (Memref.slice_unit_congr _ (coff0_0_12 t h0 h1 h2 h3) _ _ (fun _ => rfl) (fun _ => rfl))
set_option synthInstance.maxSize 4096 in
theorem coff0_0_13 : ∀ t : Fin grid0.N, ¬cond0_0 (grid0.coords t) → cond0_1 (grid0.coords t) → cond0_2 (grid0.coords t) → ¬cond0_3 (grid0.coords t) → k0_off7 (grid0.coords t) = ![(Ring.sl 2 (ringStep0_0 t.val)).val] := by decide +kernel
@[sl_canon] theorem canon0_0_13 (t : Fin grid0.N) (h0 : ¬cond0_0 (grid0.coords t)) (h1 : cond0_1 (grid0.coords t)) (h2 : cond0_2 (grid0.coords t)) (h3 : ¬cond0_3 (grid0.coords t)) :
    (cc0_scratch2.slice (Rect.unit (s := S2) (k0_off7 (grid0.coords t)) S1.size (k0_off7_inb (grid0.coords t) h1))).squeeze S_ squeezes_S1_S_ = cellA0_0 (Ring.sl 2 (ringStep0_0 t.val)) :=
  congrArg (fun A : DmaSems sig S1 => A.squeeze S_ squeezes_S1_S_) (SemArray.slice_unit_congr _ (coff0_0_13 t h0 h1 h2 h3) _ _)
set_option synthInstance.maxSize 4096 in
theorem coff0_0_14 : ∀ t : Fin grid0.N, ¬cond0_0 (grid0.coords t) → cond0_1 (grid0.coords t) → ¬cond0_2 (grid0.coords t) → ¬cond0_3 (grid0.coords t) → k0_off8 (grid0.coords t) = ![(Ring.sl 2 (ringStep0_0 t.val)).val, 0, 0] := by decide +kernel
@[sl_canon] theorem canon0_0_14 (t : Fin grid0.N) (h0 : ¬cond0_0 (grid0.coords t)) (h1 : cond0_1 (grid0.coords t)) (h2 : ¬cond0_2 (grid0.coords t)) (h3 : ¬cond0_3 (grid0.coords t)) :
    (scM0_1.slice (Rect.unit (s := S2x1088x2048) (k0_off8 (grid0.coords t)) S1x1088x2048.size (k0_off8_inb (grid0.coords t) h1)) (fun _ => rfl)).squeeze S1088x2048 squeezes_S1x1088x2048_S1088x2048 = rslot0_0 (Ring.sl 2 (ringStep0_0 t.val)) :=
  congrArg (fun M : Memref sig .tc .vmem S1x1088x2048 .f32 => M.squeeze S1088x2048 squeezes_S1x1088x2048_S1088x2048) (Memref.slice_unit_congr _ (coff0_0_14 t h0 h1 h2 h3) _ _ (fun _ => rfl) (fun _ => rfl))
set_option synthInstance.maxSize 4096 in
theorem coff0_0_15 : ∀ t : Fin grid0.N, ¬cond0_0 (grid0.coords t) → cond0_1 (grid0.coords t) → ¬cond0_2 (grid0.coords t) → ¬cond0_3 (grid0.coords t) → k0_off7 (grid0.coords t) = ![(Ring.sl 2 (ringStep0_0 t.val)).val] := by decide +kernel
@[sl_canon] theorem canon0_0_15 (t : Fin grid0.N) (h0 : ¬cond0_0 (grid0.coords t)) (h1 : cond0_1 (grid0.coords t)) (h2 : ¬cond0_2 (grid0.coords t)) (h3 : ¬cond0_3 (grid0.coords t)) :
    (cc0_scratch2.slice (Rect.unit (s := S2) (k0_off7 (grid0.coords t)) S1.size (k0_off7_inb (grid0.coords t) h1))).squeeze S_ squeezes_S1_S_ = cellA0_0 (Ring.sl 2 (ringStep0_0 t.val)) :=
  congrArg (fun A : DmaSems sig S1 => A.squeeze S_ squeezes_S1_S_) (SemArray.slice_unit_congr _ (coff0_0_15 t h0 h1 h2 h3) _ _)
set_option synthInstance.maxSize 4096 in
theorem coff0_0_16 : ∀ t : Fin grid0.N, cond0_0 (grid0.coords t) → cond0_1 (grid0.coords t) → cond0_2 (grid0.coords t) → ¬cond0_3 (grid0.coords t) → k0_off10 (grid0.coords t) = ![(Ring.sl 2 (ringStep0_0 t.val)).val, 0, 0] := by decide +kernel
/-- The ring-memref load's box in the slot's spelling (the block this step waited): the executor's symbolic geometry then sees it inside that slot. -/
instance (priority := high) closedOff0_0_16 (t : Fin grid0.N) [h0 : Fact (cond0_0 (grid0.coords t))] [h1 : Fact (cond0_1 (grid0.coords t))] [h2 : Fact (cond0_2 (grid0.coords t))] [h3 : Fact (¬cond0_3 (grid0.coords t))] : ClosedOff (k0_off10 (grid0.coords t)) := ⟨![(Ring.sl 2 (ringStep0_0 t.val)).val, 0, 0], coff0_0_16 t h0.out h1.out h2.out h3.out⟩
set_option synthInstance.maxSize 4096 in
theorem coff0_0_17 : ∀ t : Fin grid0.N, ¬cond0_0 (grid0.coords t) → cond0_1 (grid0.coords t) → cond0_2 (grid0.coords t) → ¬cond0_3 (grid0.coords t) → k0_off10 (grid0.coords t) = ![(Ring.sl 2 (ringStep0_0 t.val)).val, 0, 0] := by decide +kernel
/-- The ring-memref load's box in the slot's spelling (the block this step waited): the executor's symbolic geometry then sees it inside that slot. -/
instance (priority := high) closedOff0_0_17 (t : Fin grid0.N) [h0 : Fact (¬cond0_0 (grid0.coords t))] [h1 : Fact (cond0_1 (grid0.coords t))] [h2 : Fact (cond0_2 (grid0.coords t))] [h3 : Fact (¬cond0_3 (grid0.coords t))] : ClosedOff (k0_off10 (grid0.coords t)) := ⟨![(Ring.sl 2 (ringStep0_0 t.val)).val, 0, 0], coff0_0_17 t h0.out h1.out h2.out h3.out⟩
set_option synthInstance.maxSize 4096 in
theorem coff0_0_18 : ∀ t : Fin grid0.N, ¬cond0_0 (grid0.coords t) → cond0_1 (grid0.coords t) → ¬cond0_2 (grid0.coords t) → ¬cond0_3 (grid0.coords t) → k0_off10 (grid0.coords t) = ![(Ring.sl 2 (ringStep0_0 t.val)).val, 0, 0] := by decide +kernel
/-- The ring-memref load's box in the slot's spelling (the block this step waited): the executor's symbolic geometry then sees it inside that slot. -/
instance (priority := high) closedOff0_0_18 (t : Fin grid0.N) [h0 : Fact (¬cond0_0 (grid0.coords t))] [h1 : Fact (cond0_1 (grid0.coords t))] [h2 : Fact (¬cond0_2 (grid0.coords t))] [h3 : Fact (¬cond0_3 (grid0.coords t))] : ClosedOff (k0_off10 (grid0.coords t)) := ⟨![(Ring.sl 2 (ringStep0_0 t.val)).val, 0, 0], coff0_0_18 t h0.out h1.out h2.out h3.out⟩
end Canon0_0

end Cert.Kernel5Ideal.Hand

end
-- ==== Proof.InRunB.lean ====
/- The input projection's body at a point that only multiplies: the rows kept in scratch, times a block of the
   weights. -/
module

public import proofs.«01_k».proof.Proof.InRing
public import proofs.«01_k».proof.Proof.Gen.Kernel5Ideal.Skeleton
public import Idealize.ShloMosaic.Lib.VecWindow

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- One body's inputs on core `c`, each at its contents. -/
abbrev ins (c : Dev nD) (arg4 : Memref sig .tc .vmem S1x2048 .f32) (arg5 : Memref sig .tc .vmem S1x1x2048 .f32)
    (arg6 : Memref sig .tc .vmem S1x1x2048 .f32) (arg7 : Memref sig .tc .vmem S1x2048 .f32) (arg8 : Memref sig .tc .vmem S1x2048 .f32)
    (arg9 : Memref sig .tc .vmem S1x1024x2048 .bf16) (arg10 : Memref sig .tc .vmem S1x1024x2048 .bf16)
    (x0 : Vec F S1x2048 .f32) (x1 : Vec F S1x1x2048 .f32) (x2 : Vec F S1x1x2048 .f32) (x3 : Vec F S1x2048 .f32)
    (x4 : Vec F S1x2048 .f32) (x5 : Vec F S1x1024x2048 .bf16) (x6 : Vec F S1x1024x2048 .bf16) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ owns (c : Thread nD τ) arg9 fullShare x5
    ∗ owns (c : Thread nD τ) arg10 fullShare x6)

set_option maxHeartbeats 1000000 in
/-- The body's run there: the output's buffer ends at the product, the scratch as it was. -/
theorem run_B (c : Dev nD) (t : Fin cfg0.N) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1024x2048 .bf16) (harg9 : arg9.IsWhole) (arg10 : Memref sig .tc .vmem S1x1024x2048 .bf16) (harg10 : arg10.IsWhole) (arg11 : Memref sig .tc .vmem S1x1088x1024 .bf16) (harg11 : arg11.IsWhole) (arg12 : Memref sig .tc .vmem S1088x2048 .bf16) (harg12 : arg12.IsWhole) (hc0 : ¬cond0_0 (grid0.coords t)) (hc1 : ¬cond0_1 (grid0.coords t)) (hc3 : cond0_3 (grid0.coords t))
    (x0 : Vec F S1x2048 .f32) (x1 : Vec F S1x1x2048 .f32) (x2 : Vec F S1x1x2048 .f32) (x3 : Vec F S1x2048 .f32) (x4 : Vec F S1x2048 .f32) (x5 : Vec F S1x1024x2048 .bf16) (x6 : Vec F S1x1024x2048 .bf16) (h : Vec F S1088x2048 .bf16)
    (W : Waits sig Unit) (K : PUnit → sProp 𝕄) :
    iprop(ins c arg4 arg5 arg6 arg7 arg8 arg9 arg10 x0 x1 x2 x3 x4 x5 x6 ∗ (∃ d, owns (c : Thread nD τ) arg11 fullShare d) ∗ owns (c : Thread nD τ) arg12 fullShare h ∗ owes (c : Thread nD τ) 0 W
        ∗ (iprop(ins c arg4 arg5 arg6 arg7 arg8 arg9 arg10 x0 x1 x2 x3 x4 x5 x6 ∗ owns (c : Thread nD τ) arg11 fullShare (k0_pay3 h x6) ∗ owns (c : Thread nD τ) arg12 fullShare h ∗ (∃ W', owes (c : Thread nD τ) 0 W')) -∗ K ⟨⟩))
      ⊢ wp frame (wpE (defs₀ (F := F)) Variants.none c none) Set.univ (cc0_inproj (grid0.coords t) (Memref.whole main_arg0) (Memref.isWhole_whole _) arg4 harg4 arg5 harg5 arg6 harg6 arg7 harg7 arg8 harg8 arg9 harg9 arg10 harg10 arg11 harg11 arg12 harg12 scM0_1 (Memref.isWhole_whole _) cc0_scratch2) K := by
  haveI : Fact (¬cond0_0 (grid0.coords t)) := ⟨hc0⟩
  haveI : Fact (¬cond0_1 (grid0.coords t)) := ⟨hc1⟩
  haveI : Fact (cond0_3 (grid0.coords t)) := ⟨hc3⟩
  simp only [cc0_inproj_eq_skeleton]; unfold cc0_inproj_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs0, %hfs0, HS0⟩, HW, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hfs0
  sl_exec (disch := first | sl_exact hc0 | sl_exact hc1 | sl_exact hc3)
  sl_step
  iapply Hk
  isplitl [H0 H1 H2 H3 H4 H5 H6]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    · iexists _; isplitr; · ipureintro; exact harg10.read_unread _
      iexact H6
  isplitl [H7]
  · iexists _; isplitr; swap; · iexact H7
    ipureintro
    rw [View.read_writes_full, View.readAt_full, View.readAt_full, harg12.read_unread, harg10.read_unread]
  isplitl [HS0]
  · iexists _; isplitr; · ipureintro; exact harg12.read_unread _
    iexact HS0
  iexists _; iexact HW

end Cert.Kernel5Ideal.Hand

end
-- ==== Proof.InRows.lean ====
/- The rows a block brings in, and what they leave in scratch. -/
module

public import proofs.«01_k».proof.Proof.InRunB
public import proofs.«01_k».proof.Proof.Gen.Kernel5Ideal.Skeleton
public import Idealize.ShloMosaic.Lib.VecWindow

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Block `b` of the rows: 1088 of them, of one batch. -/
def rows (c : Dev nD) (W : HbBuf0 (F := F) c hbM0_0) (b : Fin 16) : Vec F S1x1088x2048 .f32 :=
  (hbM0_0.slice (Rect.unit (s := S4x4352x2048) ![(b.val / 4), 1088 * (b.val % 4), 0] S1x1088x2048.size (inb_src0_0 b)) (fun _ => rfl)).view.read (Elt F) W

/-- A load of slot `s` after block `b` has landed there reads the block. -/
theorem slot_read (c : Dev nD) (W : HbBuf0 (F := F) c hbM0_0) (s : Fin 2) (b : Fin 16) (f : (rslot0_0 s).view.ty.Contents (Elt F)) {off : Fin 3 → ℕ}
    (h : off = ![s.val, 0, 0]) (inb : ∀ a, off a + S1x1088x2048.size a ≤ S2x1088x2048.size a) :
    scM0_1.view.readAt (Elt F) (Rect.unit (s := S2x1088x2048) off S1x1088x2048.size inb).toLoadRect
      ((rslot0_0 s).view.writes (Elt F) f [⟨Rect.whole S1088x2048, ReadAs.same.apply ((srcB0_0 b).view.read (Elt F) W)⟩]) = rows c W b := by
  subst h
  have e := View.read_writes_whole (rslot0_0 s).view f (ReadAs.same.apply ((srcB0_0 b).view.read (Elt F) W))
  funext y
  have hy := congrFun e ((Shape.reshapeEquiv squeezes_S1x1088x2048_S1088x2048.numel_eq).symm y)
  have back := (Shape.reshapeEquiv squeezes_S1x1088x2048_S1088x2048.numel_eq).apply_symm_apply y
  have left : ∀ G : (rslot0_0 s).view.ty.Contents (Elt F), (rslot0_0 s).view.read (Elt F) G ((Shape.reshapeEquiv squeezes_S1x1088x2048_S1088x2048.numel_eq).symm y)
      = scM0_1.view.readAt (Elt F) (Rect.unit (s := S2x1088x2048) ![s.val, 0, 0] S1x1088x2048.size inb).toLoadRect G y := fun G =>
    congrArg (scM0_1.view.readAt (Elt F) (Rect.unit (s := S2x1088x2048) ![s.val, 0, 0] S1x1088x2048.size inb).toLoadRect G) back
  exact (left _).symm.trans (hy.trans (congrArg (rows c W b) back))

/-- The rows a new block leaves in scratch, normalised and modulated. -/
def hid (i : grid0.Coords) (xr : Vec F S1x1088x2048 .f32) (x0 : Vec F S1x2048 .f32) (x1 : Vec F S1x1x2048 .f32) (x2 : Vec F S1x1x2048 .f32)
    (x3 : Vec F S1x2048 .f32) (x4 : Vec F S1x2048 .f32) : Vec F S1088x2048 .bf16 :=
  k0_pay1 (k0_pay7 (BitVec.ofNat 32 (i 1).val) (k0_pay4 xr) (k0_pay5 x0) (k0_pay6 xr) x3 x1 x4 x2)

end Cert.Kernel5Ideal.Hand

end
-- ==== Proof.InRunA.lean ====
/- The input projection's body at the first point: it starts the first two transfers, waits for the first, normalises it into scratch, and
   multiplies it with the first block of weights. -/
module

public import proofs.«01_k».proof.Proof.InRows
public import proofs.«01_k».proof.Proof.Gen.Kernel5Ideal.Skeleton
public import Idealize.ShloMosaic.Lib.VecWindow

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's run there: the scratch ends at the normalised rows, the output's buffer at their product. -/
theorem run_A (c : Dev nD) (t : Fin cfg0.N) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1024x2048 .bf16) (harg9 : arg9.IsWhole) (arg10 : Memref sig .tc .vmem S1x1024x2048 .bf16) (harg10 : arg10.IsWhole) (arg11 : Memref sig .tc .vmem S1x1088x1024 .bf16) (harg11 : arg11.IsWhole) (arg12 : Memref sig .tc .vmem S1088x2048 .bf16) (harg12 : arg12.IsWhole) (hc0 : cond0_0 (grid0.coords t)) (hc1 : cond0_1 (grid0.coords t)) (hc2 : cond0_2 (grid0.coords t)) (hc3 : ¬cond0_3 (grid0.coords t))
    (x0 : Vec F S1x2048 .f32) (x1 : Vec F S1x1x2048 .f32) (x2 : Vec F S1x1x2048 .f32) (x3 : Vec F S1x2048 .f32) (x4 : Vec F S1x2048 .f32) (x5 : Vec F S1x1024x2048 .bf16) (x6 : Vec F S1x1024x2048 .bf16) (fh0 : HbBuf0 (F := F) c hbM0_0) :
      ∀ (W : Waits sig Unit) (K : PUnit → sProp 𝕄),
        iprop(ins c arg4 arg5 arg6 arg7 arg8 arg9 arg10 x0 x1 x2 x3 x4 x5 x6 ∗ (∃ d, owns (c : Thread nD τ) arg11 fullShare d) ∗ (∃ d, owns (c : Thread nD τ) arg12 fullShare d) ∗ Ring.free (cellP0_0 c) (slotW0_0 c fh0) (Ring.sl 2 (ringStep0_0 t.val)) ∗ Ring.free (cellP0_0 c) (slotW0_0 c fh0) (Ring.sl 2 ((ringStep0_0 t.val) + 1)) ∗ owes (c : Thread nD τ) 0 W
            ∗ (iprop(ins c arg4 arg5 arg6 arg7 arg8 arg9 arg10 x0 x1 x2 x3 x4 x5 x6 ∗ owns (c : Thread nD τ) arg11 fullShare (k0_pay2 (hid (grid0.coords t) (rows c fh0 (Ring.bk 16 (ringStep0_0 t.val))) x0 x1 x2 x3 x4) x5) ∗ owns (c : Thread nD τ) arg12 fullShare (hid (grid0.coords t) (rows c fh0 (Ring.bk 16 (ringStep0_0 t.val))) x0 x1 x2 x3 x4) ∗ Ring.inflight (flightW0_0 c fh0) (Ring.sl 2 ((ringStep0_0 t.val) + 1)) (Ring.bk 16 ((ringStep0_0 t.val) + 1)) ∗ Ring.kept (cellP0_0 c) (slotW0_0 c fh0) (landed0_0 c fh0) (Ring.sl 2 (ringStep0_0 t.val)) (Ring.bk 16 (ringStep0_0 t.val)) ∗ (∃ W', owes (c : Thread nD τ) 0 W')) -∗ K ⟨⟩))
          ⊢ wp frame (wpE (defs₀ (F := F)) Variants.none c none) Set.univ (cc0_inproj (grid0.coords t) (Memref.whole main_arg0) (Memref.isWhole_whole _) arg4 harg4 arg5 harg5 arg6 harg6 arg7 harg7 arg8 harg8 arg9 harg9 arg10 harg10 arg11 harg11 arg12 harg12 scM0_1 (Memref.isWhole_whole _) cc0_scratch2) K := by
    intro W K
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0_inproj_eq_skeleton]; unfold cc0_inproj_skel
    simp only [k0_part1_eq_skeleton, k0_part2_eq_skeleton]
    unfold ins owns Ring.free Ring.inflight Ring.kept
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 (ringStep0_0 t.val)) (Ring.bk 16 (ringStep0_0 t.val))).1 $$ Hw0_0_0
    icases Hsp0_0_0 with ⟨Hh0_0_0, Hr0_0_0⟩
    ihave Hsp0_0_1 := (src0_0_split c fh0 (Ring.sl 2 ((ringStep0_0 t.val) + 1)) (Ring.bk 16 ((ringStep0_0 t.val) + 1))).1 $$ Hw0_0_1
    icases Hsp0_0_1 with ⟨Hh0_0_1, Hr0_0_1⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    simp only [canon0_0_1 t hc0 hc1 hc2 hc3, canon0_0_2 t hc0 hc1 hc2 hc3, canon0_0_3 t hc0 hc1 hc2 hc3]
    sl_exec (disch := first | sl_exact hc0 | sl_exact hc1 | sl_exact hc2 | sl_exact hc3)
    sl_step
    iapply Hk
    isplitl [H0 H1 H2 H3 H4 H5 H6]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      · iexists _; isplitr; · ipureintro; exact harg10.read_unread _
        iexact H6
    isplitl [H7]
    · iexists _; isplitr; swap; · iexact H7
      ipureintro
      unfold run_A.sl.v97 run_A.sl.HS0_1 run_A.sl.r_3 run_A.sl.r_2 run_A.sl.r_1 run_A.sl.r run_A.sl.v45 run_A.sl.dma0 hid
      rw [slot_read c fh0 _ _ _ (coff0_0_16 t hc0 hc1 hc2 hc3)]
      rw [View.readAt_full arg4.view, harg4.read_unread, View.readAt_full arg7.view, harg7.read_unread, View.readAt_full arg5.view, harg5.read_unread,
        View.readAt_full arg8.view, harg8.read_unread, View.readAt_full arg6.view, harg6.read_unread]
      refine (View.read_writes_full _ _ _ _ _).trans (congrArg₂ k0_pay2 (View.readCov_full _ _ _ _ _) ?_)
      exact (View.readAt_full _ _ _).trans (harg9.read_unread _)
    isplitl [HS0]
    · iexists _; isplitr; swap; · iexact HS0
      ipureintro
      unfold run_A.sl.HS0_1 run_A.sl.r_3 run_A.sl.r_2 run_A.sl.r_1 run_A.sl.r run_A.sl.v45 run_A.sl.dma0 hid
      rw [slot_read c fh0 _ _ _ (coff0_0_16 t hc0 hc1 hc2 hc3)]
      rw [View.readAt_full arg4.view, harg4.read_unread, View.readAt_full arg7.view, harg7.read_unread, View.readAt_full arg5.view, harg5.read_unread,
        View.readAt_full arg8.view, harg8.read_unread, View.readAt_full arg6.view, harg6.read_unread]
      exact View.read_writes_full _ _ _ _ _
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 (ringStep0_0 t.val)) (Ring.bk 16 (ringStep0_0 t.val))).2; isplitl [Hh0_0_0]; · iexact Hh0_0_0
      iexact Hr0_0_0
    iexists _; iexact HW

end Cert.Kernel5Ideal.Hand

end
-- ==== Proof.InRunC.lean ====
/- The input projection's body at a point in the middle that takes a new block of rows in: it starts the next block's transfer, waits for its
   own, normalises it into scratch, and multiplies it with the first block of weights. -/
module

public import proofs.«01_k».proof.Proof.InRunA
public import proofs.«01_k».proof.Proof.Gen.Kernel5Ideal.Skeleton
public import Idealize.ShloMosaic.Lib.VecWindow

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's run there: the scratch ends at the normalised rows, the output's buffer at their product. -/
theorem run_C (c : Dev nD) (t : Fin cfg0.N) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1024x2048 .bf16) (harg9 : arg9.IsWhole) (arg10 : Memref sig .tc .vmem S1x1024x2048 .bf16) (harg10 : arg10.IsWhole) (arg11 : Memref sig .tc .vmem S1x1088x1024 .bf16) (harg11 : arg11.IsWhole) (arg12 : Memref sig .tc .vmem S1088x2048 .bf16) (harg12 : arg12.IsWhole) (hc0 : ¬cond0_0 (grid0.coords t)) (hc1 : cond0_1 (grid0.coords t)) (hc2 : cond0_2 (grid0.coords t)) (hc3 : ¬cond0_3 (grid0.coords t))
    (x0 : Vec F S1x2048 .f32) (x1 : Vec F S1x1x2048 .f32) (x2 : Vec F S1x1x2048 .f32) (x3 : Vec F S1x2048 .f32) (x4 : Vec F S1x2048 .f32) (x5 : Vec F S1x1024x2048 .bf16) (x6 : Vec F S1x1024x2048 .bf16) (fh0 : HbBuf0 (F := F) c hbM0_0) :
      ∀ (W : Waits sig Unit) (K : PUnit → sProp 𝕄),
        iprop(ins c arg4 arg5 arg6 arg7 arg8 arg9 arg10 x0 x1 x2 x3 x4 x5 x6 ∗ (∃ d, owns (c : Thread nD τ) arg11 fullShare d) ∗ (∃ d, owns (c : Thread nD τ) arg12 fullShare d) ∗ Ring.inflight (flightW0_0 c fh0) (Ring.sl 2 (ringStep0_0 t.val)) (Ring.bk 16 (ringStep0_0 t.val)) ∗ Ring.kept (cellP0_0 c) (slotW0_0 c fh0) (landed0_0 c fh0) (Ring.sl 2 ((ringStep0_0 t.val) + 1)) (Ring.bk 16 ((ringStep0_0 t.val) - 1)) ∗ owes (c : Thread nD τ) 0 W
            ∗ (iprop(ins c arg4 arg5 arg6 arg7 arg8 arg9 arg10 x0 x1 x2 x3 x4 x5 x6 ∗ owns (c : Thread nD τ) arg11 fullShare (k0_pay2 (hid (grid0.coords t) (rows c fh0 (Ring.bk 16 (ringStep0_0 t.val))) x0 x1 x2 x3 x4) x5) ∗ owns (c : Thread nD τ) arg12 fullShare (hid (grid0.coords t) (rows c fh0 (Ring.bk 16 (ringStep0_0 t.val))) x0 x1 x2 x3 x4) ∗ Ring.inflight (flightW0_0 c fh0) (Ring.sl 2 ((ringStep0_0 t.val) + 1)) (Ring.bk 16 ((ringStep0_0 t.val) + 1)) ∗ Ring.kept (cellP0_0 c) (slotW0_0 c fh0) (landed0_0 c fh0) (Ring.sl 2 (ringStep0_0 t.val)) (Ring.bk 16 (ringStep0_0 t.val)) ∗ (∃ W', owes (c : Thread nD τ) 0 W')) -∗ K ⟨⟩))
          ⊢ wp frame (wpE (defs₀ (F := F)) Variants.none c none) Set.univ (cc0_inproj (grid0.coords t) (Memref.whole main_arg0) (Memref.isWhole_whole _) arg4 harg4 arg5 harg5 arg6 harg6 arg7 harg7 arg8 harg8 arg9 harg9 arg10 harg10 arg11 harg11 arg12 harg12 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0_inproj_eq_skeleton]; unfold cc0_inproj_skel
    simp only [k0_part1_eq_skeleton, k0_part2_eq_skeleton]
    unfold ins owns Ring.inflight Ring.kept
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 ((ringStep0_0 t.val) + 1)) (Ring.bk 16 ((ringStep0_0 t.val) + 1))).1 $$ Hw0_0_1
    icases Hsp0_0_1 with ⟨Hh0_0_1, Hr0_0_1⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hc0 | sl_exact hc1 | sl_exact hc2 | sl_exact hc3)
    sl_step
    iapply Hk
    isplitl [H0 H1 H2 H3 H4 H5 H6]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      · iexists _; isplitr; · ipureintro; exact harg10.read_unread _
        iexact H6
    isplitl [H7]
    · iexists _; isplitr; swap; · iexact H7
      ipureintro
      unfold run_C.sl.v97 run_C.sl.HS0_1 run_C.sl.r_3 run_C.sl.r_2 run_C.sl.r_1 run_C.sl.r run_C.sl.v45 hid
      rw [slot_read c fh0 _ _ _ (coff0_0_17 t hc0 hc1 hc2 hc3)]
      rw [View.readAt_full arg4.view, harg4.read_unread, View.readAt_full arg7.view, harg7.read_unread, View.readAt_full arg5.view, harg5.read_unread,
        View.readAt_full arg8.view, harg8.read_unread, View.readAt_full arg6.view, harg6.read_unread]
      refine (View.read_writes_full _ _ _ _ _).trans (congrArg₂ k0_pay2 (View.readCov_full _ _ _ _ _) ?_)
      exact (View.readAt_full _ _ _).trans (harg9.read_unread _)
    isplitl [HS0]
    · iexists _; isplitr; swap; · iexact HS0
      ipureintro
      unfold run_C.sl.HS0_1 run_C.sl.r_3 run_C.sl.r_2 run_C.sl.r_1 run_C.sl.r run_C.sl.v45 hid
      rw [slot_read c fh0 _ _ _ (coff0_0_17 t hc0 hc1 hc2 hc3)]
      rw [View.readAt_full arg4.view, harg4.read_unread, View.readAt_full arg7.view, harg7.read_unread, View.readAt_full arg5.view, harg5.read_unread,
        View.readAt_full arg8.view, harg8.read_unread, View.readAt_full arg6.view, harg6.read_unread]
      exact View.read_writes_full _ _ _ _ _
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 (ringStep0_0 t.val)) (Ring.bk 16 (ringStep0_0 t.val))).2; isplitl [Hf0_0_src]; · iexact Hf0_0_src
      iexact Hrf0_0
    iexists _; iexact HW

end Cert.Kernel5Ideal.Hand

end
-- ==== Proof.InRunD.lean ====
/- The input projection's body at the point that takes the last block of rows in: it waits for the transfer, normalises the block into scratch,
   and multiplies it with the first block of weights. -/
module

public import proofs.«01_k».proof.Proof.InRunC
public import proofs.«01_k».proof.Proof.Gen.Kernel5Ideal.Skeleton
public import Idealize.ShloMosaic.Lib.VecWindow

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's run there: the scratch ends at the normalised rows, the output's buffer at their product. -/
theorem run_D (c : Dev nD) (t : Fin cfg0.N) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1024x2048 .bf16) (harg9 : arg9.IsWhole) (arg10 : Memref sig .tc .vmem S1x1024x2048 .bf16) (harg10 : arg10.IsWhole) (arg11 : Memref sig .tc .vmem S1x1088x1024 .bf16) (harg11 : arg11.IsWhole) (arg12 : Memref sig .tc .vmem S1088x2048 .bf16) (harg12 : arg12.IsWhole) (hc0 : ¬cond0_0 (grid0.coords t)) (hc1 : cond0_1 (grid0.coords t)) (hc2 : ¬cond0_2 (grid0.coords t)) (hc3 : ¬cond0_3 (grid0.coords t))
    (x0 : Vec F S1x2048 .f32) (x1 : Vec F S1x1x2048 .f32) (x2 : Vec F S1x1x2048 .f32) (x3 : Vec F S1x2048 .f32) (x4 : Vec F S1x2048 .f32) (x5 : Vec F S1x1024x2048 .bf16) (x6 : Vec F S1x1024x2048 .bf16) (fh0 : HbBuf0 (F := F) c hbM0_0) :
      ∀ (W : Waits sig Unit) (K : PUnit → sProp 𝕄),
        iprop(ins c arg4 arg5 arg6 arg7 arg8 arg9 arg10 x0 x1 x2 x3 x4 x5 x6 ∗ (∃ d, owns (c : Thread nD τ) arg11 fullShare d) ∗ (∃ d, owns (c : Thread nD τ) arg12 fullShare d) ∗ Ring.inflight (flightW0_0 c fh0) (Ring.sl 2 (ringStep0_0 t.val)) (Ring.bk 16 (ringStep0_0 t.val)) ∗ owes (c : Thread nD τ) 0 W
            ∗ (iprop(ins c arg4 arg5 arg6 arg7 arg8 arg9 arg10 x0 x1 x2 x3 x4 x5 x6 ∗ owns (c : Thread nD τ) arg11 fullShare (k0_pay2 (hid (grid0.coords t) (rows c fh0 (Ring.bk 16 (ringStep0_0 t.val))) x0 x1 x2 x3 x4) x5) ∗ owns (c : Thread nD τ) arg12 fullShare (hid (grid0.coords t) (rows c fh0 (Ring.bk 16 (ringStep0_0 t.val))) x0 x1 x2 x3 x4) ∗ Ring.kept (cellP0_0 c) (slotW0_0 c fh0) (landed0_0 c fh0) (Ring.sl 2 (ringStep0_0 t.val)) (Ring.bk 16 (ringStep0_0 t.val)) ∗ (∃ W', owes (c : Thread nD τ) 0 W')) -∗ K ⟨⟩))
          ⊢ wp frame (wpE (defs₀ (F := F)) Variants.none c none) Set.univ (cc0_inproj (grid0.coords t) (Memref.whole main_arg0) (Memref.isWhole_whole _) arg4 harg4 arg5 harg5 arg6 harg6 arg7 harg7 arg8 harg8 arg9 harg9 arg10 harg10 arg11 harg11 arg12 harg12 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (¬cond0_3 (grid0.coords t)) := ⟨hc3⟩
    simp only [cc0_inproj_eq_skeleton]; unfold cc0_inproj_skel
    simp only [k0_part1_eq_skeleton, k0_part2_eq_skeleton]
    unfold ins owns Ring.inflight Ring.kept
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%ds0, %fs0, -, HS0⟩, ⟨%ff0_0, Hf0_0, Hrf0_0⟩, HW, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hc0 | sl_exact hc1 | sl_exact hc2 | sl_exact hc3)
    sl_step
    iapply Hk
    isplitl [H0 H1 H2 H3 H4 H5 H6]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      · iexists _; isplitr; · ipureintro; exact harg10.read_unread _
        iexact H6
    isplitl [H7]
    · iexists _; isplitr; swap; · iexact H7
      ipureintro
      unfold run_D.sl.v97 run_D.sl.HS0_1 run_D.sl.r_3 run_D.sl.r_2 run_D.sl.r_1 run_D.sl.r run_D.sl.v45 hid
      rw [slot_read c fh0 _ _ _ (coff0_0_18 t hc0 hc1 hc2 hc3)]
      rw [View.readAt_full arg4.view, harg4.read_unread, View.readAt_full arg7.view, harg7.read_unread, View.readAt_full arg5.view, harg5.read_unread,
        View.readAt_full arg8.view, harg8.read_unread, View.readAt_full arg6.view, harg6.read_unread]
      refine (View.read_writes_full _ _ _ _ _).trans (congrArg₂ k0_pay2 (View.readCov_full _ _ _ _ _) ?_)
      exact (View.readAt_full _ _ _).trans (harg9.read_unread _)
    isplitl [HS0]
    · iexists _; isplitr; swap; · iexact HS0
      ipureintro
      unfold run_D.sl.HS0_1 run_D.sl.r_3 run_D.sl.r_2 run_D.sl.r_1 run_D.sl.r run_D.sl.v45 hid
      rw [slot_read c fh0 _ _ _ (coff0_0_18 t hc0 hc1 hc2 hc3)]
      rw [View.readAt_full arg4.view, harg4.read_unread, View.readAt_full arg7.view, harg7.read_unread, View.readAt_full arg5.view, harg5.read_unread,
        View.readAt_full arg8.view, harg8.read_unread, View.readAt_full arg6.view, harg6.read_unread]
      exact View.read_writes_full _ _ _ _ _
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 (ringStep0_0 t.val)) (Ring.bk 16 (ringStep0_0 t.val))).2; isplitl [Hf0_0_src]; · iexact Hf0_0_src
      iexact Hrf0_0
    iexists _; iexact HW

end Cert.Kernel5Ideal.Hand

end
-- ==== Proof.InFamily.lean ====
/- The input projection at any of the four layers: its windows are the first layer's but for the two weight windows'
   blocks, and its body is the same. -/
module

public import proofs.«01_k».proof.Proof.InRing

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (l : Fin 4) (m : (ℓ : Loc nD τ sig) → Buf (Elt F) ℓ)

/-- The two weight windows' block indices at layer `l`. -/
def ixM (_ : grid0.Coords) : Fin 3 → ℕ := ![l.val, 0, 0]
def ixR (i : grid0.Coords) : Fin 3 → ℕ := ![l.val, cc0_transform_7 i 1, 0]

theorem inbM : ∀ (l : Fin 4) (i : grid0.Coords) a, (ixM l i a + 1) * S1x1024x2048.size a ≤ S4x1024x2048.size a := by decide +kernel
theorem inbR : ∀ (l : Fin 4) (i : grid0.Coords) a, (ixR l i a + 1) * S1x1024x2048.size a ≤ S4x13312x2048.size a := by decide +kernel

/-- The two weight windows at layer `l`. -/
abbrev winM : Window sig grid0 :=
  Window.ofSpec (Memref.whole main_arg6) S1x1024x2048.size (ixM l) reads0_5 false false 1 stage0_5 sem0_5
    hrank0 (fun _ _ _ => rfl) (inbM l) nbuf0_5 (Memref.isWhole_whole _)
    (fun _ => .inr (Affine.block_words_dvd (of_decide_eq_true rfl) (by decide))) hstage0_5
abbrev winR : Window sig grid0 :=
  Window.ofSpec (Memref.whole main_arg7) S1x1024x2048.size (ixR l) reads0_6 false false 2 stage0_6 sem0_6
    hrank0 (fun i i' h => by unfold ixR; rw [hreads0_6 i i' h]) (inbR l) nbuf0_6 (Memref.isWhole_whole _)
    (fun _ => .inr (Affine.block_words_dvd (of_decide_eq_true rfl) (by decide))) hstage0_6

/-- The windows' block indices at layer `l`: the first layer's but for the two weights'. -/
def ixL : (w : Fin 8) → grid0.Coords → Fin (spec0 w).shape.rank → ℕ
  | 0 => win0_0.indexMap | 1 => win0_1.indexMap | 2 => win0_2.indexMap | 3 => win0_3.indexMap | 4 => win0_4.indexMap
  | 5 => ixM l | 6 => ixR l | 7 => win0_7.indexMap

/-- The windows at layer `l`. -/
abbrev winL (w : Fin 8) : Window sig grid0 where
  toWinSpec := spec0 w
  hcount := (win0 w).hcount
  indexMap := ixL l w
  hreads := match w with
    | 0 => win0_0.hreads | 1 => win0_1.hreads | 2 => win0_2.hreads | 3 => win0_3.hreads | 4 => win0_4.hreads
    | 5 => (winM l).hreads | 6 => (winR l).hreads | 7 => win0_7.hreads
  whole_of_rank_zero h := absurd h (by decide)
  kind := .blocked
  kind_out _ := rfl
  clip _ _ := none
  kind_clip h := nomatch h
  hclip := match w with
    | 0 => win0_0.hclip | 1 => win0_1.hclip | 2 => win0_2.hclip | 3 => win0_3.hclip | 4 => win0_4.hclip
    | 5 => (winM l).hclip | 6 => (winR l).hclip | 7 => win0_7.hclip
  hwx := match w with
    | 0 => win0_0.hwx | 1 => win0_1.hwx | 2 => win0_2.hwx | 3 => win0_3.hwx | 4 => win0_4.hwx
    | 5 => (winM l).hwx | 6 => (winR l).hwx | 7 => win0_7.hwx
  hwxs := match w with
    | 0 => win0_0.hwxs | 1 => win0_1.hwxs | 2 => win0_2.hwxs | 3 => win0_3.hwxs | 4 => win0_4.hwxs
    | 5 => (winM l).hwxs | 6 => (winR l).hwxs | 7 => win0_7.hwxs

/-- The launch at layer `l`. -/
abbrev cfgL : Cfg sig Λ₀ where
  grid := grid0
  W := 8
  win := winL l
  body := 0
  bodyArgs t s := (t, s)
  idle := idle0

abbrev cfgsL : Fin 1 → Cfg sig Λ₀ := fun _ => cfgL l

/-- The body table at layer `l`. -/
abbrev defsL : Defs nD τ sig (Elt F) (Pipeline.Sig Λ₀ (Fin 1) fun p => ((cfgsL l p).toPCfg (Val := Elt F)).Adm) :=
  Pipeline.defs (fun p => (cfgsL l p).toPCfg) defs₀

/-- The whole program at layer `l`: the host's five operations, then the launch. -/
def mainL : Dev nD → Prog (TpuEff nD τ sig (Elt F) (Pipeline.Sig Λ₀ (Fin 1) fun p => ((cfgsL l p).toPCfg (Val := Elt F)).Adm) .tc) PUnit :=
  fun _ => Pipeline.chain [StableHlo.seq hostOps0, Prog.lift (.customCall (Pipeline.entry 0) ())]

theorem hmainL (𝒱₀ : Variants) : Pipeline.HMain (Ix := Unit) (Name := ℕ) (U := Pipeline.UD sig nD τ) (Lvl := ℕ) (cfgsL l) 0 defs₀ 𝒱₀ m (mainL (F := F) l) (V m) :=
  Pipeline.hmain_prefix (cfgsL l) 0 defs₀ 𝒱₀ m (mainL l) hostOps0 hostOps0_sub hostOps0_fresh fun _ => rfl

theorem launchL : Pipeline.LaunchFacts (nD := nD) (τ := τ) (cfgsL l) 0 := ⟨cellOf_inj, winFacts0, block_pos0, arr_whole0, stage_whole0⟩

/-- Window `w`'s block at point `t`, read off its array as the launch finds it. -/
def iblk (c : Dev nD) (w : Fin 8) (t : Fin cfg0.N) : ((winL l w).xblock (grid0.coords t)).Idx → Elt F (winL l w).elt :=
  ((winL l w).blk t).view.read (Elt F) (V m c (Pipeline.arrRef spec0 w))

/-- Each window's staging buffer at point `t`, -/
abbrev ms0_0 (t : Fin cfg0.N) : Memref sig .tc .vmem S1x2048 .f32 := win0_0.stage ((cfgL l).slots t 0)
abbrev ms0_1 (t : Fin cfg0.N) : Memref sig .tc .vmem S1x1x2048 .f32 := win0_1.stage ((cfgL l).slots t 1)
abbrev ms0_2 (t : Fin cfg0.N) : Memref sig .tc .vmem S1x1x2048 .f32 := win0_2.stage ((cfgL l).slots t 2)
abbrev ms0_3 (t : Fin cfg0.N) : Memref sig .tc .vmem S1x2048 .f32 := win0_3.stage ((cfgL l).slots t 3)
abbrev ms0_4 (t : Fin cfg0.N) : Memref sig .tc .vmem S1x2048 .f32 := win0_4.stage ((cfgL l).slots t 4)
abbrev ms0_5 (t : Fin cfg0.N) : Memref sig .tc .vmem S1x1024x2048 .bf16 := win0_5.stage ((cfgL l).slots t 5)
abbrev ms0_6 (t : Fin cfg0.N) : Memref sig .tc .vmem S1x1024x2048 .bf16 := win0_6.stage ((cfgL l).slots t 6)
abbrev ms0_7 (t : Fin cfg0.N) : Memref sig .tc .vmem S1x1088x1024 .bf16 := win0_7.stage ((cfgL l).slots t 7)

/-- and the body on them. -/
abbrev bodyAt0 (t : Fin cfg0.N) : Prog (TpuEff nD τ sig (Elt F) Λ₀ .tc) PUnit :=
  cc0_inproj (grid0.coords t) (Memref.whole main_arg0) (Memref.isWhole_whole _) (ms0_0 l t) (hstage0_0 (((cfgL l).slots t 0).cast nbuf0_0)) (ms0_1 l t) (hstage0_1 (((cfgL l).slots t 1).cast nbuf0_1)) (ms0_2 l t) (hstage0_2 (((cfgL l).slots t 2).cast nbuf0_2)) (ms0_3 l t) (hstage0_3 (((cfgL l).slots t 3).cast nbuf0_3)) (ms0_4 l t) (hstage0_4 (((cfgL l).slots t 4).cast nbuf0_4)) (ms0_5 l t) (hstage0_5 (((cfgL l).slots t 5).cast nbuf0_5)) (ms0_6 l t) (hstage0_6 (((cfgL l).slots t 6).cast nbuf0_6)) (ms0_7 l t) (hstage0_7 (((cfgL l).slots t 7).cast nbuf0_7)) (Memref.whole cc0_scratch0) (Memref.isWhole_whole _) (Memref.whole cc0_scratch1) (Memref.isWhole_whole _) cc0_scratch2

end Cert.Kernel5Ideal.Hand

end
-- ==== Proof.InBody.lean ====
/- The input projection's body at every point: what the rows kept in scratch and the output's buffer hold after
   each, and the state the points hand on. -/
module

public import proofs.«01_k».proof.Proof.InRunD
public import proofs.«01_k».proof.Proof.InFamily

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (l : Fin 4) (m : (ℓ : Loc nD τ sig) → Buf (Elt F) ℓ) (ρ : Dev nD → PrngReg)

/-- The point that takes block `b` of the rows in. -/
def start (b : ℕ) : Fin cfg0.N := ⟨14 * b % 224, lt_of_lt_of_eq (Nat.mod_lt _ (by decide)) (show cfg0.N = 224 from N_0).symm⟩

theorem start_of (t : Fin cfg0.N) (h : t.val % 14 = 0) : start (t.val / 14) = t := by
  have hN : t.val < 224 := lt_of_lt_of_eq t.isLt (show cfg0.N = 224 from N_0)
  exact Fin.ext (by show 14 * (t.val / 14) % 224 = t.val; omega)

/-- Block `b`'s rows, normalised and modulated. -/
def hAt (c : Dev nD) (b : ℕ) : Vec F S1088x2048 .bf16 :=
  hid (grid0.coords (start b)) (rows c (V m c main_arg0) (Ring.bk 16 b)) (iblk l m c 0 (start b)) (iblk l m c 1 (start b)) (iblk l m c 2 (start b))
    (iblk l m c 3 (start b)) (iblk l m c 4 (start b))

theorem hid_eq (c : Dev nD) (t : Fin cfg0.N) (h : t.val % 14 = 0) :
    hid (grid0.coords t) (rows c (V m c main_arg0) (Ring.bk 16 (ringStep0_0 t.val))) (iblk l m c 0 t) (iblk l m c 1 t) (iblk l m c 2 t) (iblk l m c 3 t)
      (iblk l m c 4 t) = hAt l m c (t.val / 14) := by
  unfold hAt
  rw [start_of t h, show ringStep0_0 t.val = t.val / 14 by unfold ringStep0_0; omega]

/-- What the output's buffer holds after point `t`. -/
def outAt (c : Dev nD) (t : Fin cfg0.N) : Vec F S1x1088x1024 .bf16 :=
  if t.val % 14 = 0 then k0_pay2 (hAt l m c (t.val / 14)) (iblk l m c 5 t) else k0_pay3 (hAt l m c (t.val / 14)) (iblk l m c 6 t)

/-- The state before point `k`: the scratch at the last block's rows, and the ring of transfers. -/
def PhiV (c : Dev nD) (k : ℕ) : sProp 𝕄 :=
  iprop((∃ d, ⌜k ≠ 0 → d = hAt l m c ((k - 1) / 14)⌝ ∗ owns (c : Thread nD τ) scM0_0 fullShare d) ∗ (∃ r, prngReg c r)
    ∗ ringAt0_0 c (V m c main_arg0) (ringStep0_0 k))

/-- The launch's data: each input's buffer at its block, the output's at `outAt`, the state `PhiV`. -/
def dats (_ : Fin 1) (c : Dev nD) : Dat τ (Elt F) Unit ℕ (Pipeline.UD sig nD τ) ℕ (cfgL l) c where
  A w := V m c (Pipeline.arrRef spec0 w)
  after w t := match w with
    | ⟨0, _⟩ => iblk l m c 0 t
    | ⟨1, _⟩ => iblk l m c 1 t
    | ⟨2, _⟩ => iblk l m c 2 t
    | ⟨3, _⟩ => iblk l m c 3 t
    | ⟨4, _⟩ => iblk l m c 4 t
    | ⟨5, _⟩ => iblk l m c 5 t
    | ⟨6, _⟩ => iblk l m c 6 t
    | ⟨7, _⟩ => outAt l m c t
  Φ t := PhiV l m c t.val
  q _ := fullShare
  owed _ := 0

theorem A_eq (c : Dev nD) (w : Fin cfg0.W) : (dats l m 0 c).A w = V m c (Pipeline.arrRef spec0 w) := rfl
theorem Phi_start (c : Dev nD) (t : Fin cfg0.N) : (dats l m 0 c).Φ t.castSucc = PhiV l m c t.val := by
  dsimp only [dats]; simp only [Fin.coe_castSucc]
theorem Phi_end (c : Dev nD) (t : Fin cfg0.N) : (dats l m 0 c).Φ t.succ = PhiV l m c (t.val + 1) := by
  dsimp only [dats]; simp only [Fin.val_succ]

theorem after0_0 (c : Dev nD) (t : Fin cfg0.N) : (dats l m 0 c).after 0 t = iblk l m c 0 t := rfl
theorem after0_1 (c : Dev nD) (t : Fin cfg0.N) : (dats l m 0 c).after 1 t = iblk l m c 1 t := rfl
theorem after0_2 (c : Dev nD) (t : Fin cfg0.N) : (dats l m 0 c).after 2 t = iblk l m c 2 t := rfl
theorem after0_3 (c : Dev nD) (t : Fin cfg0.N) : (dats l m 0 c).after 3 t = iblk l m c 3 t := rfl
theorem after0_4 (c : Dev nD) (t : Fin cfg0.N) : (dats l m 0 c).after 4 t = iblk l m c 4 t := rfl
theorem after0_5 (c : Dev nD) (t : Fin cfg0.N) : (dats l m 0 c).after 5 t = iblk l m c 5 t := rfl
theorem after0_6 (c : Dev nD) (t : Fin cfg0.N) : (dats l m 0 c).after 6 t = iblk l m c 6 t := rfl
theorem after0_7 (c : Dev nD) (t : Fin cfg0.N) : (dats l m 0 c).after 7 t = outAt l m c t := rfl

/-! An input's buffer, its block left in place by every point, holds its block when a point begins. -/
theorem before0_0 (c : Dev nD) (t : Fin cfg0.N) (d) : (dats l m 0 c).before 0 t d = iblk l m c 0 t :=
  ((dats l m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats l m 0 c).before 1 t d = iblk l m c 1 t :=
  ((dats l m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats l m 0 c).before 2 t d = iblk l m c 2 t :=
  ((dats l m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats l m 0 c).before 3 t d = iblk l m c 3 t :=
  ((dats l m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats l m 0 c).before 4 t d = iblk l m c 4 t :=
  ((dats l m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats l m 0 c).before 5 t d = iblk l m c 5 t :=
  ((dats l m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats l m 0 c).before 6 t d = iblk l m c 6 t :=
  ((dats l m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- The inputs' buffers at point `t`, each at its block. -/
abbrev blocks (c : Dev nD) (t : Fin cfg0.N) : sProp 𝕄 :=
  ins c (ms0_0 l t) (ms0_1 l t) (ms0_2 l t) (ms0_3 l t) (ms0_4 l t) (ms0_5 l t) (ms0_6 l t) (iblk l m c 0 t) (iblk l m c 1 t) (iblk l m c 2 t) (iblk l m c 3 t)
    (iblk l m c 4 t) (iblk l m c 5 t) (iblk l m c 6 t)

/-- What a point is run with, -/
def bodyPre (c : Dev nD) (t : Fin cfg0.N) : sProp 𝕄 :=
  iprop((dats l m 0 c).Φ t.castSucc ∗ (dats l m 0 c).owesAt () t.castSucc
    ∗ (∃ d, owns (c : Thread nD τ) (ms0_0 l t) fullShare ((dats l m 0 c).before 0 t d))
    ∗ (∃ d, owns (c : Thread nD τ) (ms0_1 l t) fullShare ((dats l m 0 c).before 1 t d))
    ∗ (∃ d, owns (c : Thread nD τ) (ms0_2 l t) fullShare ((dats l m 0 c).before 2 t d))
    ∗ (∃ d, owns (c : Thread nD τ) (ms0_3 l t) fullShare ((dats l m 0 c).before 3 t d))
    ∗ (∃ d, owns (c : Thread nD τ) (ms0_4 l t) fullShare ((dats l m 0 c).before 4 t d))
    ∗ (∃ d, owns (c : Thread nD τ) (ms0_5 l t) fullShare ((dats l m 0 c).before 5 t d))
    ∗ (∃ d, owns (c : Thread nD τ) (ms0_6 l t) fullShare ((dats l m 0 c).before 6 t d))
    ∗ (∃ d, owns (c : Thread nD τ) (ms0_7 l t) fullShare ((dats l m 0 c).before 7 t d)))

/-- and what it returns. -/
def bodyPost (c : Dev nD) (t : Fin cfg0.N) : sProp 𝕄 :=
  iprop((dats l m 0 c).Φ t.succ ∗ (dats l m 0 c).owesAt () t.succ
    ∗ (dats l m 0 c).leavesExact 0 t
    ∗ (dats l m 0 c).leavesExact 1 t
    ∗ (dats l m 0 c).leavesExact 2 t
    ∗ (dats l m 0 c).leavesExact 3 t
    ∗ (dats l m 0 c).leavesExact 4 t
    ∗ (dats l m 0 c).leavesExact 5 t
    ∗ (dats l m 0 c).leavesExact 6 t
    ∗ (dats l m 0 c).leavesExact 7 t)

/-- The output is stored at every point, -/
theorem stored (l : Fin 4) (t : Fin cfg0.N) : (cfgL l).idle 7 (grid0.coords t) = false := by
  show (!(k0_cond2 (grid0.coords t) == 1#1) && !(k0_cond4 (grid0.coords t) == 1#1)) = false
  by_cases h : t.val % 14 = 0
  · rw [show k0_cond2 (grid0.coords t) = 1#1 from (hcond0_1 t).mpr h]; rfl
  · rw [show k0_cond4 (grid0.coords t) = 1#1 from (hcond0_3 t).mpr (by omega)]; simp

/-- so no buffer is idle at any point: each is left at its contents. -/
theorem leaves (c : Dev nD) (t : Fin cfg0.N) (w : Fin cfg0.W) :
    (dats l m 0 c).leavesExact w t = owns (c : Thread nD τ) (((cfgL l).win w).stage ((cfgL l).slots t w)) fullShare ((dats l m 0 c).after w t) := by
  unfold Dat.leavesExact
  rw [show (cfgL l).idle w (grid0.coords t) = false from ?_]
  fin_cases w <;> first | rfl | exact stored l t

/-- The two in the runs' own terms. -/
theorem pre_elim (c : Dev nD) (t : Fin cfg0.N) :
    bodyPre l m c t ⊢ iprop(PhiV l m c t.val ∗ (∃ W, owes (c : Thread nD τ) 0 W) ∗ blocks l m c t ∗ ∃ d, owns (c : Thread nD τ) (ms0_7 l t) fullShare d) := by
  unfold bodyPre
  simp only [before0_0, before0_1, before0_2, before0_3, before0_4, before0_5, before0_6]
  rw [Phi_start l m c t]
  unfold Dat.owesAt Pipeline.owesWithin
  rw [show (dats l m 0 c).owed t.castSucc = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  isplitl [HP]; · iexact HP
  isplitl [HW]; · iexists W; iexact HW
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexists _; iexact H7

theorem post_intro (c : Dev nD) (t : Fin cfg0.N) :
    iprop(PhiV l m c (t.val + 1) ∗ (∃ W, owes (c : Thread nD τ) 0 W) ∗ blocks l m c t ∗ owns (c : Thread nD τ) (ms0_7 l t) fullShare (outAt l m c t)) ⊢ bodyPost l m c t := by
  unfold bodyPost
  simp only [leaves, after0_0, after0_1, after0_2, after0_3, after0_4, after0_5, after0_6, after0_7]
  rw [Phi_end l m c t]
  unfold Dat.owesAt Pipeline.owesWithin
  rw [show (dats l m 0 c).owed t.succ = 0 from rfl]
  iintro ⟨HP, ⟨%W, HW⟩, ⟨H0, H1, H2, H3, H4, H5, H6⟩, H7⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The state after a point: the scratch at its block's rows, the ring as the point leaves it. -/
theorem PhiV_end (c : Dev nD) (t : Fin cfg0.N) :
    iprop(owns (c : Thread nD τ) scM0_0 fullShare (hAt l m c (t.val / 14)) ∗ (∃ r, prngReg c r) ∗ ringAt0_0 c (V m c main_arg0) (ringStep0_0 (t.val + 1)))
      ⊢ PhiV l m c (t.val + 1) := by
  unfold PhiV
  iintro ⟨HS, Hg, HR⟩
  isplitl [HS]
  · iexists _; isplitr
    · ipureintro; exact fun _ => by rw [Nat.add_sub_cancel]
    iexact HS
  isplitl [Hg]; · iexact Hg
  iexact HR

/-- What is left to give back once a point's run is over: the buffers come back as `post_intro` wants them. -/
theorem finish (c : Dev nD) (t : Fin cfg0.N) (o : Vec F S1x1088x1024 .bf16) (h : Vec F S1088x2048 .bf16) (ho : o = outAt l m c t)
    (hh : h = hAt l m c (t.val / 14)) :
    iprop(ringAt0_0 c (V m c main_arg0) (ringStep0_0 (t.val + 1)) ∗ (∃ r, prngReg c r) ∗ blocks l m c t ∗ owns (c : Thread nD τ) (ms0_7 l t) fullShare o
      ∗ owns (c : Thread nD τ) scM0_0 fullShare h ∗ (∃ W, owes (c : Thread nD τ) 0 W)) ⊢ bodyPost l m c t := by
  subst ho hh
  iintro ⟨HR, Hg, HI, HO, HS, HW⟩
  iapply (post_intro l m c t)
  isplitl [HR Hg HS]
  · iapply (PhiV_end l m c t)
    isplitl [HS]; · iexact HS
    isplitl [Hg]; · iexact Hg
    iexact HR
  isplitl [HW]; · iexact HW
  isplitl [HI]; · iexact HI
  iexact HO

/-- A point's own statement. -/
abbrev Sound (c : Dev nD) (t : Fin cfg0.N) : Prop :=
  bodyPre l m c t ⊢ wp frame (wpE (defs₀ (F := F)) Variants.none c none) Set.univ (bodyAt0 l t) (fun _ => bodyPost l m c t)

/-- A point that only multiplies: the scratch still holds its block's rows. -/
theorem sound_B (c : Dev nD) (t : Fin cfg0.N) (h1 : ¬t.val % 14 = 0) : Sound l m c t := by
  have hN : t.val < 224 := lt_of_lt_of_eq t.isLt (show cfg0.N = 224 from N_0)
  have c0 : ¬cond0_0 (grid0.coords t) := fun h => by have := (hcond0_0 t).mp h; omega
  have c1 : ¬cond0_1 (grid0.coords t) := fun h => h1 ((hcond0_1 t).mp h)
  have c3 : cond0_3 (grid0.coords t) := (hcond0_3 t).mpr (by omega)
  obtain ⟨hKs, -⟩ := rstep0_0_B t c0 c1 c3
  refine (pre_elim l m c t).trans ?_
  unfold PhiV bodyAt0
  iintro ⟨⟨⟨%d, %hd, HS⟩, Hg, HR⟩, ⟨%W, HW⟩, HI, HO⟩
  obtain rfl : d = hAt l m c (t.val / 14) := (hd (by omega)).trans (by rw [show (t.val - 1) / 14 = t.val / 14 by omega])
  iapply (run_B c t _ _ _ _ _ _ _ _ _ _ _ _ _ _ _ _ _ _ c0 c1 c3 (iblk l m c 0 t) (iblk l m c 1 t) (iblk l m c 2 t) (iblk l m c 3 t) (iblk l m c 4 t) (iblk l m c 5 t) (iblk l m c 6 t) _ W _)
  isplitl [HI]; · iexact HI
  isplitl [HO]; · iexact HO
  isplitl [HS]; · iexact HS
  isplitl [HW]; · iexact HW
  iintro ⟨HI, HO, HS, HW⟩
  iapply (finish l m c t _ _ (by unfold outAt; rw [if_neg h1]) rfl)
  rw [hKs]
  isplitl [HR]; · iexact HR
  isplitl [Hg]; · iexact Hg
  isplitl [HI]; · iexact HI
  isplitl [HO]; · iexact HO
  isplitl [HS]; · iexact HS
  iexact HW

/-- The first point: both slots free, it starts two transfers and waits for the first. -/
theorem sound_A (c : Dev nD) (t : Fin cfg0.N) (h : t.val = 0) : Sound l m c t := by
  have hN : t.val < 224 := lt_of_lt_of_eq t.isLt (show cfg0.N = 224 from N_0)
  have h1 : t.val % 14 = 0 := by omega
  have c0 : cond0_0 (grid0.coords t) := (hcond0_0 t).mpr (by omega)
  have c1 : cond0_1 (grid0.coords t) := (hcond0_1 t).mpr h1
  have c2 : cond0_2 (grid0.coords t) := (hcond0_2 t).mpr (by omega)
  have c3 : ¬cond0_3 (grid0.coords t) := fun h => by have := (hcond0_3 t).mp h; omega
  refine (pre_elim l m c t).trans ?_
  have hh := hid_eq l m c t h1
  have ho : k0_pay2 (hAt l m c (t.val / 14)) (iblk l m c 5 t) = outAt l m c t := by unfold outAt; rw [if_pos h1]
  have hF := finish l m c t _ _ ((congrArg (fun h => k0_pay2 h (iblk l m c 5 t)) hh).trans ho) hh
  unfold ringAt0_0 at hF
  unfold PhiV bodyAt0 ringAt0_0
  obtain ⟨hK, hK'⟩ := rstep0_0_A t c0 c1 c2 c3
  rw [show ringStep0_0 (t.val + 1) = ringStep0_0 t.val + 1 by omega] at hF
  rw [if_neg (show ¬ringStep0_0 t.val + 1 = 0 by omega), Ring.AtK2_one' _ _ _ _ _ (ringStep0_0 t.val) hK (by decide : 1 < 16)] at hF
  rw [if_pos hK, Ring.At₀_eq2' _ _ _ (ringStep0_0 t.val) hK (by decide : 2 ≤ 16)]
  iintro ⟨⟨⟨%d, -, HS⟩, Hg, ⟨-, HA, HB⟩⟩, ⟨%W, HW⟩, HI, HO⟩
  iapply (run_A c t _ _ _ _ _ _ _ _ _ _ _ _ _ _ _ _ _ _ c0 c1 c2 c3 (iblk l m c 0 t) (iblk l m c 1 t) (iblk l m c 2 t) (iblk l m c 3 t) (iblk l m c 4 t) (iblk l m c 5 t) (iblk l m c 6 t) (V m c main_arg0) W _)
  isplitl [HI]; · iexact HI
  isplitl [HO]; · iexact HO
  isplitl [HS]; · iexists _; iexact HS
  isplitl [HA]; · iexact HA
  isplitl [HB]; · iexact HB
  isplitl [HW]; · iexact HW
  iintro ⟨HI, HO, HS, HA, HB, HW⟩
  iapply hF
  isplitl [HA HB]
  · iapply Ring.with_homes₀
    isplitl [HA]; · iexact HA
    iexact HB
  isplitl [Hg]; · iexact Hg
  isplitl [HI]; · iexact HI
  isplitl [HO]; · iexact HO
  isplitl [HS]; · iexact HS
  iexact HW

/-- A later block's first point: its transfer is waited for, and the next block's started. -/
theorem sound_C (c : Dev nD) (t : Fin cfg0.N) (h : t.val % 14 = 0) (h0 : t.val ≠ 0) (h2 : t.val < 210) : Sound l m c t := by
  have hN : t.val < 224 := lt_of_lt_of_eq t.isLt (show cfg0.N = 224 from N_0)
  have h1 : t.val % 14 = 0 := by omega
  have c0 : ¬cond0_0 (grid0.coords t) := fun h => by have := (hcond0_0 t).mp h; omega
  have c1 : cond0_1 (grid0.coords t) := (hcond0_1 t).mpr h1
  have c2 : cond0_2 (grid0.coords t) := (hcond0_2 t).mpr (by omega)
  have c3 : ¬cond0_3 (grid0.coords t) := fun h => by have := (hcond0_3 t).mp h; omega
  refine (pre_elim l m c t).trans ?_
  have hh := hid_eq l m c t h1
  have ho : k0_pay2 (hAt l m c (t.val / 14)) (iblk l m c 5 t) = outAt l m c t := by unfold outAt; rw [if_pos h1]
  have hF := finish l m c t _ _ ((congrArg (fun h => k0_pay2 h (iblk l m c 5 t)) hh).trans ho) hh
  unfold ringAt0_0 at hF
  unfold PhiV bodyAt0 ringAt0_0
  obtain ⟨hK, hB, hs⟩ := rstep0_0_C t c0 c1 c2 c3
  rw [hs, if_neg (show ¬ringStep0_0 t.val + 1 = 0 by omega), Ring.AtK2_next _ _ _ _ _ (ringStep0_0 t.val) hK hB] at hF
  rw [if_neg (show ¬ringStep0_0 t.val = 0 by omega), Ring.AtK2_here _ _ _ _ _ (ringStep0_0 t.val) hK hB]
  iintro ⟨⟨⟨%d, -, HS⟩, Hg, ⟨-, HA, HB⟩⟩, ⟨%W, HW⟩, HI, HO⟩
  iapply (run_C c t _ _ _ _ _ _ _ _ _ _ _ _ _ _ _ _ _ _ c0 c1 c2 c3 (iblk l m c 0 t) (iblk l m c 1 t) (iblk l m c 2 t) (iblk l m c 3 t) (iblk l m c 4 t) (iblk l m c 5 t) (iblk l m c 6 t) (V m c main_arg0) W _)
  isplitl [HI]; · iexact HI
  isplitl [HO]; · iexact HO
  isplitl [HS]; · iexists _; iexact HS
  isplitl [HA]; · iexact HA
  isplitl [HB]; · iexact HB
  isplitl [HW]; · iexact HW
  iintro ⟨HI, HO, HS, HA, HB, HW⟩
  iapply hF
  isplitl [HA HB]
  · iapply (Ring.with_homes (Idealize.SL.BI.Entails.refl _))
    isplitl [HA]; · iexact HA
    iexact HB
  isplitl [Hg]; · iexact Hg
  isplitl [HI]; · iexact HI
  isplitl [HO]; · iexact HO
  isplitl [HS]; · iexact HS
  iexact HW

/-- The last block's first point: its transfer is waited for, and none is started. -/
theorem sound_D (c : Dev nD) (t : Fin cfg0.N) (h : t.val % 14 = 0) (h2 : ¬t.val < 210) : Sound l m c t := by
  have hN : t.val < 224 := lt_of_lt_of_eq t.isLt (show cfg0.N = 224 from N_0)
  have h1 : t.val % 14 = 0 := by omega
  have c0 : ¬cond0_0 (grid0.coords t) := fun h => by have := (hcond0_0 t).mp h; omega
  have c1 : cond0_1 (grid0.coords t) := (hcond0_1 t).mpr h1
  have c2 : ¬cond0_2 (grid0.coords t) := fun h => by have := (hcond0_2 t).mp h; omega
  have c3 : ¬cond0_3 (grid0.coords t) := fun h => by have := (hcond0_3 t).mp h; omega
  refine (pre_elim l m c t).trans ?_
  have hh := hid_eq l m c t h1
  have ho : k0_pay2 (hAt l m c (t.val / 14)) (iblk l m c 5 t) = outAt l m c t := by unfold outAt; rw [if_pos h1]
  have hF := finish l m c t _ _ ((congrArg (fun h => k0_pay2 h (iblk l m c 5 t)) hh).trans ho) hh
  unfold ringAt0_0 at hF
  unfold PhiV bodyAt0 ringAt0_0
  obtain ⟨hK, hB, hs⟩ := rstep0_0_D t c0 c1 c2 c3
  rw [hs, if_neg (show ¬ringStep0_0 t.val + 1 = 0 by omega), Ring.AtK2_next_last _ _ _ _ _ (ringStep0_0 t.val) hK hB] at hF
  rw [if_neg (show ¬ringStep0_0 t.val = 0 by omega), Ring.AtK2_here_last _ _ _ _ _ (ringStep0_0 t.val) hK hB]
  iintro ⟨⟨⟨%d, -, HS⟩, Hg, ⟨-, HA, HB⟩⟩, ⟨%W, HW⟩, HI, HO⟩
  iapply (run_D c t _ _ _ _ _ _ _ _ _ _ _ _ _ _ _ _ _ _ c0 c1 c2 c3 (iblk l m c 0 t) (iblk l m c 1 t) (iblk l m c 2 t) (iblk l m c 3 t) (iblk l m c 4 t) (iblk l m c 5 t) (iblk l m c 6 t) (V m c main_arg0) W _)
  isplitl [HI]; · iexact HI
  isplitl [HO]; · iexact HO
  isplitl [HS]; · iexists _; iexact HS
  isplitl [HA]; · iexact HA
  isplitl [HW]; · iexact HW
  iintro ⟨HI, HO, HS, HB', HW⟩
  iapply hF
  isplitl [HB HB']
  · iapply (Ring.with_homes (Idealize.SL.BI.Entails.refl _))
    isplitl [HB]; · iexact HB
    iexact HB'
  isplitl [Hg]; · iexact Hg
  isplitl [HI]; · iexact HI
  isplitl [HO]; · iexact HO
  isplitl [HS]; · iexact HS
  iexact HW

theorem sound (c : Dev nD) (t : Fin cfg0.N) : Sound l m c t := by
  by_cases h1 : t.val % 14 = 0
  · by_cases h0 : t.val = 0
    · exact sound_A l m c t h0
    · by_cases h2 : t.val < 210
      · exact sound_C l m c t h1 h0 h2
      · exact sound_D l m c t h1 h2
  · exact sound_B l m c t h1

end Cert.Kernel5Ideal.Hand

end
-- ==== Proof.InLaunch.lean ====
/- The input projection's whole run: its output is the blocks the points leave, its arguments are unchanged, and no
   counter is left standing. -/
module

public import proofs.«01_k».proof.Proof.InBody

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (l : Fin 4) (m : (ℓ : Loc nD τ sig) → Buf (Elt F) ℓ) (ρ : Dev nD → PrngReg)

/-- The body, as the launch calls it at point `t`. -/
theorem body_row (l : Fin 4) (t : Fin cfg0.N) : defs₀ (F := F) .tc (cfgL l).body ((cfgL l).bodyArgs t ((cfgL l).slots t)) = bodyAt0 l t := by
  unfold defs₀; rw [Defs.onTc_tc]

/-- Every point keeps the launch's contract. -/
theorem body_obligation (c : Dev nD) : BodyObligation (dats l m 0 c) (defs₀ (F := F)) Variants.none () Set.univ := fun t => by
  rw [bigSep_W0, bigSep_W0, body_row]
  exact triple_restated (sound l m c t) rfl .rfl fun _ => .rfl

/-- What the launch starts with is the state before the first point, -/
theorem hin (c : Dev nD) : Pipeline.ΦD osem0 spec0 H0 (V m) c ⊢ (dats l m 0 c).Φ 0 := by
  rw [PhiD0_eq, show (dats l m 0 c).Φ 0 = PhiV l m c 0 from rfl]
  unfold PhiV
  rw [show ringStep0_0 0 = 0 from rfl]
  iintro ⟨⟨⟨%d, HS⟩, HR⟩, Hg, ⟨HA, HB⟩, HX⟩
  isplitl [HS]
  · iexists d; isplitr
    · ipureintro; exact fun h => absurd rfl h
    iexact HS
  isplitl [Hg]; · iexact Hg
  iapply (ring0_0_in (F := F) m c)
  isplitl [HR]; · iexact HR
  isplitl [HA HB]
  · isplitl [HA]; · iexact HA
    iexact HB
  iexact HX

/-- and the state after the last is what the launch ends with. -/
theorem hout (c : Dev nD) : (dats l m 0 c).Φ (Fin.last (cfgL l).N) ⊢ Pipeline.ΦD osem0 spec0 H0 (V m) c := by
  rw [PhiD0_eq, show (dats l m 0 c).Φ (Fin.last (cfgL l).N) = PhiV l m c grid0.N from rfl]
  unfold PhiV
  rw [show ringStep0_0 grid0.N = 16 by rw [N_0]; rfl]
  iintro ⟨⟨%d, -, HS⟩, Hg, HR⟩
  ihave HX := (ring0_0_out (F := F) m c) $$ HR
  icases HX with ⟨HR, ⟨HA, HB⟩, HX⟩
  isplitl [HS HR]
  · isplitl [HS]; · iexists d; iexact HS
    iexact HR
  isplitl [Hg]; · iexact Hg
  isplitl [HA HB]
  · isplitl [HA]; · iexact HA
    iexact HB
  iexact HX

set_option backward.isDefEq.respectTransparency.types false in
/-- The launch as a whole. -/
theorem run_main : θ_run (defsL (F := F) l) (onTc (τ := τ) (mainL (F := F) l)) (s₀ m ρ) (fun r => Pipeline.FramePost (cfgsL l) (dats l m) 0 (V m) r ∧ r.2.sem = fun _ => 0) :=
  Pipeline.θ_run_frame_dma (Q' := _) (cfgsL l) (dats l m) (0 : Fin 1) (launchL l) osem0 defs₀ Variants.none ownSemFacts0 H0 H0_sub m ρ (mainL l)
    (hbody := fun c => (body_obligation l m c).loose) (hshare := fun c => (dats l m 0 c).share_full fun _ => rfl)
    (howed := fun _ _ => rfl) (V := V m) (hmain := hmainL l m Variants.none) (hA := A_eq l m) (hin := hin l m) (hout := hout l m)

/-- Its result: the blocks the points leave; its arguments: what they were; and no counter standing. -/
theorem run_blocks : θ_run (defsL (F := F) l) (onTc (τ := τ) (mainL (F := F) l)) ⟨m, fun _ => 0, ρ⟩ fun r => (∀ c : Dev nD,
      r.2.mem ((c.tc : Thread nD τ).loc main_v5) = (dats l m 0 c).arrAt 7 (cfgL l).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run (defsL (F := F) l) _ _).mono (fun r h => ⟨fun c => ⟨(h.1 c).1 7,
      ((h.1 c).2 main_arg0 (Pipeline.mem_restRefs_of main_arg0 (by decide) (by decide : ∀ w : Fin 8, (spec0 w).arr.view.ref ≠ main_arg0))).trans (V_main_arg0 m c),
      ((h.1 c).2 main_arg1 (Pipeline.mem_restRefs_of main_arg1 (by decide) (by decide : ∀ w : Fin 8, (spec0 w).arr.view.ref ≠ main_arg1))).trans (V_main_arg1 m c),
      ((h.1 c).2 main_arg2 (Pipeline.mem_restRefs_of main_arg2 (by decide) (by decide : ∀ w : Fin 8, (spec0 w).arr.view.ref ≠ main_arg2))).trans (V_main_arg2 m c),
      ((h.1 c).2 main_arg3 (Pipeline.mem_restRefs_of main_arg3 (by decide) (by decide : ∀ w : Fin 8, (spec0 w).arr.view.ref ≠ main_arg3))).trans (V_main_arg3 m c),
      ((h.1 c).2 main_arg4 (Pipeline.mem_restRefs_of main_arg4 (by decide) (by decide : ∀ w : Fin 8, (spec0 w).arr.view.ref ≠ main_arg4))).trans (V_main_arg4 m c),
      ((h.1 c).2 main_arg5 (Pipeline.mem_restRefs_of main_arg5 (by decide) (by decide : ∀ w : Fin 8, (spec0 w).arr.view.ref ≠ main_arg5))).trans (V_main_arg5 m c),
      ((h.1 c).1 5).trans (((dats l m 0 c).arrAt_in 5 rfl _).trans ((A_eq l m c 5).trans (V_main_arg6 m c))),
      ((h.1 c).1 6).trans (((dats l m 0 c).arrAt_in 6 rfl _).trans ((A_eq l m c 6).trans (V_main_arg7 m c)))⟩, h.2⟩)
    (run_main l m ρ)

end Cert.Kernel5Ideal.Hand

end
-- ==== Proof.InAny.lean ====
/- Any program whose windows are the input projection's at some layer, and whose body is its body, runs as it does. -/
module

public import proofs.«01_k».proof.Proof.InLaunch

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open Idealize.ShloMosaic.Pipeline (Cfg Window)

variable {F : FTy → Type} [FloatOps F]

/-- The body's label over the windows `win`: its argument is a point and a buffer of each. -/
abbrev LamOf (win : Fin 8 → Window sig grid0) : Labels :=
  ⟨Fin 1, fun | 0 => Fin grid0.N × ((w : Fin 8) → Fin (win w).nbuf) | ⟨_ + 1, h⟩ => absurd h (Nat.not_lt.2 (Nat.le_add_left _ _)), fun _ => PUnit⟩

/-- The launch on the windows `win`. -/
abbrev cfgOf (win : Fin 8 → Window sig grid0) : Cfg sig (LamOf win) where
  grid := grid0
  W := 8
  win := win
  body := 0
  bodyArgs t s := (t, s)
  idle := idle0

/-- A body over the labels `Λ`, on any buffers. -/
abbrev BodyOver (F : FTy → Type) (Λ : Labels) : Type _ :=
    (i : grid0.Coords) → (arg3 : Memref sig .tc .hbm S4x4352x2048 .f32) → (harg3 : arg3.IsWhole) → (arg4 : Memref sig .tc .vmem S1x2048 .f32) →
    (harg4 : arg4.IsWhole) → (arg5 : Memref sig .tc .vmem S1x1x2048 .f32) → (harg5 : arg5.IsWhole) → (arg6 : Memref sig .tc .vmem S1x1x2048 .f32) →
    (harg6 : arg6.IsWhole) → (arg7 : Memref sig .tc .vmem S1x2048 .f32) → (harg7 : arg7.IsWhole) → (arg8 : Memref sig .tc .vmem S1x2048 .f32) →
    (harg8 : arg8.IsWhole) → (arg9 : Memref sig .tc .vmem S1x1024x2048 .bf16) → (harg9 : arg9.IsWhole) → (arg10 : Memref sig .tc .vmem S1x1024x2048 .bf16) →
    (harg10 : arg10.IsWhole) → (arg11 : Memref sig .tc .vmem S1x1088x1024 .bf16) → (harg11 : arg11.IsWhole) → (arg12 : Memref sig .tc .vmem S1088x2048 .bf16) →
    (harg12 : arg12.IsWhole) → (arg13 : Memref sig .tc .vmem S2x1088x2048 .f32) → (harg13 : arg13.IsWhole) → (arg14 : DmaSems sig S2) →
    Prog (TpuEff nD τ sig (Elt F) Λ .tc) PUnit

/-- The table that runs the body `K` on the windows' buffers. -/
def tableOf (win : Fin 8 → Window sig grid0) (h : ∀ w, (win w).nbuf = (win0 w).nbuf) (K : BodyOver F (LamOf win)) : Defs nD τ sig (Elt F) (LamOf win) :=
  Defs.onTc fun
  | 0, (t, s) => K (grid0.coords t) (Memref.whole main_arg0) (Memref.isWhole_whole _) (win0_0.stage ((s 0).cast (h 0))) (hstage0_0 (((s 0).cast (h 0)).cast nbuf0_0)) (win0_1.stage ((s 1).cast (h 1))) (hstage0_1 (((s 1).cast (h 1)).cast nbuf0_1)) (win0_2.stage ((s 2).cast (h 2))) (hstage0_2 (((s 2).cast (h 2)).cast nbuf0_2)) (win0_3.stage ((s 3).cast (h 3))) (hstage0_3 (((s 3).cast (h 3)).cast nbuf0_3)) (win0_4.stage ((s 4).cast (h 4))) (hstage0_4 (((s 4).cast (h 4)).cast nbuf0_4)) (win0_5.stage ((s 5).cast (h 5))) (hstage0_5 (((s 5).cast (h 5)).cast nbuf0_5)) (win0_6.stage ((s 6).cast (h 6))) (hstage0_6 (((s 6).cast (h 6)).cast nbuf0_6)) (win0_7.stage ((s 7).cast (h 7))) (hstage0_7 (((s 7).cast (h 7)).cast nbuf0_7)) (Memref.whole cc0_scratch0) (Memref.isWhole_whole _) (Memref.whole cc0_scratch1) (Memref.isWhole_whole _) cc0_scratch2

theorem nbuf_of {l : Fin 4} {win : Fin 8 → Window sig grid0} (h : win = winL l) (w : Fin 8) : (win w).nbuf = (win0 w).nbuf := by subst h; rfl

theorem lamOf_eq {l : Fin 4} {win : Fin 8 → Window sig grid0} (h : win = winL l) : LamOf win = Λ₀ := by subst h; rfl

/-- The layer's own table is this one. -/
theorem tableOf_winL (l : Fin 4) (h) : tableOf (F := F) (winL l) h cc0_inproj = defs₀ := by
  refine congrArg Defs.onTc (funext fun ℓ => funext fun x => ?_)
  match ℓ, x with
  | ⟨0, _⟩, (_, _) => rfl

/-- How a run ends: the result is the blocks the points leave, the arguments are what they were, no counter stands. -/
def Ends (l : Fin 4) (m : (ℓ : Loc nD τ sig) → Buf (Elt F) ℓ) (r : PUnit × MemSt nD τ sig (Elt F)) : Prop :=
  (∀ c : Dev nD,
      r.2.mem ((c.tc : Thread nD τ).loc main_v5) = (dats l m 0 c).arrAt 7 (cfgL l).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0

theorem run_any (l : Fin 4) (m : (ℓ : Loc nD τ sig) → Buf (Elt F) ℓ) (ρ : Dev nD → PrngReg) (win : Fin 8 → Window sig grid0) (hw : win = winL l)
    (K : BodyOver F (LamOf win)) (hK : HEq K (cc0_inproj (F := F)))
    (M : Dev nD → Prog (TpuEff nD τ sig (Elt F) (Pipeline.Sig (LamOf win) (Fin 1) fun _ => ((cfgOf win).toPCfg (Val := Elt F)).Adm) .tc) PUnit)
    (hM : ∀ c, M c = Pipeline.chain [StableHlo.seq hostOps0, Prog.lift (.customCall (Pipeline.entry 0) ())]) :
    θ_run (Pipeline.defs (fun _ : Fin 1 => (cfgOf win).toPCfg) (tableOf win (nbuf_of hw) K)) (onTc (τ := τ) M) ⟨m, fun _ => 0, ρ⟩ (Ends l m) := by
  subst hw
  obtain rfl : K = cc0_inproj := eq_of_heq hK
  obtain rfl : M = mainL l := funext hM
  rw [tableOf_winL]
  exact run_blocks l m ρ

end Cert.Kernel5Ideal.Hand

end
-- ==== Proof.InLayer.lean ====
/- The input projection on arrays read at natural coordinates: the modulated row and the columns of the two weight arrays. -/
module

public import proofs.«01_k».proof.Proof.Layer

@[expose] public section

noncomputable section

namespace Cert.Mla

open Idealize.ShloMosaic Idealize.ShloMosaic.ValueIdx
open scoped BigOperators

/-- A normalised entry scaled by one plus `s` and shifted by `h`. -/
def shifted (x : ℕ → EReal) (g s h : EReal) (d : ℕ) : EReal :=
  normed x g d * (Ideal.ofBits .f32 0x3F800000#32 + s) + h

/-- Row `t` of batch `b`, normalised and modulated: the first 256 rows are the context's. -/
def modulated (x : (⟨3, ![4, 4352, 2048]⟩ : Shape).Idx → EReal) (g : (⟨1, ![2048]⟩ : Shape).Idx → EReal)
    (sl hl : (⟨2, ![4, 2048]⟩ : Shape).Idx → EReal) (sc hc : (⟨1, ![2048]⟩ : Shape).Idx → EReal) (b t d : ℕ) : EReal :=
  shifted (fun k => get x b t k) (get1 g d) (if t < 256 then get1 sc d else get2 sl b d) (if t < 256 then get1 hc d else get2 hl b d) d

/-- Row `n` of layer `l`'s two weight arrays, one after the other. -/
def column (l : ℕ) (wm : (⟨3, ![4, 1024, 2048]⟩ : Shape).Idx → EReal) (wr : (⟨3, ![4, 13312, 2048]⟩ : Shape).Idx → EReal) (n k : ℕ) : EReal :=
  if n < 1024 then get wm l n k else get wr l (n - 1024) k

/-- The input projection at layer `l`. -/
def inproj (l : ℕ) (x : (⟨3, ![4, 4352, 2048]⟩ : Shape).Idx → EReal) (g : (⟨1, ![2048]⟩ : Shape).Idx → EReal)
    (sl hl : (⟨2, ![4, 2048]⟩ : Shape).Idx → EReal) (sc hc : (⟨1, ![2048]⟩ : Shape).Idx → EReal)
    (wm : (⟨3, ![4, 1024, 2048]⟩ : Shape).Idx → EReal) (wr : (⟨3, ![4, 13312, 2048]⟩ : Shape).Idx → EReal) (b t n : ℕ) : EReal :=
  ∑ k : Fin 2048, modulated x g sl hl sc hc b t k.val * column l wm wr n k.val

end Cert.Mla

end
-- ==== Proof.InValue.lean ====
/- The input projection's kernel on one block, entry by entry: the rows it keeps and the columns it multiplies them by. -/
module

public import proofs.«01_k».proof.Proof.InLayer
public import proofs.«01_k».proof.Proof.InRows
public import Idealize.ShloMosaic.Lib.ValueLayout
public import Idealize.ShloMosaic.Lib.MatmulPlain
public import Idealize.ShloMosaic.Lib.KernelVsHost
public import Idealize.ShloMosaic.Lib.WordCmp

@[expose] public section

noncomputable section

namespace Cert.Kernel5Ideal.Hand

open Cert.Kernel5Ideal Cert.Kernel5Ideal.Gen Idealize.ShloMosaic Idealize.ShloMosaic.ValueIdx
open Cert.Mla
open scoped BigOperators

/-- A row's position among its batch's rows, compared with 256 as a word. -/
theorem below (n r : ℕ) (hn : n < 4) (hr : r < 1088) :
    IntOp.cmpi .slt (IntOp.addi (Scalar.muli (BitVec.ofNat 32 n) 1088#32) (BitVec.ofNat 32 r)) 256#32
      = if 1088 * n + r < 256 then 1#1 else 0#1 := by
  have e : IntOp.addi (Scalar.muli (BitVec.ofNat 32 n) 1088#32) (BitVec.ofNat 32 r) = BitVec.ofNat 32 (1088 * n + r) := by
    show BitVec.ofNat 32 n * 1088#32 + BitVec.ofNat 32 r = _
    apply BitVec.eq_of_toNat_eq
    simp [BitVec.toNat_add, BitVec.toNat_mul]
    omega
  rw [e, show (256#32 : BitVec 32) = BitVec.ofNat 32 256 from rfl, WordCmp.cmpi_slt_ofNat (by omega) (by omega)]
  by_cases h : 1088 * n + r < 256 <;> simp [h]

/-- The word that says a row is the context's, at every entry of the row. -/
abbrev mask (n : ℕ) : IVec S1088x1 1 :=
  cmpi .slt (addi (broadcast S1088x1 (Scalar.muli (BitVec.ofNat 32 n) 1088#32)) (iota .tc S1088x1 32 [0] iota_S1088x1_d0_w32))
    (broadcast S1088x1 256#32)

theorem mask_apply (n : ℕ) (hn : n < 4) (r : Fin 1088) (d : Fin 2048) :
    (broadcastTo S1088x2048 (shapeCast S1088x1 (mask n) shapeCasts_S1088x1_S1088x1) broadcasts_S1088x1_S1088x2048 : IVec S1088x2048 1) (ix2 r d)
      = if 1088 * n + r.val < 256 then 1#1 else 0#1 := by
  refine (broadcastTo_apply _ _ (ix2 r d) (ix2 r (0 : Fin 1)) ?_).trans ?_
  · intro a
    match a with
    | ⟨0, _⟩ => rfl
    | ⟨1, _⟩ => rfl
  · refine (shapeCast_apply _ _ _ (ix2 r (0 : Fin 1)) (by rfl)).trans ?_
    refine Eq.trans ?_ (below n r.val hn r.isLt)
    show IntOp.cmpi .slt (IntOp.addi _ (iota .tc S1088x1 32 [0] iota_S1088x1_d0_w32 (ix2 r (0 : Fin 1)))) _ = _
    rw [WordCmp.iota_at]
    simp
    rfl

/-- The context's row where the mask holds, the latent's elsewhere. -/
theorem choose_apply (n : ℕ) (hn : n < 4) (u : Vec Ideal S1x2048 .f32) (v : Vec Ideal S1x1x2048 .f32) (r : Fin 1088) (d : Fin 2048) :
    (select (broadcastTo S1088x2048 (shapeCast S1088x1 (mask n) shapeCasts_S1088x1_S1088x1) broadcasts_S1088x1_S1088x2048)
      (broadcastTo S1088x2048 (shapeCast S1x2048 (shapeCast S1x2048 u shapeCasts_S1x2048_S1x2048) shapeCasts_S1x2048_S1x2048) broadcasts_S1x2048_S1088x2048)
      (broadcastTo S1088x2048 (shapeCast S1x2048 (shapeCast S1x2048 v shapeCasts_S1x1x2048_S1x2048) shapeCasts_S1x2048_S1x2048) broadcasts_S1x2048_S1088x2048)
        : FVec Ideal S1088x2048 .f32) (ix2 r d)
      = if 1088 * n + r.val < 256 then get2 u 0 d.val else get v 0 0 d.val := by
  rw [select_apply, broadcastTo_1b_ab_apply, broadcastTo_1b_ab_apply, mask_apply n hn]
  have g : (shapeCast S1x2048 (shapeCast S1x2048 u shapeCasts_S1x2048_S1x2048) shapeCasts_S1x2048_S1x2048 : FVec Ideal S1x2048 .f32)
      (ix2 (0 : Fin 1) d) = get2 u 0 d.val :=
    (shapeCast_apply _ _ _ (ix2 (0 : Fin 1) d) (by rfl)).trans
      ((shapeCast_apply _ _ _ (ix2 (0 : Fin 1) d) (by rfl)).trans (get2_ix2 u _ _))
  have g' : (shapeCast S1x2048 (shapeCast S1x2048 v shapeCasts_S1x1x2048_S1x2048) shapeCasts_S1x2048_S1x2048 : FVec Ideal S1x2048 .f32)
      (ix2 (0 : Fin 1) d) = get v 0 0 d.val :=
    (shapeCast_apply _ _ _ (ix2 (0 : Fin 1) d) (by rfl)).trans
      ((shapeCast_1ab_ab_apply v _ (0 : Fin 1) d).trans (get_ix3 v _ _ _))
  refine (congrArg₂ (Scalar.select _) g g').trans ?_
  by_cases h : 1088 * n + r.val < 256 <;> simp [h, Scalar.select]

/-- The sum of a row's squares. -/
theorem squares_apply (x : Vec Ideal S1x1088x2048 .f32) (r : Fin 1088) :
    k0_pay6 (F := Ideal) x (ix2 r (0 : Fin 1)) = ∑ k : Fin 2048, get x 0 r.val k.val * get x 0 r.val k.val := by
  have hr : S1088x2048.Reduces [1] S1088 := by decide
  unfold k0_pay6 k0_pay4
  dsimp only
  refine (shapeCast_apply _ _ _ (ix1 r) (by rfl)).trans ?_
  refine (Ideal.multiReduction_add_single _ _ hr _ _ (ix1 r)).trans ?_
  refine Finset.sum_congr rfl fun (k : Fin 2048) _ => ?_
  have e : hr.lift (ix1 r) k = ix2 r k := by
    funext a
    match a with
    | ⟨0, _⟩ => rfl
    | ⟨1, _⟩ => rfl
  have hx : (shapeCast S1088x2048 x shapeCasts_S1x1088x2048_S1088x2048 : FVec Ideal S1088x2048 .f32) (ix2 r k) = get x 0 r.val k.val :=
    (shapeCast_1ab_ab_apply x _ r k).trans (get_ix3 x _ _ _)
  exact congrArg₂ (· * ·) ((congrArg _ e).trans hx) ((congrArg _ e).trans hx)

/-- The rows a block leaves in scratch. -/
theorem hid_apply (i : grid0.Coords) (x : Vec Ideal S1x1088x2048 .f32) (x0 : Vec Ideal S1x2048 .f32) (x1 x2 : Vec Ideal S1x1x2048 .f32)
    (x3 x4 : Vec Ideal S1x2048 .f32) (r : Fin 1088) (d : Fin 2048) :
    hid (F := Ideal) i x x0 x1 x2 x3 x4 (ix2 r d) = shifted (fun k => get x 0 r.val k) (get2 x0 0 d.val)
      (if 1088 * (i 1).val + r.val < 256 then get2 x3 0 d.val else get x1 0 0 d.val)
      (if 1088 * (i 1).val + r.val < 256 then get2 x4 0 d.val else get x2 0 0 d.val) d.val := by
  have hi : (i 1).val < 4 := (i 1).isLt
  unfold hid k0_pay1 k0_pay7
  dsimp only
  refine (shapeCast_apply _ _ _ (ix2 r d) (by rfl)).trans ?_
  show (addf _ _ : FVec Ideal S1088x2048 .f32) (ix2 r d) = _
  unfold shifted normed
  rw [addf_apply, mulf_apply, mulf_apply, mulf_apply, addf_apply]
  refine congrArg₂ (· + ·) (congrArg₂ (· * ·) (congrArg₂ (· * ·) (congrArg₂ (· * ·) ?_ ?_) ?_) (congrArg₂ (· + ·) rfl ?_)) ?_
  · unfold k0_pay4
    exact (shapeCast_1ab_ab_apply x _ r d).trans (get_ix3 x _ _ _)
  · refine (broadcastTo_apply _ _ (ix2 r d) (ix2 r (0 : Fin 1)) ?_).trans ?_
    · intro a
      match a with
      | ⟨0, _⟩ => rfl
      | ⟨1, _⟩ => rfl
    · exact congrArg Ideal.rsqrt (congrArg₂ (· + ·) (congrArg₂ Ideal.div (squares_apply x r) rfl) rfl)
  · refine (broadcastTo_1b_ab_apply _ _ r d).trans ?_
    unfold k0_pay5
    exact (shapeCast_apply _ _ _ (ix2 (0 : Fin 1) d) (by rfl)).trans (get2_ix2 x0 _ _)
  · exact choose_apply (i 1).val hi x3 x1 r d
  · exact choose_apply (i 1).val hi x4 x2 r d

/-- A block of columns, from either weight array. -/
theorem pay2_apply (h : Vec Ideal S1088x2048 .bf16) (w : Vec Ideal S1x1024x2048 .bf16) (r : Fin 1088) (n : Fin 1024) :
    k0_pay2 (F := Ideal) h w (ix3 (0 : Fin 1) r n) = ∑ k : Fin 2048, h (ix2 r k) * get w 0 n.val k.val := by
  unfold k0_pay2
  refine (shapeCast_ab_1ab_apply _ _ (0 : Fin 1) r n).trans ?_
  refine (Ideal.matmul_transposedRhs_apply (φ₁ := .bf16) (φ₂ := .bf16) none h (shapeCast S1024x2048 w shapeCasts_S1x1024x2048_S1024x2048) (constant S1088x1024 .f32 0x00000000#32) r n).trans ?_
  rw [constant_apply, Ideal.ofBits_zero_f32, zero_add]
  refine Finset.sum_congr rfl fun k _ => congrArg₂ (· * ·) rfl ?_
  rw [shapeCast_1ab_ab_apply]
  exact get_ix3 w _ _ _

theorem pay3_apply (h : Vec Ideal S1088x2048 .bf16) (w : Vec Ideal S1x1024x2048 .bf16) (r : Fin 1088) (n : Fin 1024) :
    k0_pay3 (F := Ideal) h w (ix3 (0 : Fin 1) r n) = ∑ k : Fin 2048, h (ix2 r k) * get w 0 n.val k.val := pay2_apply h w r n

end Cert.Kernel5Ideal.Hand

end
-- ==== Proof.InArray.lean ====
/- The input projection's kernel: what one grid point leaves, and the whole result array. -/
module

public import proofs.«01_k».proof.Proof.InLaunch
public import proofs.«01_k».proof.Proof.InValue
public import Idealize.ShloMosaic.Lib.Pipeline.ValueKit

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.Mla
open Idealize.ShloMosaic.Pipeline (Dat)
open scoped BigOperators

variable (l : Fin 4) (m : (ℓ : Loc nD τ sig) → Buf (Elt Ideal) ℓ)

/-- The block indices of the windows at a point, and its block of rows. -/
theorem idx_winL : ∀ (l : Fin 4) (t : Fin cfg0.N),
    ((winL l 0).index t = ![0, 0] ∧ (winL l 1).index t = ![t.val / 56, 0, 0] ∧ (winL l 2).index t = ![t.val / 56, 0, 0])
    ∧ ((winL l 3).index t = ![0, 0] ∧ (winL l 4).index t = ![0, 0] ∧ (winL l 5).index t = ![l.val, 0, 0])
    ∧ (winL l 6).index t = ![l.val, t.val % 14 - 1, 0] ∧ (winL l 7).index t = ![t.val / 56, t.val / 14 % 4, t.val % 14]
    ∧ (grid0.coords t 1).val = t.val / 14 % 4 :=
  (by decide +kernel : ∀ (l : Fin 4) (t : Fin grid0.N), _)
theorem idx : ∀ (l : Fin 4) (t : Fin cfg0.N),
    (((cfgL l).win 0).index t = ![0, 0] ∧ ((cfgL l).win 1).index t = ![t.val / 56, 0, 0] ∧ ((cfgL l).win 2).index t = ![t.val / 56, 0, 0])
    ∧ (((cfgL l).win 3).index t = ![0, 0] ∧ ((cfgL l).win 4).index t = ![0, 0] ∧ ((cfgL l).win 5).index t = ![l.val, 0, 0])
    ∧ ((cfgL l).win 6).index t = ![l.val, t.val % 14 - 1, 0] ∧ ((cfgL l).win 7).index t = ![t.val / 56, t.val / 14 % 4, t.val % 14]
    ∧ (grid0.coords t 1).val = t.val / 14 % 4 :=
  idx_winL

/-- The eight argument arrays. -/
abbrev X (c : Dev nD) : Vec Ideal S4x4352x2048 .f32 := m ((c : Thread nD τ).loc main_arg0)
abbrev GN (c : Dev nD) : Vec Ideal S2048 .f32 := m ((c : Thread nD τ).loc main_arg1)
abbrev SL (c : Dev nD) : Vec Ideal S4x2048 .f32 := m ((c : Thread nD τ).loc main_arg2)
abbrev HL (c : Dev nD) : Vec Ideal S4x2048 .f32 := m ((c : Thread nD τ).loc main_arg3)
abbrev SC (c : Dev nD) : Vec Ideal S2048 .f32 := m ((c : Thread nD τ).loc main_arg4)
abbrev HC (c : Dev nD) : Vec Ideal S2048 .f32 := m ((c : Thread nD τ).loc main_arg5)
abbrev WM (c : Dev nD) : Vec Ideal S4x1024x2048 .bf16 := m ((c : Thread nD τ).loc main_arg6)
abbrev WR (c : Dev nD) : Vec Ideal S4x13312x2048 .bf16 := m ((c : Thread nD τ).loc main_arg7)

/-- The arrays the host leaves before the launch: the gain and the modulations with an axis of one. -/
theorem V_g (c : Dev nD) : (V m c main_v0 : Vec Ideal S1x2048 .f32) = broadcastInDim S1x2048 ![1] bcast_S2048_S1x2048_1 (GN m c) := by
  unfold V hostOps0
  after_results_simp <;> rfl
theorem V_sl (c : Dev nD) : (V m c main_v1 : Vec Ideal S4x1x2048 .f32) = broadcastInDim S4x1x2048 ![0, 2] bcast_S4x2048_S4x1x2048_0_2 (SL m c) := by
  unfold V hostOps0
  after_results_simp <;> rfl
theorem V_hl (c : Dev nD) : (V m c main_v2 : Vec Ideal S4x1x2048 .f32) = broadcastInDim S4x1x2048 ![0, 2] bcast_S4x2048_S4x1x2048_0_2 (HL m c) := by
  unfold V hostOps0
  after_results_simp <;> rfl
theorem V_sc (c : Dev nD) : (V m c main_v3 : Vec Ideal S1x2048 .f32) = broadcastInDim S1x2048 ![1] bcast_S2048_S1x2048_1 (SC m c) := by
  unfold V hostOps0
  after_results_simp <;> rfl
theorem V_hc (c : Dev nD) : (V m c main_v4 : Vec Ideal S1x2048 .f32) = broadcastInDim S1x2048 ![1] bcast_S2048_S1x2048_1 (HC m c) := by
  unfold V hostOps0
  after_results_simp <;> rfl

/-- A vector given a first axis of one. -/
theorem lead (g : Vec Ideal S2048 .f32) (i : S1x2048.Idx) (d : ℕ) (h : (i 1).val = d) :
    (broadcastInDim S1x2048 ![1] bcast_S2048_S1x2048_1 g : Vec Ideal S1x2048 .f32) i = get1 g d := by
  refine (broadcastInDim_apply ![1] _ g i (ValueIdx.ix1 (n := 2048) (i 1)) ?_).trans (get1_eq g _ _ h)
  intro a
  match a with
  | ⟨0, _⟩ => rfl

/-- A matrix given a middle axis of one. -/
theorem mid (g : Vec Ideal S4x2048 .f32) (i : S4x1x2048.Idx) (b d : ℕ) (h0 : (i 0).val = b) (h : (i 2).val = d) :
    (broadcastInDim S4x1x2048 ![0, 2] bcast_S4x2048_S4x1x2048_0_2 g : Vec Ideal S4x1x2048 .f32) i = get2 g b d := by
  refine (broadcastInDim_apply ![0, 2] _ g i (ValueIdx.ix2 (n0 := 4) (n1 := 2048) (i 0) (i 2)) ?_).trans (get2_eq g _ _ _ h0 h)
  intro a
  match a with
  | ⟨0, _⟩ => rfl
  | ⟨1, _⟩ => rfl

theorem blk0 (c : Dev nD) (t : Fin cfg0.N) (d : ℕ) (hl : d < 2048) :
    get2 (iblk l m c 0 t : Vec Ideal S1x2048 .f32) 0 d = get1 (GN m c) d := by
  obtain ⟨⟨e0, e1, e2⟩, ⟨e3, e4, e5⟩, e6, e7, -⟩ := idx l t
  unfold Mla.get2
  rw [dif_pos ⟨by norm_num, hl⟩]
  refine (congrFun (V_g m c) ((((cfgL l).win 0).blk t).view.emb _)).trans ?_
  refine lead (GN m c) _ d ?_
  blk_simp [e0] <;> simp

theorem blk3 (c : Dev nD) (t : Fin cfg0.N) (d : ℕ) (hl : d < 2048) :
    get2 (iblk l m c 3 t : Vec Ideal S1x2048 .f32) 0 d = get1 (SC m c) d := by
  obtain ⟨⟨e0, e1, e2⟩, ⟨e3, e4, e5⟩, e6, e7, -⟩ := idx l t
  unfold Mla.get2
  rw [dif_pos ⟨by norm_num, hl⟩]
  refine (congrFun (V_sc m c) ((((cfgL l).win 3).blk t).view.emb _)).trans ?_
  refine lead (SC m c) _ d ?_
  blk_simp [e3] <;> simp

theorem blk4 (c : Dev nD) (t : Fin cfg0.N) (d : ℕ) (hl : d < 2048) :
    get2 (iblk l m c 4 t : Vec Ideal S1x2048 .f32) 0 d = get1 (HC m c) d := by
  obtain ⟨⟨e0, e1, e2⟩, ⟨e3, e4, e5⟩, e6, e7, -⟩ := idx l t
  unfold Mla.get2
  rw [dif_pos ⟨by norm_num, hl⟩]
  refine (congrFun (V_hc m c) ((((cfgL l).win 4).blk t).view.emb _)).trans ?_
  refine lead (HC m c) _ d ?_
  blk_simp [e4] <;> simp

theorem blk1 (c : Dev nD) (t : Fin cfg0.N) (d : ℕ) (hl : d < 2048) :
    get (iblk l m c 1 t : Vec Ideal S1x1x2048 .f32) 0 0 d = get2 (SL m c) (t.val / 56) d := by
  obtain ⟨⟨e0, e1, e2⟩, ⟨e3, e4, e5⟩, e6, e7, -⟩ := idx l t
  unfold Mla.get
  rw [dif_pos ⟨by norm_num, by norm_num, hl⟩]
  refine (congrFun (V_sl m c) ((((cfgL l).win 1).blk t).view.emb _)).trans ?_
  refine mid (SL m c) _ _ _ ?_ ?_ <;> blk_simp [e1] <;> simp

theorem blk2 (c : Dev nD) (t : Fin cfg0.N) (d : ℕ) (hl : d < 2048) :
    get (iblk l m c 2 t : Vec Ideal S1x1x2048 .f32) 0 0 d = get2 (HL m c) (t.val / 56) d := by
  obtain ⟨⟨e0, e1, e2⟩, ⟨e3, e4, e5⟩, e6, e7, -⟩ := idx l t
  unfold Mla.get
  rw [dif_pos ⟨by norm_num, by norm_num, hl⟩]
  refine (congrFun (V_hl m c) ((((cfgL l).win 2).blk t).view.emb _)).trans ?_
  refine mid (HL m c) _ _ _ ?_ ?_ <;> blk_simp [e2] <;> simp

theorem blk5 (c : Dev nD) (t : Fin cfg0.N) (n d : ℕ) (hn : n < 1024) (hl : d < 2048) :
    get (iblk l m c 5 t : Vec Ideal S1x1024x2048 .bf16) 0 n d = get (WM m c) l.val n d := by
  obtain ⟨⟨e0, e1, e2⟩, ⟨e3, e4, e5⟩, e6, e7, -⟩ := idx l t
  unfold Mla.get
  rw [dif_pos ⟨by norm_num, hn, hl⟩]
  refine (congrFun (V_main_arg6 m c) ((((cfgL l).win 5).blk t).view.emb _)).trans ?_
  refine get_eq (WM m c) ((((cfgL l).win 5).blk t).view.emb _) _ _ _ ?_ ?_ ?_ <;> blk_simp [e5] <;> simp

theorem blk6 (c : Dev nD) (t : Fin cfg0.N) (n d : ℕ) (hn : n < 1024) (hl : d < 2048) :
    get (iblk l m c 6 t : Vec Ideal S1x1024x2048 .bf16) 0 n d = get (WR m c) l.val (1024 * (t.val % 14 - 1) + n) d := by
  obtain ⟨⟨e0, e1, e2⟩, ⟨e3, e4, e5⟩, e6, e7, -⟩ := idx l t
  unfold Mla.get
  rw [dif_pos ⟨by norm_num, hn, hl⟩]
  refine (congrFun (V_main_arg7 m c) ((((cfgL l).win 6).blk t).view.emb _)).trans ?_
  refine get_eq (WR m c) ((((cfgL l).win 6).blk t).view.emb _) _ _ _ ?_ ?_ ?_ <;> blk_simp [e6] <;> simp <;> omega

/-- A block of rows is rows of its batch. -/
theorem rows_apply (c : Dev nD) (b : Fin 16) (r d : ℕ) (hr : r < 1088) (hl : d < 2048) :
    get (rows c (V m c main_arg0) b : Vec Ideal S1x1088x2048 .f32) 0 r d = get (X m c) (b.val / 4) (1088 * (b.val % 4) + r) d := by
  unfold Mla.get
  rw [dif_pos ⟨by norm_num, hr, hl⟩]
  unfold rows
  refine (congrFun (V_main_arg0 m c) _).trans ?_
  refine get_eq (X m c) _ _ _ _ ?_ ?_ ?_
  · show b.val / 4 + 1 * 0 = b.val / 4
    omega
  · show 1088 * (b.val % 4) + 1 * r = 1088 * (b.val % 4) + r
    omega
  · show 0 + 1 * d = d
    omega

/-- The same past the end of a row, where both sides are zero. -/
theorem rows_full (c : Dev nD) (b : Fin 16) (r d : ℕ) (hr : r < 1088) :
    get (rows c (V m c main_arg0) b : Vec Ideal S1x1088x2048 .f32) 0 r d = get (X m c) (b.val / 4) (1088 * (b.val % 4) + r) d := by
  by_cases hl : d < 2048
  · exact rows_apply m c b r d hr hl
  · unfold Mla.get
    rw [dif_neg fun h => hl h.2.2, dif_neg fun h => hl h.2.2]

/-- The rows kept in scratch while block `b` is multiplied. -/
theorem kept (c : Dev nD) (b : ℕ) (hb : b < 16) (r : Fin 1088) (d : Fin 2048) :
    hAt l m c b (ValueIdx.ix2 r d) = modulated (X m c) (GN m c) (SL m c) (HL m c) (SC m c) (HC m c) (b / 4) (1088 * (b % 4) + r.val) d.val := by
  have hd := d.isLt
  have hs : (start b).val = 14 * b := Nat.mod_eq_of_lt (by omega)
  have hk : (Ring.bk 16 b).val = b := Nat.mod_eq_of_lt hb
  obtain ⟨-, -, -, -, e⟩ := idx l (start b)
  have hc : (grid0.coords (start b) 1).val = b % 4 := by rw [e, hs]; omega
  unfold hAt
  refine (hid_apply _ _ _ _ _ _ _ r d).trans ?_
  unfold modulated
  rw [hc, blk0 l m c _ _ hd, blk1 l m c _ _ hd, blk2 l m c _ _ hd, blk3 l m c _ _ hd, blk4 l m c _ _ hd, hs, show 14 * b / 56 = b / 4 by omega]
  refine congrArg (fun x => shifted x _ _ _ _) (funext fun k => ?_)
  have hr := rows_full m c (Ring.bk 16 b) r.val k r.isLt
  rwa [hk] at hr

/-- What a point leaves in the output block. -/
theorem point (c : Dev nD) (t : Fin cfg0.N) (r : Fin 1088) (n : Fin 1024) :
    outAt l m c t (ValueIdx.ix3 (0 : Fin 1) r n) = inproj l.val (X m c) (GN m c) (SL m c) (HL m c) (SC m c) (HC m c) (WM m c) (WR m c)
      (t.val / 56) (1088 * (t.val / 14 % 4) + r.val) (1024 * (t.val % 14) + n.val) := by
  have hn := n.isLt
  have ht : t.val < 224 := t.isLt
  have hrow : ∀ k : Fin 2048, hAt l m c (t.val / 14) (ValueIdx.ix2 r k) = modulated (X m c) (GN m c) (SL m c) (HL m c) (SC m c) (HC m c)
      (t.val / 56) (1088 * (t.val / 14 % 4) + r.val) k.val := fun k => by
    rw [kept l m c _ (by omega), Nat.div_div_eq_div_mul]
  unfold outAt inproj column
  by_cases h : t.val % 14 = 0
  · rw [if_pos h, pay2_apply]
    refine Finset.sum_congr rfl fun k _ => congrArg₂ (· * ·) (hrow k) ?_
    rw [blk5 l m c t _ _ hn k.isLt, if_pos (by omega), h]
    simp
  · rw [if_neg h, pay3_apply]
    refine Finset.sum_congr rfl fun k _ => congrArg₂ (· * ·) (hrow k) ?_
    rw [blk6 l m c t _ _ hn k.isLt, if_neg (by omega), show 1024 * (t.val % 14) + n.val - 1024 = 1024 * (t.val % 14 - 1) + n.val by omega]

/-- The result array. -/
def G (c : Dev nD) : Vec Ideal S4x4352x14336 .bf16 := fun i =>
  inproj l.val (X m c) (GN m c) (SL m c) (HL m c) (SC m c) (HC m c) (WM m c) (WR m c) (i 0).val (i 1).val (i 2).val

theorem final (c : Dev nD) : (dats l m 0 c).arrAt 7 (cfgL l).N = G l m c := by
  refine (dats l m 0 c).arrAt_eq_of_covers 7 _ ((by decide +kernel : ∀ l : Fin 4, ((cfgL l).win 7).Covers) l) fun t hf (y : S1x1088x1024.Idx) => ?_
  obtain ⟨-, -, -, e7, -⟩ := idx l t
  have y0 : (y 0).val < 1 := (y 0).isLt
  have hG : G l m c ((((cfgL l).win 7).blk t).view.emb y) = inproj l.val (X m c) (GN m c) (SL m c) (HL m c) (SC m c) (HC m c) (WM m c) (WR m c)
      (t.val / 56) (1088 * (t.val / 14 % 4) + (y 1).val) (1024 * (t.val % 14) + (y 2).val) := by
    show inproj _ _ _ _ _ _ _ _ _ _ _ _ = _
    congr 1 <;> blk_simp [e7] <;> simp <;> omega
  refine Eq.trans ?_ hG.symm
  blk_simp
  rw [after0_7]
  refine Eq.trans ?_ (point l m c t (y 1) (y 2))
  refine congrArg _ ?_
  refine (ValueIdx.eq_ix3 (n0 := 1) (n1 := 1088) (n2 := 1024) y).trans ?_
  exact congrArg (fun z => ValueIdx.ix3 (n0 := 1) (n1 := 1088) (n2 := 1024) z (y 1) (y 2)) (Subsingleton.elim (α := Fin 1) _ _)

end Cert.Kernel5Ideal.Hand

end
-- ==== Proof.RefInproj.lean ====
/- What the input projection's reference computes: each entry is a modulated row times a weight row. -/
module

public import proofs.«01_k».proof.Proof.InLayer
public import proofs.«01_k».proof.Proof.Gen.Reference5Ideal.Read

@[expose] public section

noncomputable section

namespace Cert.Reference5Ideal.Hand

open Idealize.ShloMosaic Idealize.ShloMosaic.ValueIdx Cert.Mla Cert.Reference5Ideal Cert.Reference5Ideal.Read
open scoped BigOperators

variable (x0 : (⟨3, ![4, 4352, 2048]⟩ : Shape).Idx → EReal) (x1 : (⟨1, ![2048]⟩ : Shape).Idx → EReal)
  (x2 x3 : (⟨2, ![4, 2048]⟩ : Shape).Idx → EReal) (x4 x5 : (⟨1, ![2048]⟩ : Shape).Idx → EReal)
  (x6 : (⟨3, ![4, 1024, 2048]⟩ : Shape).Idx → EReal) (x7 : (⟨3, ![4, 13312, 2048]⟩ : Shape).Idx → EReal)

/-- The context's rows. -/
theorem context (i : S4x256x2048.Idx) : val_main_v21 (F := Ideal) x0 x1 x4 x5 i
    = modulated x0 x1 x2 x3 x4 x5 (i 0).val (i 1).val (i 2).val := by
  have h1 : (i 1).val < 256 := (i 1).isLt
  have z : ∀ u, val_main_cst (F := Ideal) u = 0 := fun _ => Ideal.ofBits_zero_f32
  have row : ∀ j : S4x256x2048.Idx, val_main_v0 (F := Ideal) x0 j = get x0 (j 0).val (j 1).val (j 2).val := fun j => by
    rw [val_main_v0_apply]; exact get_eq x0 _ _ _ _ rfl rfl rfl
  rw [val_main_v21_apply, val_main_v18_apply, val_main_v13_apply, val_main_v10_apply, val_main_v9_apply, val_main_v8_apply,
    val_main_v7_apply, val_main_v5_apply, val_main_v3_apply, val_main_v2_apply, z, zero_add, val_main_v12_apply, val_main_v11_apply,
    val_main_v17_apply, val_main_v16_apply, val_main_v15_apply, val_main_v20_apply, val_main_v19_apply]
  unfold modulated shifted normed
  rw [if_pos h1, if_pos h1]
  refine congrArg₂ (· + ·) (congrArg₂ (· * ·) (congrArg₂ (· * ·) (congrArg₂ (· * ·) (row i) ?_) ?_) (congrArg₂ (· + ·) ?_ ?_)) ?_
  · refine congrArg Ideal.rsqrt (congrArg₂ (· + ·) (congrArg₂ Ideal.div ?_ ?_) ?_)
    · refine Finset.sum_congr rfl fun k _ => ?_
      rw [val_main_v1_apply, row]
      rfl
    · rw [val_main_v4_apply]; rfl
    · rw [val_main_v6_apply]; rfl
  · exact get1_eq x1 _ _ rfl
  · rw [val_main_v14_apply]; rfl
  · exact get1_eq x4 _ _ rfl
  · exact get1_eq x5 _ _ rfl

/-- The latent's rows. -/
theorem latent (i : S4x4096x2048.Idx) : val_main_v43 (F := Ideal) x0 x1 x2 x3 i
    = modulated x0 x1 x2 x3 x4 x5 (i 0).val (256 + (i 1).val) (i 2).val := by
  have h1 : ¬256 + (i 1).val < 256 := by omega
  have z : ∀ u, val_main_cst_3 (F := Ideal) u = 0 := fun _ => Ideal.ofBits_zero_f32
  have row : ∀ j : S4x4096x2048.Idx, val_main_v22 (F := Ideal) x0 j = get x0 (j 0).val (256 + (j 1).val) (j 2).val := fun j => by
    rw [val_main_v22_apply]; exact get_eq x0 _ _ _ _ rfl rfl rfl
  rw [val_main_v43_apply, val_main_v40_apply, val_main_v35_apply, val_main_v32_apply, val_main_v31_apply, val_main_v30_apply,
    val_main_v29_apply, val_main_v27_apply, val_main_v25_apply, val_main_v24_apply, z, zero_add, val_main_v34_apply, val_main_v33_apply,
    val_main_v39_apply, val_main_v38_apply, val_main_v36_apply, val_main_v42_apply, val_main_v41_apply]
  unfold modulated shifted normed
  rw [if_neg h1, if_neg h1]
  refine congrArg₂ (· + ·) (congrArg₂ (· * ·) (congrArg₂ (· * ·) (congrArg₂ (· * ·) (row i) ?_) ?_) (congrArg₂ (· + ·) ?_ ?_)) ?_
  · refine congrArg Ideal.rsqrt (congrArg₂ (· + ·) (congrArg₂ Ideal.div ?_ ?_) ?_)
    · refine Finset.sum_congr rfl fun k _ => ?_
      rw [val_main_v23_apply, row]
      rfl
    · rw [val_main_v26_apply]; rfl
    · rw [val_main_v28_apply]; rfl
  · exact get1_eq x1 _ _ rfl
  · rw [val_main_v37_apply]; rfl
  · exact get2_eq x2 _ _ _ rfl rfl
  · exact get2_eq x3 _ _ _ rfl rfl

/-- All the rows. -/
theorem row_at (i : S4x4352x2048.Idx) : val_main_v44 (F := Ideal) x0 x1 x2 x3 x4 x5 i
    = modulated x0 x1 x2 x3 x4 x5 (i 0).val (i 1).val (i 2).val := by
  have h1 : (i 1).val < 4352 := (i 1).isLt
  unfold val_main_v44
  by_cases h : (i 1).val < 256
  · refine (concatenate_pair_apply_left (t := S4x4352x2048) (s₁ := S4x256x2048) (s₂ := S4x4096x2048) _ _ _ _ i rfl (ix3 (n0 := 4) (n1 := 256) (n2 := 2048) (i 0) ⟨(i 1).val, h⟩ (i 2)) ?_).trans ?_
    · intro b
      match b with
      | ⟨0, _⟩ => rfl
      | ⟨1, _⟩ => rfl
      | ⟨2, _⟩ => rfl
    · exact context x0 x1 x2 x3 x4 x5 _
  · refine (concatenate_pair_apply_right (t := S4x4352x2048) (s₁ := S4x256x2048) (s₂ := S4x4096x2048) _ _ _ _ i rfl rfl (ix3 (n0 := 4) (n1 := 4096) (n2 := 2048) (i 0) ⟨(i 1).val - 256, by omega⟩ (i 2)) ?_ ?_).trans ?_
    · intro b hb
      match b with
      | ⟨0, _⟩ => rfl
      | ⟨1, _⟩ => exact absurd rfl hb
      | ⟨2, _⟩ => rfl
    · show (i 1).val - 256 + 256 = (i 1).val
      omega
    · refine (latent x0 x1 x2 x3 x4 x5 _).trans ?_
      exact congrArg (fun t => modulated x0 x1 x2 x3 x4 x5 (i 0).val t (i 2).val) (show 256 + ((i 1).val - 256) = (i 1).val by omega)

/-- All the weights of the layer `l`, when the two parts are its slices. -/
theorem weights (l : ℕ) (a : S1024x2048.Idx → EReal) (b : S13312x2048.Idx → EReal) (ha : ∀ j, a j = get x6 l (j 0).val (j 1).val)
    (hb : ∀ j, b j = get x7 l (j 0).val (j 1).val) (h : Shape.Concatenates [S1024x2048, S13312x2048] S14336x2048 0) (i : S14336x2048.Idx) :
    concatenate (α := EReal) S14336x2048 0 [⟨S1024x2048, a⟩, ⟨S13312x2048, b⟩] h i = column l x6 x7 (i 0).val (i 1).val := by
  have h0 : (i 0).val < 14336 := (i 0).isLt
  unfold column
  by_cases h : (i 0).val < 1024
  · refine (concatenate_pair_apply_left (t := S14336x2048) (s₁ := S1024x2048) (s₂ := S13312x2048) _ _ _ _ i rfl (ix2 (n0 := 1024) (n1 := 2048) ⟨(i 0).val, h⟩ (i 1)) ?_).trans ?_
    · intro b
      match b with
      | ⟨0, _⟩ => rfl
      | ⟨1, _⟩ => rfl
    · rw [if_pos h, ha]
  · refine (concatenate_pair_apply_right (t := S14336x2048) (s₁ := S1024x2048) (s₂ := S13312x2048) _ _ _ _ i rfl rfl (ix2 (n0 := 13312) (n1 := 2048) ⟨(i 0).val - 1024, by omega⟩ (i 1)) ?_ ?_).trans ?_
    · intro b hb
      match b with
      | ⟨0, _⟩ => exact absurd rfl hb
      | ⟨1, _⟩ => rfl
    · show (i 0).val - 1024 + 1024 = (i 0).val
      omega
    · rw [if_neg h, hb]

/-- A modulated row times a weight row of the layer `l`. -/
theorem products (l : ℕ) (w : S14336x2048.Idx → EReal) (hw : ∀ i, w i = column l x6 x7 (i 0).val (i 1).val) (i : S4x4352x14336.Idx) :
    ∑ k : Fin 2048, val_main_v44 (F := Ideal) x0 x1 x2 x3 x4 x5 (lidx_main_v51 i k) * w (ridx_main_v51 i k)
      = inproj l x0 x1 x2 x3 x4 x5 x6 x7 (i 0).val (i 1).val (i 2).val := by
  unfold inproj
  refine Finset.sum_congr rfl fun k _ => ?_
  rw [row_at x0 x1 x2 x3 x4 x5 (lidx_main_v51 i k), hw]

/-- The first layer's reference. -/
theorem result_apply (i : S4x4352x14336.Idx) : val_main_v52 (F := Ideal) x0 x1 x2 x3 x4 x5 x6 x7 i
    = inproj 0 x0 x1 x2 x3 x4 x5 x6 x7 (i 0).val (i 1).val (i 2).val := by
  rw [val_main_v52_apply]
  refine Eq.trans (b := val_main_v51 (F := Ideal) x0 x1 x2 x3 x4 x5 x6 x7 i) rfl ?_
  rw [val_main_v51_apply]
  refine products x0 x1 x2 x3 x4 x5 x6 x7 0 (val_main_v50 (F := Ideal) x6 x7)
    (weights x6 x7 0 (val_main_v46 (F := Ideal) x6) (val_main_v48 (F := Ideal) x7) (fun j => ?_) (fun j => ?_) Facts₀.concatenates_S1024x2048_S13312x2048_S14336x2048_d0) i
  · rw [val_main_v46_apply, val_main_v45_apply]
    refine get_eq x6 _ _ _ _ ?_ ?_ ?_ <;> simp <;> omega
  · rw [val_main_v48_apply, val_main_v47_apply]
    refine get_eq x7 _ _ _ _ ?_ ?_ ?_ <;> simp <;> omega

end Cert.Reference5Ideal.Hand

end
-- ==== Proof.Inproj.lean ====
/- The claims about the first layer's input projection. -/
module

public import proofs.«01_k».proof.Defs
public import proofs.«01_k».proof.Proof.InAny
public import proofs.«01_k».proof.Proof.InArray
public import proofs.«01_k».proof.Proof.RefInproj
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import Idealize.ShloMosaic.Lib.Quiescent

@[expose] public section

set_option maxRecDepth 16384

noncomputable section

open Idealize.ShloMosaic Idealize.ShloMosaic.TcCoe Idealize.SL.Sem

namespace Cert.Proof.Inproj

open Cert.Mla Cert.Kernel5Ideal.Hand

variable {F : FTy → Type} [FloatOps F]

/-- The windows are the first layer's. -/
theorem windows : Cert.Kernel5Ideal.win0 = winL 0 := funext fun w => by fin_cases w <;> rfl

theorem table : Cert.Kernel5Ideal.defs₀ (F := F) = tableOf Cert.Kernel5Ideal.win0 (nbuf_of windows) Cert.Kernel5Ideal.cc0_inproj := by
  refine congrArg Defs.onTc (funext fun ℓ => funext fun x => ?_)
  match ℓ, x with
  | ⟨0, _⟩, (_, _) => rfl

/-- The run, over any floats. -/
theorem run (m : (ℓ : Loc Cert.Kernel5Ideal.nD Cert.Kernel5Ideal.τ Cert.Kernel5Ideal.sig) → Buf (Elt F) ℓ) (ρ : Dev Cert.Kernel5Ideal.nD → PrngReg) :
    θ_run Cert.Kernel5Ideal.defs (onTc (τ := Cert.Kernel5Ideal.τ) (Cert.Kernel5Ideal.main (F := F))) ⟨m, fun _ => 0, ρ⟩ (Ends 0 m) := by
  unfold Cert.Kernel5Ideal.defs
  rw [table]
  exact run_any 0 m ρ Cert.Kernel5Ideal.win0 windows Cert.Kernel5Ideal.cc0_inproj HEq.rfl Cert.Kernel5Ideal.main Cert.Kernel5Ideal.Gen.main_chain

/-- The two prints of the kernel are the same program. -/
theorem prints : Cert.Kernel5.defs (F := Bits) = Cert.Kernel5Ideal.defs (F := Bits) := by
  refine congrArg (Pipeline.defs (Cert.Kernel5Ideal.pcfgs (F := Bits))) (congrArg Defs.onTc (funext fun l => funext fun x => ?_))
  match l, x with
  | ⟨0, _⟩, (_, _) => rfl

theorem frame_pi : Cert.quiescent_Kernel5Ideal := fun m ρ _ =>
  (θ_run Cert.Kernel5Ideal.defs _ _).mono (fun _ h => ⟨fun c => (h.1 c).2, h.2⟩) (run m ρ)

theorem frame_p : Cert.quiescent_Kernel5 := fun m ρ _ => by
  rw [prints]
  exact (θ_run (Cert.Kernel5Ideal.defs (F := Bits)) _ _).mono (fun _ h => ⟨fun c => (h.1 c).2, h.2⟩) (run (F := Bits) m ρ)

theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' hpre hagree
  refine ⟨_, (θ_run Cert.Kernel5Ideal.defs _ _).mono (fun _ h => h.1) (run (F := Ideal) m ρ), ?_⟩
  refine (θ_run Cert.Reference5Ideal.defs _ _).mono (fun _ h c => ⟨(h c).1.trans ?_, (h c).2⟩)
    (Cert.Reference5Ideal.Value.run (F := Ideal) m' ρ')
  rw [Cert.Reference5Ideal.Read.val_main_v52_eq]
  refine Eq.trans ?_ (final 0 m c).symm
  obtain ⟨a0, a1, a2, a3, a4, a5, a6, a7⟩ := hagree c
  rw [a0, a1, a2, a3, a4, a5, a6, a7]
  exact funext fun i => Cert.Reference5Ideal.Hand.result_apply _ _ _ _ _ _ _ _ i

end Cert.Proof.Inproj

end
-- ==== Proof.Inproj1.lean ====
/- The input projection of the second layer: its program is the first layer's with the weights' windows one layer on. -/
module

public import proofs.«01_k».proof.Defs
public import proofs.«01_k».proof.Proof.InAny
public import proofs.«01_k».proof.Proof.InArray
public import proofs.«01_k».proof.Proof.RefInproj
public import proofs.«01_k».proof.Proof.Gen.Kernel6
public import proofs.«01_k».proof.Proof.Gen.Kernel6Ideal
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Proof.Inproj1

open Idealize.ShloMosaic Idealize.ShloMosaic.TcCoe Idealize.SL.Sem
open Cert.Mla Cert.Kernel6Ideal Cert.Kernel5Ideal.Hand Cert.Reference6Ideal.Read

variable {F : FTy → Type} [FloatOps F]

/-- The windows are the layer's. -/
theorem windows : Cert.Kernel6Ideal.win0 = winL 1 := funext fun w => by fin_cases w <;> rfl

/-- The body is the first layer's. -/
theorem body (e : Cert.Kernel6Ideal.Λ₀ = Cert.Kernel5Ideal.Λ₀) :
    HEq (Cert.Kernel6Ideal.cc0_inproj (F := F)) (Cert.Kernel5Ideal.cc0_inproj (F := F)) := by
  unfold Cert.Kernel6Ideal.cc0_inproj Cert.Kernel6Ideal.k0_part1 Cert.Kernel6Ideal.k0_part2
    Cert.Kernel5Ideal.cc0_inproj Cert.Kernel5Ideal.k0_part1 Cert.Kernel5Ideal.k0_part2
  revert e
  generalize Cert.Kernel6Ideal.Λ₀ = A
  generalize Cert.Kernel5Ideal.Λ₀ = B
  rintro rfl
  rfl

theorem table : Cert.Kernel6Ideal.defs₀ (F := F) = tableOf Cert.Kernel6Ideal.win0 (nbuf_of windows) Cert.Kernel6Ideal.cc0_inproj := by
  refine congrArg Defs.onTc (funext fun ℓ => funext fun x => ?_)
  match ℓ, x with
  | ⟨0, _⟩, (_, _) => rfl

/-- The run, over any floats. -/
theorem run (m : (ℓ : Loc Cert.Kernel6Ideal.nD Cert.Kernel6Ideal.τ Cert.Kernel6Ideal.sig) → Buf (Elt F) ℓ) (ρ : Dev Cert.Kernel6Ideal.nD → PrngReg) :
    θ_run Cert.Kernel6Ideal.defs (onTc (τ := Cert.Kernel6Ideal.τ) (Cert.Kernel6Ideal.main (F := F))) ⟨m, fun _ => 0, ρ⟩ (Ends 1 m) := by
  unfold Cert.Kernel6Ideal.defs
  rw [table]
  exact run_any 1 m ρ Cert.Kernel6Ideal.win0 windows Cert.Kernel6Ideal.cc0_inproj (body (lamOf_eq windows)) Cert.Kernel6Ideal.main
    Cert.Kernel6Ideal.Gen.main_chain

/-- The two prints of the kernel are the same program. -/
theorem prints : Cert.Kernel6.defs (F := Bits) = Cert.Kernel6Ideal.defs (F := Bits) := by
  refine congrArg (Pipeline.defs (Cert.Kernel6Ideal.pcfgs (F := Bits))) (congrArg Defs.onTc (funext fun l => funext fun x => ?_))
  match l, x with
  | ⟨0, _⟩, (_, _) => rfl

theorem frame_pi : Cert.quiescent_Kernel6Ideal := fun m ρ _ =>
  (θ_run Cert.Kernel6Ideal.defs _ _).mono (fun _ h => ⟨fun c => (h.1 c).2, h.2⟩) (run m ρ)

theorem frame_p : Cert.quiescent_Kernel6 := fun m ρ _ => by
  rw [prints]
  exact (θ_run (Cert.Kernel6Ideal.defs (F := Bits)) _ _).mono (fun _ h => ⟨fun c => (h.1 c).2, h.2⟩) (run (F := Bits) m ρ)

theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The layer's reference: the first layer's rows, and the layer's slices of the weights. -/
theorem result_apply (x0 : (⟨3, ![4, 4352, 2048]⟩ : Shape).Idx → EReal) (x1 : (⟨1, ![2048]⟩ : Shape).Idx → EReal)
    (x2 x3 : (⟨2, ![4, 2048]⟩ : Shape).Idx → EReal) (x4 x5 : (⟨1, ![2048]⟩ : Shape).Idx → EReal)
    (x6 : (⟨3, ![4, 1024, 2048]⟩ : Shape).Idx → EReal) (x7 : (⟨3, ![4, 13312, 2048]⟩ : Shape).Idx → EReal)
    (i : Cert.Reference6Ideal.S4x4352x14336.Idx) : val_main_v52 (F := Ideal) x0 x1 x2 x3 x4 x5 x6 x7 i
    = inproj 1 x0 x1 x2 x3 x4 x5 x6 x7 (i 0).val (i 1).val (i 2).val := by
  rw [val_main_v52_apply]
  refine Eq.trans (b := val_main_v51 (F := Ideal) x0 x1 x2 x3 x4 x5 x6 x7 i) rfl ?_
  rw [val_main_v51_apply]
  refine Cert.Reference5Ideal.Hand.products x0 x1 x2 x3 x4 x5 x6 x7 1 (val_main_v50 (F := Ideal) x6 x7)
    (Cert.Reference5Ideal.Hand.weights x6 x7 1 (val_main_v46 (F := Ideal) x6) (val_main_v48 (F := Ideal) x7) (fun j => ?_) (fun j => ?_) Cert.Reference6Ideal.Facts₀.concatenates_S1024x2048_S13312x2048_S14336x2048_d0) i
  · rw [val_main_v46_apply, val_main_v45_apply]
    refine get_eq x6 _ _ _ _ ?_ ?_ ?_ <;> simp <;> omega
  · rw [val_main_v48_apply, val_main_v47_apply]
    refine get_eq x7 _ _ _ _ ?_ ?_ ?_ <;> simp <;> omega

theorem algebraic : Cert.algebraic_Kernel6Ideal_Reference6Ideal := by
  intro m ρ m' ρ' hpre hagree
  refine ⟨_, (θ_run Cert.Kernel6Ideal.defs _ _).mono (fun _ h => h.1) (run (F := Ideal) m ρ), ?_⟩
  refine (θ_run Cert.Reference6Ideal.defs _ _).mono (fun _ h c => ⟨(h c).1.trans ?_, (h c).2⟩)
    (Cert.Reference6Ideal.Value.run (F := Ideal) m' ρ')
  rw [Cert.Reference6Ideal.Read.val_main_v52_eq]
  refine Eq.trans ?_ (final 1 m c).symm
  obtain ⟨a0, a1, a2, a3, a4, a5, a6, a7⟩ := hagree c
  rw [a0, a1, a2, a3, a4, a5, a6, a7]
  exact funext fun i => result_apply _ _ _ _ _ _ _ _ i

end Cert.Proof.Inproj1

end
-- ==== Proof.Inproj2.lean ====
/- The input projection of the third layer: its program is the first layer's with the weights' windows two layers on. -/
module

public import proofs.«01_k».proof.Defs
public import proofs.«01_k».proof.Proof.InAny
public import proofs.«01_k».proof.Proof.InArray
public import proofs.«01_k».proof.Proof.RefInproj
public import proofs.«01_k».proof.Proof.Gen.Kernel7
public import proofs.«01_k».proof.Proof.Gen.Kernel7Ideal
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Reference7Ideal.Read
public import Idealize.ShloMosaic.Lib.Quiescent

@[expose] public section

set_option maxRecDepth 16384

noncomputable section

namespace Cert.Proof.Inproj2

open Idealize.ShloMosaic Idealize.ShloMosaic.TcCoe Idealize.SL.Sem
open Cert.Mla Cert.Kernel7Ideal Cert.Kernel5Ideal.Hand Cert.Reference7Ideal.Read

variable {F : FTy → Type} [FloatOps F]

/-- The windows are the layer's. -/
theorem windows : Cert.Kernel7Ideal.win0 = winL 2 := funext fun w => by fin_cases w <;> rfl

/-- The body is the first layer's. -/
theorem body (e : Cert.Kernel7Ideal.Λ₀ = Cert.Kernel5Ideal.Λ₀) :
    HEq (Cert.Kernel7Ideal.cc0_inproj (F := F)) (Cert.Kernel5Ideal.cc0_inproj (F := F)) := by
  unfold Cert.Kernel7Ideal.cc0_inproj Cert.Kernel7Ideal.k0_part1 Cert.Kernel7Ideal.k0_part2
    Cert.Kernel5Ideal.cc0_inproj Cert.Kernel5Ideal.k0_part1 Cert.Kernel5Ideal.k0_part2
  revert e
  generalize Cert.Kernel7Ideal.Λ₀ = A
  generalize Cert.Kernel5Ideal.Λ₀ = B
  rintro rfl
  rfl

theorem table : Cert.Kernel7Ideal.defs₀ (F := F) = tableOf Cert.Kernel7Ideal.win0 (nbuf_of windows) Cert.Kernel7Ideal.cc0_inproj := by
  refine congrArg Defs.onTc (funext fun ℓ => funext fun x => ?_)
  match ℓ, x with
  | ⟨0, _⟩, (_, _) => rfl

/-- The run, over any floats. -/
theorem run (m : (ℓ : Loc Cert.Kernel7Ideal.nD Cert.Kernel7Ideal.τ Cert.Kernel7Ideal.sig) → Buf (Elt F) ℓ) (ρ : Dev Cert.Kernel7Ideal.nD → PrngReg) :
    θ_run Cert.Kernel7Ideal.defs (onTc (τ := Cert.Kernel7Ideal.τ) (Cert.Kernel7Ideal.main (F := F))) ⟨m, fun _ => 0, ρ⟩ (Ends 2 m) := by
  unfold Cert.Kernel7Ideal.defs
  rw [table]
  exact run_any 2 m ρ Cert.Kernel7Ideal.win0 windows Cert.Kernel7Ideal.cc0_inproj (body (lamOf_eq windows)) Cert.Kernel7Ideal.main
    Cert.Kernel7Ideal.Gen.main_chain

/-- The two prints of the kernel are the same program. -/
theorem prints : Cert.Kernel7.defs (F := Bits) = Cert.Kernel7Ideal.defs (F := Bits) := by
  refine congrArg (Pipeline.defs (Cert.Kernel7Ideal.pcfgs (F := Bits))) (congrArg Defs.onTc (funext fun l => funext fun x => ?_))
  match l, x with
  | ⟨0, _⟩, (_, _) => rfl

theorem frame_pi : Cert.quiescent_Kernel7Ideal := fun m ρ _ =>
  (θ_run Cert.Kernel7Ideal.defs _ _).mono (fun _ h => ⟨fun c => (h.1 c).2, h.2⟩) (run m ρ)

theorem frame_p : Cert.quiescent_Kernel7 := fun m ρ _ => by
  rw [prints]
  exact (θ_run (Cert.Kernel7Ideal.defs (F := Bits)) _ _).mono (fun _ h => ⟨fun c => (h.1 c).2, h.2⟩) (run (F := Bits) m ρ)

theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The layer's reference: the first layer's rows, and the layer's slices of the weights. -/
theorem result_apply (x0 : (⟨3, ![4, 4352, 2048]⟩ : Shape).Idx → EReal) (x1 : (⟨1, ![2048]⟩ : Shape).Idx → EReal)
    (x2 x3 : (⟨2, ![4, 2048]⟩ : Shape).Idx → EReal) (x4 x5 : (⟨1, ![2048]⟩ : Shape).Idx → EReal)
    (x6 : (⟨3, ![4, 1024, 2048]⟩ : Shape).Idx → EReal) (x7 : (⟨3, ![4, 13312, 2048]⟩ : Shape).Idx → EReal)
    (i : Cert.Reference7Ideal.S4x4352x14336.Idx) : val_main_v52 (F := Ideal) x0 x1 x2 x3 x4 x5 x6 x7 i
    = inproj 2 x0 x1 x2 x3 x4 x5 x6 x7 (i 0).val (i 1).val (i 2).val := by
  rw [val_main_v52_apply]
  refine Eq.trans (b := val_main_v51 (F := Ideal) x0 x1 x2 x3 x4 x5 x6 x7 i) rfl ?_
  rw [val_main_v51_apply]
  refine Cert.Reference5Ideal.Hand.products x0 x1 x2 x3 x4 x5 x6 x7 2 (val_main_v50 (F := Ideal) x6 x7)
    (Cert.Reference5Ideal.Hand.weights x6 x7 2 (val_main_v46 (F := Ideal) x6) (val_main_v48 (F := Ideal) x7) (fun j => ?_) (fun j => ?_) Cert.Reference7Ideal.Facts₀.concatenates_S1024x2048_S13312x2048_S14336x2048_d0) i
  · rw [val_main_v46_apply, val_main_v45_apply]
    refine get_eq x6 _ _ _ _ ?_ ?_ ?_ <;> simp <;> omega
  · rw [val_main_v48_apply, val_main_v47_apply]
    refine get_eq x7 _ _ _ _ ?_ ?_ ?_ <;> simp <;> omega

theorem algebraic : Cert.algebraic_Kernel7Ideal_Reference7Ideal := by
  intro m ρ m' ρ' hpre hagree
  refine ⟨_, (θ_run Cert.Kernel7Ideal.defs _ _).mono (fun _ h => h.1) (run (F := Ideal) m ρ), ?_⟩
  refine (θ_run Cert.Reference7Ideal.defs _ _).mono (fun _ h c => ⟨(h c).1.trans ?_, (h c).2⟩)
    (Cert.Reference7Ideal.Value.run (F := Ideal) m' ρ')
  rw [Cert.Reference7Ideal.Read.val_main_v52_eq]
  refine Eq.trans ?_ (final 2 m c).symm
  obtain ⟨a0, a1, a2, a3, a4, a5, a6, a7⟩ := hagree c
  rw [a0, a1, a2, a3, a4, a5, a6, a7]
  exact funext fun i => result_apply _ _ _ _ _ _ _ _ i

end Cert.Proof.Inproj2

end
-- ==== Proof.Inproj3.lean ====
/- The input projection of the fourth layer: its program is the first layer's with the weights' windows three layers on. -/
module

public import proofs.«01_k».proof.Defs
public import proofs.«01_k».proof.Proof.InAny
public import proofs.«01_k».proof.Proof.InArray
public import proofs.«01_k».proof.Proof.RefInproj
public import proofs.«01_k».proof.Proof.Gen.Kernel8
public import proofs.«01_k».proof.Proof.Gen.Kernel8Ideal
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Reference8Ideal.Read
public import Idealize.ShloMosaic.Lib.Quiescent

@[expose] public section

set_option maxRecDepth 16384

noncomputable section

namespace Cert.Proof.Inproj3

open Idealize.ShloMosaic Idealize.ShloMosaic.TcCoe Idealize.SL.Sem
open Cert.Mla Cert.Kernel8Ideal Cert.Kernel5Ideal.Hand Cert.Reference8Ideal.Read

variable {F : FTy → Type} [FloatOps F]

/-- The windows are the layer's. -/
theorem windows : Cert.Kernel8Ideal.win0 = winL 3 := funext fun w => by fin_cases w <;> rfl

/-- The body is the first layer's. -/
theorem body (e : Cert.Kernel8Ideal.Λ₀ = Cert.Kernel5Ideal.Λ₀) :
    HEq (Cert.Kernel8Ideal.cc0_inproj (F := F)) (Cert.Kernel5Ideal.cc0_inproj (F := F)) := by
  unfold Cert.Kernel8Ideal.cc0_inproj Cert.Kernel8Ideal.k0_part1 Cert.Kernel8Ideal.k0_part2
    Cert.Kernel5Ideal.cc0_inproj Cert.Kernel5Ideal.k0_part1 Cert.Kernel5Ideal.k0_part2
  revert e
  generalize Cert.Kernel8Ideal.Λ₀ = A
  generalize Cert.Kernel5Ideal.Λ₀ = B
  rintro rfl
  rfl

theorem table : Cert.Kernel8Ideal.defs₀ (F := F) = tableOf Cert.Kernel8Ideal.win0 (nbuf_of windows) Cert.Kernel8Ideal.cc0_inproj := by
  refine congrArg Defs.onTc (funext fun ℓ => funext fun x => ?_)
  match ℓ, x with
  | ⟨0, _⟩, (_, _) => rfl

/-- The run, over any floats. -/
theorem run (m : (ℓ : Loc Cert.Kernel8Ideal.nD Cert.Kernel8Ideal.τ Cert.Kernel8Ideal.sig) → Buf (Elt F) ℓ) (ρ : Dev Cert.Kernel8Ideal.nD → PrngReg) :
    θ_run Cert.Kernel8Ideal.defs (onTc (τ := Cert.Kernel8Ideal.τ) (Cert.Kernel8Ideal.main (F := F))) ⟨m, fun _ => 0, ρ⟩ (Ends 3 m) := by
  unfold Cert.Kernel8Ideal.defs
  rw [table]
  exact run_any 3 m ρ Cert.Kernel8Ideal.win0 windows Cert.Kernel8Ideal.cc0_inproj (body (lamOf_eq windows)) Cert.Kernel8Ideal.main
    Cert.Kernel8Ideal.Gen.main_chain

/-- The two prints of the kernel are the same program. -/
theorem prints : Cert.Kernel8.defs (F := Bits) = Cert.Kernel8Ideal.defs (F := Bits) := by
  refine congrArg (Pipeline.defs (Cert.Kernel8Ideal.pcfgs (F := Bits))) (congrArg Defs.onTc (funext fun l => funext fun x => ?_))
  match l, x with
  | ⟨0, _⟩, (_, _) => rfl

theorem frame_pi : Cert.quiescent_Kernel8Ideal := fun m ρ _ =>
  (θ_run Cert.Kernel8Ideal.defs _ _).mono (fun _ h => ⟨fun c => (h.1 c).2, h.2⟩) (run m ρ)

theorem frame_p : Cert.quiescent_Kernel8 := fun m ρ _ => by
  rw [prints]
  exact (θ_run (Cert.Kernel8Ideal.defs (F := Bits)) _ _).mono (fun _ h => ⟨fun c => (h.1 c).2, h.2⟩) (run (F := Bits) m ρ)

theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The layer's reference: the first layer's rows, and the layer's slices of the weights. -/
theorem result_apply (x0 : (⟨3, ![4, 4352, 2048]⟩ : Shape).Idx → EReal) (x1 : (⟨1, ![2048]⟩ : Shape).Idx → EReal)
    (x2 x3 : (⟨2, ![4, 2048]⟩ : Shape).Idx → EReal) (x4 x5 : (⟨1, ![2048]⟩ : Shape).Idx → EReal)
    (x6 : (⟨3, ![4, 1024, 2048]⟩ : Shape).Idx → EReal) (x7 : (⟨3, ![4, 13312, 2048]⟩ : Shape).Idx → EReal)
    (i : Cert.Reference8Ideal.S4x4352x14336.Idx) : val_main_v52 (F := Ideal) x0 x1 x2 x3 x4 x5 x6 x7 i
    = inproj 3 x0 x1 x2 x3 x4 x5 x6 x7 (i 0).val (i 1).val (i 2).val := by
  rw [val_main_v52_apply]
  refine Eq.trans (b := val_main_v51 (F := Ideal) x0 x1 x2 x3 x4 x5 x6 x7 i) rfl ?_
  rw [val_main_v51_apply]
  refine Cert.Reference5Ideal.Hand.products x0 x1 x2 x3 x4 x5 x6 x7 3 (val_main_v50 (F := Ideal) x6 x7)
    (Cert.Reference5Ideal.Hand.weights x6 x7 3 (val_main_v46 (F := Ideal) x6) (val_main_v48 (F := Ideal) x7) (fun j => ?_) (fun j => ?_) Cert.Reference8Ideal.Facts₀.concatenates_S1024x2048_S13312x2048_S14336x2048_d0) i
  · rw [val_main_v46_apply, val_main_v45_apply]
    refine get_eq x6 _ _ _ _ ?_ ?_ ?_ <;> simp <;> omega
  · rw [val_main_v48_apply, val_main_v47_apply]
    refine get_eq x7 _ _ _ _ ?_ ?_ ?_ <;> simp <;> omega

theorem algebraic : Cert.algebraic_Kernel8Ideal_Reference8Ideal := by
  intro m ρ m' ρ' hpre hagree
  refine ⟨_, (θ_run Cert.Kernel8Ideal.defs _ _).mono (fun _ h => h.1) (run (F := Ideal) m ρ), ?_⟩
  refine (θ_run Cert.Reference8Ideal.defs _ _).mono (fun _ h c => ⟨(h c).1.trans ?_, (h c).2⟩)
    (Cert.Reference8Ideal.Value.run (F := Ideal) m' ρ')
  rw [Cert.Reference8Ideal.Read.val_main_v52_eq]
  refine Eq.trans ?_ (final 3 m c).symm
  obtain ⟨a0, a1, a2, a3, a4, a5, a6, a7⟩ := hagree c
  rw [a0, a1, a2, a3, a4, a5, a6, a7]
  exact funext fun i => result_apply _ _ _ _ _ _ _ _ i

end Cert.Proof.Inproj3

end
-- ==== Proof.lean ====
/- Every claim of the certificate, put together. -/
module

public import proofs.«01_k».proof.Defs
public import proofs.«01_k».proof.Proof.Attention
public import proofs.«01_k».proof.Proof.FinalProjection
public import proofs.«01_k».proof.Proof.Projection
public import proofs.«01_k».proof.Proof.Projection1
public import proofs.«01_k».proof.Proof.Projection2
public import proofs.«01_k».proof.Proof.Merge
public import proofs.«01_k».proof.Proof.Merge1
public import proofs.«01_k».proof.Proof.Merge2
public import proofs.«01_k».proof.Proof.Merge3
public import proofs.«01_k».proof.Proof.Inproj
public import proofs.«01_k».proof.Proof.Inproj1
public import proofs.«01_k».proof.Proof.Inproj2
public import proofs.«01_k».proof.Proof.Inproj3
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.Pre_finite4
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts, Cert.Pre_finite4.Gen.facts,
    Attention.frame_p, Attention.frame_pi, Attention.frame_pi_finite, Attention.frame_ri, Attention.frame_ri_finite,
    FinalProjection.frame_p, FinalProjection.frame_pi, FinalProjection.frame_ri,
    Projection.frame_p, Projection.frame_pi, Projection.frame_ri,
    Merge.frame_p, Merge.frame_pi, Merge.frame_pi_finite, Merge.frame_ri, Merge.frame_ri_finite,
    Inproj.frame_p, Inproj.frame_pi, Inproj.frame_ri,
    Inproj1.frame_p, Inproj1.frame_pi, Inproj1.frame_ri,
    Inproj2.frame_p, Inproj2.frame_pi, Inproj2.frame_ri,
    Inproj3.frame_p, Inproj3.frame_pi, Inproj3.frame_ri,
    Projection1.frame_p, Projection1.frame_pi, Projection1.frame_ri,
    Projection2.frame_p, Projection2.frame_pi, Projection2.frame_ri,
    Merge1.frame_p, Merge1.frame_pi, Merge1.frame_pi_finite, Merge1.frame_ri, Merge1.frame_ri_finite,
    Merge2.frame_p, Merge2.frame_pi, Merge2.frame_pi_finite, Merge2.frame_ri, Merge2.frame_ri_finite,
    Merge3.frame_p, Merge3.frame_pi, Merge3.frame_pi_finite, Merge3.frame_ri, Merge3.frame_ri_finite,
    trivial, Attention.algebraic, trivial, FinalProjection.algebraic, trivial, Projection.algebraic,
    trivial, Merge.algebraic, trivial, Inproj.algebraic,
    trivial, Inproj1.algebraic, trivial, Inproj2.algebraic, trivial, Inproj3.algebraic,
    trivial, Projection1.algebraic, trivial, Projection2.algebraic,
    trivial, Merge1.algebraic, trivial, Merge2.algebraic, trivial, Merge3.algebraic⟩

end Cert.Proof

end
